-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norms_finite [hPre_norms_finite : Cert.Pre_norms_finite.Facts] (m : (ℓ : Loc Cert.KernelIdeal.nD Cert.KernelIdeal.τ Cert.KernelIdeal.sig) → Buf (Elt Ideal) ℓ) : Prop :=
  ∀ c : Dev Cert.KernelIdeal.nD,
    (Cert.Pre_norms_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norms_finite [hPre_norms_finite : Cert.Pre_norms_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norms_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_norms_finite [hKernelIdeal : Cert.KernelIdeal.Facts] [hPre_norms_finite : Cert.Pre_norms_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norms_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_norms_finite [hReferenceIdeal : Cert.ReferenceIdeal.Facts] [hPre_norms_finite : Cert.Pre_norms_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norms_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_norms_finite [hKernelIdeal : Cert.KernelIdeal.Facts] [hReferenceIdeal : Cert.ReferenceIdeal.Facts] [hPre_norms_finite : Cert.Pre_norms_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norms_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v258)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v258) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_norms_finite : Cert.Pre_norms_finite.Facts),
    quiescent_Kernel (hKernel := hKernel)
    ∧ quiescent_KernelIdeal (hKernelIdeal := hKernelIdeal)
    ∧ quiescent_KernelIdeal_pre_norms_finite (hKernelIdeal := hKernelIdeal) (hPre_norms_finite := hPre_norms_finite)
    ∧ quiescent_ReferenceIdeal (hReferenceIdeal := hReferenceIdeal)
    ∧ quiescent_ReferenceIdeal_pre_norms_finite (hReferenceIdeal := hReferenceIdeal) (hPre_norms_finite := hPre_norms_finite)
    ∧ preserves_Kernel_KernelIdeal
    ∧ algebraic_KernelIdeal_ReferenceIdeal_pre_norms_finite (hKernelIdeal := hKernelIdeal) (hReferenceIdeal := hReferenceIdeal) (hPre_norms_finite := hPre_norms_finite)
-- ==== Pre_norms_finite.lean ====
abbrev S2x64x256x256 : Shape := ⟨4, ![2, 64, 256, 256]⟩
abbrev S27x64x3x3 : Shape := ⟨4, ![27, 64, 3, 3]⟩
abbrev S27 : Shape := ⟨1, ![27]⟩
abbrev S64x64x3x3 : Shape := ⟨4, ![64, 64, 3, 3]⟩
abbrev S64 : Shape := ⟨1, ![64]⟩
abbrev S1x64x3x3 : Shape := ⟨4, ![1, 64, 3, 3]⟩
abbrev S1 : Shape := ⟨1, ![1]⟩
abbrev S_ : Shape := ⟨0, ![]⟩

class Facts : Prop where
  bcast_S_S64 : S_.BroadcastsInDim S64 (![] : Fin 0 → Fin S64.rank)

variable [Facts]

def fn_part2 {F : FTy → Type} [FloatOps F] (main_arg20 : FVec F S64 .f32) (main_v28 : IVec S64 1) (main_v35 : IVec S64 1) (main_v36 : FVec F S64 .f32) (main_cst_9 : FVec F S_ .f32) : IVec S64 1 :=
  let main_v37 : FVec F S64 .f32 := broadcastInDim S64 ![] bcast_S_S64 main_cst_9
  let main_v38 : IVec S64 1 := cmpf .olt main_v36 main_v37
  let main_v39 : IVec S64 1 := andi main_v35 main_v38
  let main_cst_10 : FVec F S_ .f32 := constant S_ .f32 0x00000000#32
  let main_v40 : FVec F S64 .f32 := broadcastInDim S64 ![] bcast_S_S64 main_cst_10
  let main_v41 : IVec S64 1 := cmpf .oge main_arg20 main_v40
  let main_v42 : IVec S64 1 := andi main_v39 main_v41
  let main_v43 : IVec S64 1 := andi main_v28 main_v42
  main_v43

def fn_part1 {F : FTy → Type} [FloatOps F] (main_arg13 : FVec F S64 .f32) (main_arg14 : FVec F S64 .f32) (main_arg16 : FVec F S64 .f32) (main_arg17 : FVec F S64 .f32) (main_arg19 : FVec F S64 .f32) (main_arg20 : FVec F S64 .f32) (main_v13 : IVec S64 1) (main_v16 : IVec S64 1) (main_v17 : FVec F S64 .f32) (main_cst_4 : FVec F S_ .f32) : IVec S64 1 :=
  let main_v18 : FVec F S64 .f32 := broadcastInDim S64 ![] bcast_S_S64 main_cst_4
  let main_v19 : IVec S64 1 := cmpf .olt main_v17 main_v18
  let main_v20 : IVec S64 1 := andi main_v16 main_v19
  let main_v21 : FVec F S64 .f32 := Host.absf main_arg13
  let main_cst_5 : FVec F S_ .f32 := constant S_ .f32 0x7F800000#32
  let main_v22 : FVec F S64 .f32 := broadcastInDim S64 ![] bcast_S_S64 main_cst_5
  let main_v23 : IVec S64 1 := cmpf .olt main_v21 main_v22
  let main_v24 : IVec S64 1 := andi main_v20 main_v23
  let main_cst_6 : FVec F S_ .f32 := constant S_ .f32 0x00000000#32
  let main_v25 : FVec F S64 .f32 := broadcastInDim S64 ![] bcast_S_S64 main_cst_6
  let main_v26 : IVec S64 1 := cmpf .oge main_arg14 main_v25
  let main_v27 : IVec S64 1 := andi main_v24 main_v26
  let main_v28 : IVec S64 1 := andi main_v13 main_v27
  let main_v29 : FVec F S64 .f32 := Host.absf main_arg16
  let main_cst_7 : FVec F S_ .f32 := constant S_ .f32 0x7F800000#32
  let main_v30 : FVec F S64 .f32 := broadcastInDim S64 ![] bcast_S_S64 main_cst_7
  let main_v31 : IVec S64 1 := cmpf .olt main_v29 main_v30
  let main_v32 : FVec F S64 .f32 := Host.absf main_arg17
  let main_cst_8 : FVec F S_ .f32 := constant S_ .f32 0x7F800000#32
  let main_v33 : FVec F S64 .f32 := broadcastInDim S64 ![] bcast_S_S64 main_cst_8
  let main_v34 : IVec S64 1 := cmpf .olt main_v32 main_v33
  let main_v35 : IVec S64 1 := andi main_v31 main_v34
  let main_v36 : FVec F S64 .f32 := Host.absf main_arg19
  let main_cst_9 : FVec F S_ .f32 := constant S_ .f32 0x7F800000#32
  fn_part2 (F := F) main_arg20 main_v28 main_v35 main_v36 main_cst_9

def fn {F : FTy → Type} [FloatOps F] (main_arg0 : FVec F S2x64x256x256 .f32) (main_arg1 : FVec F S27x64x3x3 .f32) (main_arg2 : FVec F S27 .f32) (main_arg3 : FVec F S64x64x3x3 .f32) (main_arg4 : FVec F S64 .f32) (main_arg5 : FVec F S64 .f32) (main_arg6 : FVec F S64 .f32) (main_arg7 : FVec F S64 .f32) (main_arg8 : FVec F S64 .f32) (main_arg9 : FVec F S64x64x3x3 .f32) (main_arg10 : FVec F S64 .f32) (main_arg11 : FVec F S64 .f32) (main_arg12 : FVec F S64 .f32) (main_arg13 : FVec F S64 .f32) (main_arg14 : FVec F S64 .f32) (main_arg15 : FVec F S64x64x3x3 .f32) (main_arg16 : FVec F S64 .f32) (main_arg17 : FVec F S64 .f32) (main_arg18 : FVec F S64 .f32) (main_arg19 : FVec F S64 .f32) (main_arg20 : FVec F S64 .f32) (main_arg21 : FVec F S1x64x3x3 .f32) (main_arg22 : FVec F S1 .f32) : IVec S64 1 :=
  let main_v0 : FVec F S64 .f32 := Host.absf main_arg4
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg5
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : IVec S64 1 := andi main_v2 main_v5
  let main_v7 : FVec F S64 .f32 := Host.absf main_arg7
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : IVec S64 1 := andi main_v6 main_v9
  let main_cst_2 : FVec F S_ .f32 := constant S_ .f32 0x00000000#32
  let main_v11 : FVec F S64 .f32 := broadcastInDim S64 ![] bcast_S_S64 main_cst_2
  let main_v12 : IVec S64 1 := cmpf .oge main_arg8 main_v11
  let main_v13 : IVec S64 1 := andi main_v10 main_v12
  let main_v14 : FVec F S64 .f32 := Host.absf main_arg10
  let main_cst_3 : FVec F S_ .f32 := constant S_ .f32 0x7F800000#32
  let main_v15 : FVec F S64 .f32 := broadcastInDim S64 ![] bcast_S_S64 main_cst_3
  let main_v16 : IVec S64 1 := cmpf .olt main_v14 main_v15
  let main_v17 : FVec F S64 .f32 := Host.absf main_arg11
  let main_cst_4 : FVec F S_ .f32 := constant S_ .f32 0x7F800000#32
  fn_part1 (F := F) main_arg13 main_arg14 main_arg16 main_arg17 main_arg19 main_arg20 main_v13 main_v16 main_v17 main_cst_4
-- ==== Kernel.lean ====
abbrev S2x64x256x256 : Shape := ⟨4, ![2, 64, 256, 256]⟩
abbrev S27x64x3x3 : Shape := ⟨4, ![27, 64, 3, 3]⟩
abbrev S27 : Shape := ⟨1, ![27]⟩
abbrev S64x64x3x3 : Shape := ⟨4, ![64, 64, 3, 3]⟩
abbrev S64 : Shape := ⟨1, ![64]⟩
abbrev S1x64x3x3 : Shape := ⟨4, ![1, 64, 3, 3]⟩
abbrev S1 : Shape := ⟨1, ![1]⟩
abbrev S2x256x256x64 : Shape := ⟨4, ![2, 256, 256, 64]⟩
abbrev S_ : Shape := ⟨0, ![]⟩
abbrev S2x258x258x64 : Shape := ⟨4, ![2, 258, 258, 64]⟩
abbrev S3x3x64x27 : Shape := ⟨4, ![3, 3, 64, 27]⟩
abbrev S9x64x27 : Shape := ⟨3, ![9, 64, 27]⟩
abbrev S1x27 : Shape := ⟨2, ![1, 27]⟩
abbrev S2x66x258x64 : Shape := ⟨4, ![2, 66, 258, 64]⟩
abbrev S2x16384x27 : Shape := ⟨3, ![2, 16384, 27]⟩
abbrev S1x66x258x64 : Shape := ⟨4, ![1, 66, 258, 64]⟩
abbrev S1x16384x27 : Shape := ⟨3, ![1, 16384, 27]⟩
abbrev S8192x27 : Shape := ⟨2, ![8192, 27]⟩
abbrev S1x32x256x64 : Shape := ⟨4, ![1, 32, 256, 64]⟩
abbrev S32x256x64 : Shape := ⟨3, ![32, 256, 64]⟩
abbrev S8192x64 : Shape := ⟨2, ![8192, 64]⟩
abbrev S1x64x27 : Shape := ⟨3, ![1, 64, 27]⟩
abbrev S64x27 : Shape := ⟨2, ![64, 27]⟩
abbrev S1x8192x27 : Shape := ⟨3, ![1, 8192, 27]⟩
abbrev S2x65536x27 : Shape := ⟨3, ![2, 65536, 27]⟩
abbrev S2x65536x9 : Shape := ⟨3, ![2, 65536, 9]⟩
abbrev S2x9x65536 : Shape := ⟨3, ![2, 9, 65536]⟩
abbrev S3 : Shape := ⟨1, ![3]⟩
abbrev S3x3 : Shape := ⟨2, ![3, 3]⟩
abbrev S9 : Shape := ⟨1, ![9]⟩
abbrev S1x3 : Shape := ⟨2, ![1, 3]⟩
abbrev S65536 : Shape := ⟨1, ![65536]⟩
abbrev S1x1x65536 : Shape := ⟨3, ![1, 1, 65536]⟩
abbrev S1x9x1 : Shape := ⟨3, ![1, 9, 1]⟩
abbrev S1x9x65536 : Shape := ⟨3, ![1, 9, 65536]⟩
abbrev S2x589824 : Shape := ⟨2, ![2, 589824]⟩
abbrev S2x589824x1 : Shape := ⟨3, ![2, 589824, 1]⟩
abbrev S2x589824x2 : Shape := ⟨3, ![2, 589824, 2]⟩
abbrev S2x589824x2x2x64 : Shape := ⟨5, ![2, 589824, 2, 2, 64]⟩
abbrev S2x589824x64 : Shape := ⟨3, ![2, 589824, 64]⟩
abbrev S2x589824x1x1x64 : Shape := ⟨5, ![2, 589824, 1, 1, 64]⟩
abbrev S2x9x65536x64 : Shape := ⟨4, ![2, 9, 65536, 64]⟩
abbrev S3x3x64x64 : Shape := ⟨4, ![3, 3, 64, 64]⟩
abbrev S9x64x64 : Shape := ⟨3, ![9, 64, 64]⟩
abbrev S1x64 : Shape := ⟨2, ![1, 64]⟩
abbrev S2x65536x64 : Shape := ⟨3, ![2, 65536, 64]⟩
abbrev S1x9x4096x64 : Shape := ⟨4, ![1, 9, 4096, 64]⟩
abbrev S1x4096x64 : Shape := ⟨3, ![1, 4096, 64]⟩
abbrev S4096x64 : Shape := ⟨2, ![4096, 64]⟩
abbrev S1x1x4096x64 : Shape := ⟨4, ![1, 1, 4096, 64]⟩
abbrev S1x64x64 : Shape := ⟨3, ![1, 64, 64]⟩
abbrev S64x64 : Shape := ⟨2, ![64, 64]⟩
abbrev S2x260x260x64 : Shape := ⟨4, ![2, 260, 260, 64]⟩
abbrev S2x68x260x64 : Shape := ⟨4, ![2, 68, 260, 64]⟩
abbrev S2x16384x64 : Shape := ⟨3, ![2, 16384, 64]⟩
abbrev S1x68x260x64 : Shape := ⟨4, ![1, 68, 260, 64]⟩
abbrev S1x16384x64 : Shape := ⟨3, ![1, 16384, 64]⟩
abbrev S1x8192x64 : Shape := ⟨3, ![1, 8192, 64]⟩
abbrev S3x3x64x1 : Shape := ⟨4, ![3, 3, 64, 1]⟩
abbrev S9x64x1 : Shape := ⟨3, ![9, 64, 1]⟩
abbrev S1x1 : Shape := ⟨2, ![1, 1]⟩
abbrev S2x16384x1 : Shape := ⟨3, ![2, 16384, 1]⟩
abbrev S1x16384x1 : Shape := ⟨3, ![1, 16384, 1]⟩
abbrev S8192x1 : Shape := ⟨2, ![8192, 1]⟩
abbrev S1x64x1 : Shape := ⟨3, ![1, 64, 1]⟩
abbrev S64x1 : Shape := ⟨2, ![64, 1]⟩
abbrev S1x8192x1 : Shape := ⟨3, ![1, 8192, 1]⟩
abbrev S2x65536x1 : Shape := ⟨3, ![2, 65536, 1]⟩
abbrev S2x256x256x1 : Shape := ⟨4, ![2, 256, 256, 1]⟩
abbrev S2x1x256x256 : Shape := ⟨4, ![2, 1, 256, 256]⟩

abbrev nBuf : Space → Nat
  | .hbm => 394
  | .vmem => 119
  | .smem => 0
  | _ => 0

abbrev hbmTy0_0 (i : Nat) : BufTy := match i % 128 with
  | 0 => ⟨S2x64x256x256, .f32⟩
  | 1 => ⟨S27x64x3x3, .f32⟩
  | 2 => ⟨S27, .f32⟩
  | 3 => ⟨S64x64x3x3, .f32⟩
  | 4 => ⟨S64, .f32⟩
  | 5 => ⟨S64, .f32⟩
  | 6 => ⟨S64, .f32⟩
  | 7 => ⟨S64, .f32⟩
  | 8 => ⟨S64, .f32⟩
  | 9 => ⟨S64x64x3x3, .f32⟩
  | 10 => ⟨S64, .f32⟩
  | 11 => ⟨S64, .f32⟩
  | 12 => ⟨S64, .f32⟩
  | 13 => ⟨S64, .f32⟩
  | 14 => ⟨S64, .f32⟩
  | 15 => ⟨S64x64x3x3, .f32⟩
  | 16 => ⟨S64, .f32⟩
  | 17 => ⟨S64, .f32⟩
  | 18 => ⟨S64, .f32⟩
  | 19 => ⟨S64, .f32⟩
  | 20 => ⟨S64, .f32⟩
  | 21 => ⟨S1x64x3x3, .f32⟩
  | 22 => ⟨S1, .f32⟩
  | 23 => ⟨S2x256x256x64, .f32⟩
  | 24 => ⟨S_, .i32⟩
  | 25 => ⟨S_, .f32⟩
  | 26 => ⟨S2x258x258x64, .f32⟩
  | 27 => ⟨S3x3x64x27, .f32⟩
  | 28 => ⟨S9x64x27, .f32⟩
  | 29 => ⟨S_, .f32⟩
  | 30 => ⟨S1x27, .f32⟩
  | 31 => ⟨S1x27, .f32⟩
  | 32 => ⟨S2x66x258x64, .f32⟩
  | 33 => ⟨S2x16384x27, .f32⟩
  | 34 => ⟨S2x66x258x64, .f32⟩
  | 35 => ⟨S2x16384x27, .f32⟩
  | 36 => ⟨S2x66x258x64, .f32⟩
  | 37 => ⟨S2x16384x27, .f32⟩
  | 38 => ⟨S2x66x258x64, .f32⟩
  | 39 => ⟨S2x16384x27, .f32⟩
  | 40 => ⟨S2x65536x27, .f32⟩
  | 41 => ⟨S2x65536x9, .f32⟩
  | 42 => ⟨S2x9x65536, .f32⟩
  | 43 => ⟨S2x65536x9, .f32⟩
  | 44 => ⟨S2x9x65536, .f32⟩
  | 45 => ⟨S2x65536x9, .f32⟩
  | 46 => ⟨S2x65536x9, .f32⟩
  | 47 => ⟨S2x65536x9, .f32⟩
  | 48 => ⟨S_, .f32⟩
  | 49 => ⟨S2x65536x9, .f32⟩
  | 50 => ⟨S2x65536x9, .f32⟩
  | 51 => ⟨S_, .f32⟩
  | 52 => ⟨S2x65536x9, .f32⟩
  | 53 => ⟨S2x65536x9, .f32⟩
  | 54 => ⟨S2x9x65536, .f32⟩
  | 55 => ⟨S3, .f32⟩
  | 56 => ⟨S_, .f32⟩
  | 57 => ⟨S3, .f32⟩
  | 58 => ⟨S3, .f32⟩
  | 59 => ⟨S3x3, .f32⟩
  | 60 => ⟨S9, .f32⟩
  | 61 => ⟨S3, .f32⟩
  | 62 => ⟨S_, .f32⟩
  | 63 => ⟨S3, .f32⟩
  | 64 => ⟨S3, .f32⟩
  | 65 => ⟨S1x3, .f32⟩
  | 66 => ⟨S3x3, .f32⟩
  | 67 => ⟨S9, .f32⟩
  | 68 => ⟨S65536, .i32⟩
  | 69 => ⟨S_, .i32⟩
  | 70 => ⟨S_, .i32⟩
  | 71 => ⟨S65536, .i32⟩
  | 72 => ⟨S65536, .i32⟩
  | 73 => ⟨S65536, .i32⟩
  | 74 => ⟨S_, .i32⟩
  | 75 => ⟨S65536, .i32⟩
  | 76 => ⟨S65536, .i1⟩
  | 77 => ⟨S65536, .i32⟩
  | 78 => ⟨S65536, .i32⟩
  | 79 => ⟨S_, .i32⟩
  | 80 => ⟨S65536, .i32⟩
  | 81 => ⟨S65536, .i1⟩
  | 82 => ⟨S65536, .i1⟩
  | 83 => ⟨S_, .i32⟩
  | 84 => ⟨S65536, .i32⟩
  | 85 => ⟨S65536, .i32⟩
  | 86 => ⟨S65536, .i32⟩
  | 87 => ⟨S65536, .f32⟩
  | 88 => ⟨S65536, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S65536, .i32⟩
  | 96 => ⟨S65536, .i32⟩
  | 97 => ⟨S_, .i32⟩
  | 98 => ⟨S65536, .i32⟩
  | 99 => ⟨S65536, .i1⟩
  | 100 => ⟨S_, .i32⟩
  | 101 => ⟨S65536, .i32⟩
  | 102 => ⟨S65536, .i1⟩
  | 103 => ⟨S_, .i32⟩
  | 104 => ⟨S_, .i1⟩
  | 105 => ⟨S65536, .i1⟩
  | 106 => ⟨S65536, .i1⟩
  | 107 => ⟨S65536, .i1⟩
  | 108 => ⟨S65536, .i32⟩
  | 109 => ⟨S65536, .i32⟩
  | 110 => ⟨S65536, .i32⟩
  | 111 => ⟨S65536, .f32⟩
  | 112 => ⟨S1x1x65536, .f32⟩
  | 113 => ⟨S1x9x1, .f32⟩
  | 114 => ⟨S1x9x65536, .f32⟩
  | 115 => ⟨S1x9x65536, .f32⟩
  | 116 => ⟨S1x9x65536, .f32⟩
  | 117 => ⟨S2x9x65536, .f32⟩
  | 118 => ⟨S2x9x65536, .f32⟩
  | 119 => ⟨S1x1x65536, .f32⟩
  | 120 => ⟨S1x9x1, .f32⟩
  | 121 => ⟨S1x9x65536, .f32⟩
  | 122 => ⟨S1x9x65536, .f32⟩
  | 123 => ⟨S1x9x65536, .f32⟩
  | 124 => ⟨S2x9x65536, .f32⟩
  | 125 => ⟨S2x9x65536, .f32⟩
  | 126 => ⟨S2x9x65536, .f32⟩
  | 127 => ⟨S2x9x65536, .f32⟩
  | _ => ⟨S2x64x256x256, .f32⟩

abbrev hbmTy0_1 (i : Nat) : BufTy := match i % 128 with
  | 0 => ⟨S2x9x65536, .f32⟩
  | 1 => ⟨S2x9x65536, .f32⟩
  | 2 => ⟨S2x9x65536, .i32⟩
  | 3 => ⟨S2x9x65536, .i32⟩
  | 4 => ⟨S_, .i32⟩
  | 5 => ⟨S_, .i32⟩
  | 6 => ⟨S_, .i32⟩
  | 7 => ⟨S2x9x65536, .i32⟩
  | 8 => ⟨S2x9x65536, .i32⟩
  | 9 => ⟨S_, .i32⟩
  | 10 => ⟨S2x9x65536, .i32⟩
  | 11 => ⟨S2x9x65536, .i32⟩
  | 12 => ⟨S_, .i32⟩
  | 13 => ⟨S2x9x65536, .i32⟩
  | 14 => ⟨S2x9x65536, .i32⟩
  | 15 => ⟨S_, .i32⟩
  | 16 => ⟨S_, .i32⟩
  | 17 => ⟨S_, .i32⟩
  | 18 => ⟨S2x9x65536, .i32⟩
  | 19 => ⟨S2x9x65536, .i32⟩
  | 20 => ⟨S_, .i32⟩
  | 21 => ⟨S2x9x65536, .i32⟩
  | 22 => ⟨S2x9x65536, .i32⟩
  | 23 => ⟨S_, .i32⟩
  | 24 => ⟨S2x9x65536, .i32⟩
  | 25 => ⟨S2x9x65536, .i32⟩
  | 26 => ⟨S2x589824, .i32⟩
  | 27 => ⟨S2x589824, .i32⟩
  | 28 => ⟨S2x589824x1, .i32⟩
  | 29 => ⟨S2x589824x1, .i32⟩
  | 30 => ⟨S2x589824x2, .i32⟩
  | 31 => ⟨S2x589824x2x2x64, .f32⟩
  | 32 => ⟨S_, .f32⟩
  | 33 => ⟨S2x589824x64, .f32⟩
  | 34 => ⟨S_, .i32⟩
  | 35 => ⟨S2x9x65536, .i32⟩
  | 36 => ⟨S2x9x65536, .i32⟩
  | 37 => ⟨S_, .i32⟩
  | 38 => ⟨S2x9x65536, .i32⟩
  | 39 => ⟨S2x9x65536, .i32⟩
  | 40 => ⟨S_, .i32⟩
  | 41 => ⟨S2x9x65536, .i32⟩
  | 42 => ⟨S2x9x65536, .i1⟩
  | 43 => ⟨S_, .i32⟩
  | 44 => ⟨S2x9x65536, .i32⟩
  | 45 => ⟨S2x9x65536, .i1⟩
  | 46 => ⟨S2x9x65536, .i1⟩
  | 47 => ⟨S_, .i32⟩
  | 48 => ⟨S2x9x65536, .i32⟩
  | 49 => ⟨S2x9x65536, .i1⟩
  | 50 => ⟨S2x9x65536, .i1⟩
  | 51 => ⟨S_, .i32⟩
  | 52 => ⟨S2x9x65536, .i32⟩
  | 53 => ⟨S2x9x65536, .i1⟩
  | 54 => ⟨S2x9x65536, .i1⟩
  | 55 => ⟨S_, .f32⟩
  | 56 => ⟨S2x9x65536, .f32⟩
  | 57 => ⟨S2x9x65536, .f32⟩
  | 58 => ⟨S_, .f32⟩
  | 59 => ⟨S2x9x65536, .f32⟩
  | 60 => ⟨S2x9x65536, .f32⟩
  | 61 => ⟨S2x9x65536, .f32⟩
  | 62 => ⟨S_, .f32⟩
  | 63 => ⟨S_, .f32⟩
  | 64 => ⟨S2x9x65536, .f32⟩
  | 65 => ⟨S2x9x65536, .f32⟩
  | 66 => ⟨S2x9x65536, .f32⟩
  | 67 => ⟨S2x589824x1x1x64, .f32⟩
  | 68 => ⟨S2x589824x64, .f32⟩
  | 69 => ⟨S2x589824, .f32⟩
  | 70 => ⟨S2x589824x1, .f32⟩
  | 71 => ⟨S2x589824x64, .f32⟩
  | 72 => ⟨S2x589824x64, .f32⟩
  | 73 => ⟨S2x589824x64, .f32⟩
  | 74 => ⟨S_, .i32⟩
  | 75 => ⟨S2x9x65536, .i32⟩
  | 76 => ⟨S2x9x65536, .i32⟩
  | 77 => ⟨S_, .i32⟩
  | 78 => ⟨S2x9x65536, .i32⟩
  | 79 => ⟨S2x9x65536, .i32⟩
  | 80 => ⟨S_, .i32⟩
  | 81 => ⟨S2x9x65536, .i32⟩
  | 82 => ⟨S2x9x65536, .i1⟩
  | 83 => ⟨S_, .i32⟩
  | 84 => ⟨S2x9x65536, .i32⟩
  | 85 => ⟨S2x9x65536, .i1⟩
  | 86 => ⟨S2x9x65536, .i1⟩
  | 87 => ⟨S_, .i32⟩
  | 88 => ⟨S2x9x65536, .i32⟩
  | 89 => ⟨S2x9x65536, .i1⟩
  | 90 => ⟨S2x9x65536, .i1⟩
  | 91 => ⟨S_, .i32⟩
  | 92 => ⟨S2x9x65536, .i32⟩
  | 93 => ⟨S2x9x65536, .i1⟩
  | 94 => ⟨S2x9x65536, .i1⟩
  | 95 => ⟨S_, .f32⟩
  | 96 => ⟨S2x9x65536, .f32⟩
  | 97 => ⟨S2x9x65536, .f32⟩
  | 98 => ⟨S2x9x65536, .f32⟩
  | 99 => ⟨S_, .f32⟩
  | 100 => ⟨S_, .f32⟩
  | 101 => ⟨S2x9x65536, .f32⟩
  | 102 => ⟨S2x9x65536, .f32⟩
  | 103 => ⟨S2x9x65536, .f32⟩
  | 104 => ⟨S2x589824x1x1x64, .f32⟩
  | 105 => ⟨S2x589824x64, .f32⟩
  | 106 => ⟨S2x589824, .f32⟩
  | 107 => ⟨S2x589824x1, .f32⟩
  | 108 => ⟨S2x589824x64, .f32⟩
  | 109 => ⟨S2x589824x64, .f32⟩
  | 110 => ⟨S2x589824x64, .f32⟩
  | 111 => ⟨S_, .i32⟩
  | 112 => ⟨S2x9x65536, .i32⟩
  | 113 => ⟨S2x9x65536, .i32⟩
  | 114 => ⟨S_, .i32⟩
  | 115 => ⟨S2x9x65536, .i32⟩
  | 116 => ⟨S2x9x65536, .i32⟩
  | 117 => ⟨S_, .i32⟩
  | 118 => ⟨S2x9x65536, .i32⟩
  | 119 => ⟨S2x9x65536, .i1⟩
  | 120 => ⟨S_, .i32⟩
  | 121 => ⟨S2x9x65536, .i32⟩
  | 122 => ⟨S2x9x65536, .i1⟩
  | 123 => ⟨S2x9x65536, .i1⟩
  | 124 => ⟨S_, .i32⟩
  | 125 => ⟨S2x9x65536, .i32⟩
  | 126 => ⟨S2x9x65536, .i1⟩
  | 127 => ⟨S2x9x65536, .i1⟩
  | _ => ⟨S2x64x256x256, .f32⟩

abbrev hbmTy0_2 (i : Nat) : BufTy := match i % 128 with
  | 0 => ⟨S_, .i32⟩
  | 1 => ⟨S2x9x65536, .i32⟩
  | 2 => ⟨S2x9x65536, .i1⟩
  | 3 => ⟨S2x9x65536, .i1⟩
  | 4 => ⟨S_, .f32⟩
  | 5 => ⟨S2x9x65536, .f32⟩
  | 6 => ⟨S2x9x65536, .f32⟩
  | 7 => ⟨S2x9x65536, .f32⟩
  | 8 => ⟨S_, .f32⟩
  | 9 => ⟨S_, .f32⟩
  | 10 => ⟨S2x9x65536, .f32⟩
  | 11 => ⟨S2x9x65536, .f32⟩
  | 12 => ⟨S2x9x65536, .f32⟩
  | 13 => ⟨S2x589824x1x1x64, .f32⟩
  | 14 => ⟨S2x589824x64, .f32⟩
  | 15 => ⟨S2x589824, .f32⟩
  | 16 => ⟨S2x589824x1, .f32⟩
  | 17 => ⟨S2x589824x64, .f32⟩
  | 18 => ⟨S2x589824x64, .f32⟩
  | 19 => ⟨S2x589824x64, .f32⟩
  | 20 => ⟨S_, .i32⟩
  | 21 => ⟨S2x9x65536, .i32⟩
  | 22 => ⟨S2x9x65536, .i32⟩
  | 23 => ⟨S_, .i32⟩
  | 24 => ⟨S2x9x65536, .i32⟩
  | 25 => ⟨S2x9x65536, .i32⟩
  | 26 => ⟨S_, .i32⟩
  | 27 => ⟨S2x9x65536, .i32⟩
  | 28 => ⟨S2x9x65536, .i1⟩
  | 29 => ⟨S_, .i32⟩
  | 30 => ⟨S2x9x65536, .i32⟩
  | 31 => ⟨S2x9x65536, .i1⟩
  | 32 => ⟨S2x9x65536, .i1⟩
  | 33 => ⟨S_, .i32⟩
  | 34 => ⟨S2x9x65536, .i32⟩
  | 35 => ⟨S2x9x65536, .i1⟩
  | 36 => ⟨S2x9x65536, .i1⟩
  | 37 => ⟨S_, .i32⟩
  | 38 => ⟨S2x9x65536, .i32⟩
  | 39 => ⟨S2x9x65536, .i1⟩
  | 40 => ⟨S2x9x65536, .i1⟩
  | 41 => ⟨S2x9x65536, .f32⟩
  | 42 => ⟨S_, .f32⟩
  | 43 => ⟨S_, .f32⟩
  | 44 => ⟨S2x9x65536, .f32⟩
  | 45 => ⟨S2x9x65536, .f32⟩
  | 46 => ⟨S2x9x65536, .f32⟩
  | 47 => ⟨S2x589824x1x1x64, .f32⟩
  | 48 => ⟨S2x589824x64, .f32⟩
  | 49 => ⟨S2x589824, .f32⟩
  | 50 => ⟨S2x589824x1, .f32⟩
  | 51 => ⟨S2x589824x64, .f32⟩
  | 52 => ⟨S2x589824x64, .f32⟩
  | 53 => ⟨S2x589824x64, .f32⟩
  | 54 => ⟨S2x9x65536x64, .f32⟩
  | 55 => ⟨S_, .f32⟩
  | 56 => ⟨S64, .f32⟩
  | 57 => ⟨S64, .f32⟩
  | 58 => ⟨S64, .f32⟩
  | 59 => ⟨S64, .f32⟩
  | 60 => ⟨S64, .f32⟩
  | 61 => ⟨S64, .f32⟩
  | 62 => ⟨S64, .f32⟩
  | 63 => ⟨S3x3x64x64, .f32⟩
  | 64 => ⟨S9x64x64, .f32⟩
  | 65 => ⟨S1x64, .f32⟩
  | 66 => ⟨S1x64, .f32⟩
  | 67 => ⟨S2x65536x64, .f32⟩
  | 68 => ⟨S_, .f32⟩
  | 69 => ⟨S64, .f32⟩
  | 70 => ⟨S64, .f32⟩
  | 71 => ⟨S64, .f32⟩
  | 72 => ⟨S64, .f32⟩
  | 73 => ⟨S64, .f32⟩
  | 74 => ⟨S64, .f32⟩
  | 75 => ⟨S64, .f32⟩
  | 76 => ⟨S2x256x256x64, .f32⟩
  | 77 => ⟨S_, .i32⟩
  | 78 => ⟨S_, .f32⟩
  | 79 => ⟨S2x260x260x64, .f32⟩
  | 80 => ⟨S3x3x64x64, .f32⟩
  | 81 => ⟨S9x64x64, .f32⟩
  | 82 => ⟨S1x64, .f32⟩
  | 83 => ⟨S1x64, .f32⟩
  | 84 => ⟨S2x68x260x64, .f32⟩
  | 85 => ⟨S2x16384x64, .f32⟩
  | 86 => ⟨S2x68x260x64, .f32⟩
  | 87 => ⟨S2x16384x64, .f32⟩
  | 88 => ⟨S2x68x260x64, .f32⟩
  | 89 => ⟨S2x16384x64, .f32⟩
  | 90 => ⟨S2x68x260x64, .f32⟩
  | 91 => ⟨S2x16384x64, .f32⟩
  | 92 => ⟨S2x65536x64, .f32⟩
  | 93 => ⟨S_, .f32⟩
  | 94 => ⟨S64, .f32⟩
  | 95 => ⟨S64, .f32⟩
  | 96 => ⟨S64, .f32⟩
  | 97 => ⟨S64, .f32⟩
  | 98 => ⟨S64, .f32⟩
  | 99 => ⟨S64, .f32⟩
  | 100 => ⟨S64, .f32⟩
  | 101 => ⟨S2x256x256x64, .f32⟩
  | 102 => ⟨S_, .i32⟩
  | 103 => ⟨S_, .f32⟩
  | 104 => ⟨S2x260x260x64, .f32⟩
  | 105 => ⟨S3x3x64x64, .f32⟩
  | 106 => ⟨S9x64x64, .f32⟩
  | 107 => ⟨S1x64, .f32⟩
  | 108 => ⟨S1x64, .f32⟩
  | 109 => ⟨S2x68x260x64, .f32⟩
  | 110 => ⟨S2x16384x64, .f32⟩
  | 111 => ⟨S2x68x260x64, .f32⟩
  | 112 => ⟨S2x16384x64, .f32⟩
  | 113 => ⟨S2x68x260x64, .f32⟩
  | 114 => ⟨S2x16384x64, .f32⟩
  | 115 => ⟨S2x68x260x64, .f32⟩
  | 116 => ⟨S2x16384x64, .f32⟩
  | 117 => ⟨S2x65536x64, .f32⟩
  | 118 => ⟨S2x256x256x64, .f32⟩
  | 119 => ⟨S_, .i32⟩
  | 120 => ⟨S_, .f32⟩
  | 121 => ⟨S2x258x258x64, .f32⟩
  | 122 => ⟨S3x3x64x1, .f32⟩
  | 123 => ⟨S9x64x1, .f32⟩
  | 124 => ⟨S_, .f32⟩
  | 125 => ⟨S1x1, .f32⟩
  | 126 => ⟨S1x1, .f32⟩
  | 127 => ⟨S2x66x258x64, .f32⟩
  | _ => ⟨S2x64x256x256, .f32⟩

abbrev hbmTy0_3 (i : Nat) : BufTy := match i % 128 with
  | 0 => ⟨S2x16384x1, .f32⟩
  | 1 => ⟨S2x66x258x64, .f32⟩
  | 2 => ⟨S2x16384x1, .f32⟩
  | 3 => ⟨S2x66x258x64, .f32⟩
  | 4 => ⟨S2x16384x1, .f32⟩
  | 5 => ⟨S2x66x258x64, .f32⟩
  | 6 => ⟨S2x16384x1, .f32⟩
  | 7 => ⟨S2x65536x1, .f32⟩
  | 8 => ⟨S2x256x256x1, .f32⟩
  | 9 => ⟨S2x1x256x256, .f32⟩
  | _ => ⟨S2x64x256x256, .f32⟩

abbrev hbmTy (i : Nat) : BufTy := match i / 128 with
  | 0 => hbmTy0_0 i
  | 1 => hbmTy0_1 i
  | 2 => hbmTy0_2 i
  | 3 => hbmTy0_3 i
  | _ => ⟨S2x64x256x256, .f32⟩

abbrev bufTy : (tb : Table) → Fin (tcTables nBuf tb) → BufTy
  | .hbm, ⟨i, _⟩ => hbmTy i
  | .local _ .vmem, ⟨0, _⟩ => ⟨S1x66x258x64, .f32⟩
  | .local _ .vmem, ⟨1, _⟩ => ⟨S1x66x258x64, .f32⟩
  | .local _ .vmem, ⟨2, _⟩ => ⟨S9x64x27, .f32⟩
  | .local _ .vmem, ⟨3, _⟩ => ⟨S1x27, .f32⟩
  | .local _ .vmem, ⟨4, _⟩ => ⟨S1x27, .f32⟩
  | .local _ .vmem, ⟨5, _⟩ => ⟨S1x16384x27, .f32⟩
  | .local _ .vmem, ⟨6, _⟩ => ⟨S1x16384x27, .f32⟩
  | .local _ .vmem, ⟨7, _⟩ => ⟨S1x66x258x64, .f32⟩
  | .local _ .vmem, ⟨8, _⟩ => ⟨S1x66x258x64, .f32⟩
  | .local _ .vmem, ⟨9, _⟩ => ⟨S9x64x27, .f32⟩
  | .local _ .vmem, ⟨10, _⟩ => ⟨S1x27, .f32⟩
  | .local _ .vmem, ⟨11, _⟩ => ⟨S1x27, .f32⟩
  | .local _ .vmem, ⟨12, _⟩ => ⟨S1x16384x27, .f32⟩
  | .local _ .vmem, ⟨13, _⟩ => ⟨S1x16384x27, .f32⟩
  | .local _ .vmem, ⟨14, _⟩ => ⟨S1x66x258x64, .f32⟩
  | .local _ .vmem, ⟨15, _⟩ => ⟨S1x66x258x64, .f32⟩
  | .local _ .vmem, ⟨16, _⟩ => ⟨S9x64x27, .f32⟩
  | .local _ .vmem, ⟨17, _⟩ => ⟨S1x27, .f32⟩
  | .local _ .vmem, ⟨18, _⟩ => ⟨S1x27, .f32⟩
  | .local _ .vmem, ⟨19, _⟩ => ⟨S1x16384x27, .f32⟩
  | .local _ .vmem, ⟨20, _⟩ => ⟨S1x16384x27, .f32⟩
  | .local _ .vmem, ⟨21, _⟩ => ⟨S1x66x258x64, .f32⟩
  | .local _ .vmem, ⟨22, _⟩ => ⟨S1x66x258x64, .f32⟩
  | .local _ .vmem, ⟨23, _⟩ => ⟨S9x64x27, .f32⟩
  | .local _ .vmem, ⟨24, _⟩ => ⟨S1x27, .f32⟩
  | .local _ .vmem, ⟨25, _⟩ => ⟨S1x27, .f32⟩
  | .local _ .vmem, ⟨26, _⟩ => ⟨S1x16384x27, .f32⟩
  | .local _ .vmem, ⟨27, _⟩ => ⟨S1x16384x27, .f32⟩
  | .local _ .vmem, ⟨28, _⟩ => ⟨S1x9x4096x64, .f32⟩
  | .local _ .vmem, ⟨29, _⟩ => ⟨S1x9x4096x64, .f32⟩
  | .local _ .vmem, ⟨30, _⟩ => ⟨S9x64x64, .f32⟩
  | .local _ .vmem, ⟨31, _⟩ => ⟨S1x64, .f32⟩
  | .local _ .vmem, ⟨32, _⟩ => ⟨S1x64, .f32⟩
  | .local _ .vmem, ⟨33, _⟩ => ⟨S1x4096x64, .f32⟩
  | .local _ .vmem, ⟨34, _⟩ => ⟨S1x4096x64, .f32⟩
  | .local _ .vmem, ⟨35, _⟩ => ⟨S1x68x260x64, .f32⟩
  | .local _ .vmem, ⟨36, _⟩ => ⟨S1x68x260x64, .f32⟩
  | .local _ .vmem, ⟨37, _⟩ => ⟨S9x64x64, .f32⟩
  | .local _ .vmem, ⟨38, _⟩ => ⟨S1x64, .f32⟩
  | .local _ .vmem, ⟨39, _⟩ => ⟨S1x64, .f32⟩
  | .local _ .vmem, ⟨40, _⟩ => ⟨S1x16384x64, .f32⟩
  | .local _ .vmem, ⟨41, _⟩ => ⟨S1x16384x64, .f32⟩
  | .local _ .vmem, ⟨42, _⟩ => ⟨S1x68x260x64, .f32⟩
  | .local _ .vmem, ⟨43, _⟩ => ⟨S1x68x260x64, .f32⟩
  | .local _ .vmem, ⟨44, _⟩ => ⟨S9x64x64, .f32⟩
  | .local _ .vmem, ⟨45, _⟩ => ⟨S1x64, .f32⟩
  | .local _ .vmem, ⟨46, _⟩ => ⟨S1x64, .f32⟩
  | .local _ .vmem, ⟨47, _⟩ => ⟨S1x16384x64, .f32⟩
  | .local _ .vmem, ⟨48, _⟩ => ⟨S1x16384x64, .f32⟩
  | .local _ .vmem, ⟨49, _⟩ => ⟨S1x68x260x64, .f32⟩
  | .local _ .vmem, ⟨50, _⟩ => ⟨S1x68x260x64, .f32⟩
  | .local _ .vmem, ⟨51, _⟩ => ⟨S9x64x64, .f32⟩
  | .local _ .vmem, ⟨52, _⟩ => ⟨S1x64, .f32⟩
  | .local _ .vmem, ⟨53, _⟩ => ⟨S1x64, .f32⟩
  | .local _ .vmem, ⟨54, _⟩ => ⟨S1x16384x64, .f32⟩
  | .local _ .vmem, ⟨55, _⟩ => ⟨S1x16384x64, .f32⟩
  | .local _ .vmem, ⟨56, _⟩ => ⟨S1x68x260x64, .f32⟩
  | .local _ .vmem, ⟨57, _⟩ => ⟨S1x68x260x64, .f32⟩
  | .local _ .vmem, ⟨58, _⟩ => ⟨S9x64x64, .f32⟩
  | .local _ .vmem, ⟨59, _⟩ => ⟨S1x64, .f32⟩
  | .local _ .vmem, ⟨60, _⟩ => ⟨S1x64, .f32⟩
  | .local _ .vmem, ⟨61, _⟩ => ⟨S1x16384x64, .f32⟩
  | .local _ .vmem, ⟨62, _⟩ => ⟨S1x16384x64, .f32⟩
  | .local _ .vmem, ⟨63, _⟩ => ⟨S1x68x260x64, .f32⟩
  | .local _ .vmem, ⟨64, _⟩ => ⟨S1x68x260x64, .f32⟩
  | .local _ .vmem, ⟨65, _⟩ => ⟨S9x64x64, .f32⟩
  | .local _ .vmem, ⟨66, _⟩ => ⟨S1x64, .f32⟩
  | .local _ .vmem, ⟨67, _⟩ => ⟨S1x64, .f32⟩
  | .local _ .vmem, ⟨68, _⟩ => ⟨S1x16384x64, .f32⟩
  | .local _ .vmem, ⟨69, _⟩ => ⟨S1x16384x64, .f32⟩
  | .local _ .vmem, ⟨70, _⟩ => ⟨S1x68x260x64, .f32⟩
  | .local _ .vmem, ⟨71, _⟩ => ⟨S1x68x260x64, .f32⟩
  | .local _ .vmem, ⟨72, _⟩ => ⟨S9x64x64, .f32⟩
  | .local _ .vmem, ⟨73, _⟩ => ⟨S1x64, .f32⟩
  | .local _ .vmem, ⟨74, _⟩ => ⟨S1x64, .f32⟩
  | .local _ .vmem, ⟨75, _⟩ => ⟨S1x16384x64, .f32⟩
  | .local _ .vmem, ⟨76, _⟩ => ⟨S1x16384x64, .f32⟩
  | .local _ .vmem, ⟨77, _⟩ => ⟨S1x68x260x64, .f32⟩
  | .local _ .vmem, ⟨78, _⟩ => ⟨S1x68x260x64, .f32⟩
  | .local _ .vmem, ⟨79, _⟩ => ⟨S9x64x64, .f32⟩
  | .local _ .vmem, ⟨80, _⟩ => ⟨S1x64, .f32⟩
  | .local _ .vmem, ⟨81, _⟩ => ⟨S1x64, .f32⟩
  | .local _ .vmem, ⟨82, _⟩ => ⟨S1x16384x64, .f32⟩
  | .local _ .vmem, ⟨83, _⟩ => ⟨S1x16384x64, .f32⟩
  | .local _ .vmem, ⟨84, _⟩ => ⟨S1x68x260x64, .f32⟩
  | .local _ .vmem, ⟨85, _⟩ => ⟨S1x68x260x64, .f32⟩
  | .local _ .vmem, ⟨86, _⟩ => ⟨S9x64x64, .f32⟩
  | .local _ .vmem, ⟨87, _⟩ => ⟨S1x64, .f32⟩
  | .local _ .vmem, ⟨88, _⟩ => ⟨S1x64, .f32⟩
  | .local _ .vmem, ⟨89, _⟩ => ⟨S1x16384x64, .f32⟩
  | .local _ .vmem, ⟨90, _⟩ => ⟨S1x16384x64, .f32⟩
  | .local _ .vmem, ⟨91, _⟩ => ⟨S1x66x258x64, .f32⟩
  | .local _ .vmem, ⟨92, _⟩ => ⟨S1x66x258x64, .f32⟩
  | .local _ .vmem, ⟨93, _⟩ => ⟨S9x64x1, .f32⟩
  | .local _ .vmem, ⟨94, _⟩ => ⟨S1x1, .f32⟩
  | .local _ .vmem, ⟨95, _⟩ => ⟨S1x1, .f32⟩
  | .local _ .vmem, ⟨96, _⟩ => ⟨S1x16384x1, .f32⟩
  | .local _ .vmem, ⟨97, _⟩ => ⟨S1x16384x1, .f32⟩
  | .local _ .vmem, ⟨98, _⟩ => ⟨S1x66x258x64, .f32⟩
  | .local _ .vmem, ⟨99, _⟩ => ⟨S1x66x258x64, .f32⟩
  | .local _ .vmem, ⟨100, _⟩ => ⟨S9x64x1, .f32⟩
  | .local _ .vmem, ⟨101, _⟩ => ⟨S1x1, .f32⟩
  | .local _ .vmem, ⟨102, _⟩ => ⟨S1x1, .f32⟩
  | .local _ .vmem, ⟨103, _⟩ => ⟨S1x16384x1, .f32⟩
  | .local _ .vmem, ⟨104, _⟩ => ⟨S1x16384x1, .f32⟩
  | .local _ .vmem, ⟨105, _⟩ => ⟨S1x66x258x64, .f32⟩
  | .local _ .vmem, ⟨106, _⟩ => ⟨S1x66x258x64, .f32⟩
  | .local _ .vmem, ⟨107, _⟩ => ⟨S9x64x1, .f32⟩
  | .local _ .vmem, ⟨108, _⟩ => ⟨S1x1, .f32⟩
  | .local _ .vmem, ⟨109, _⟩ => ⟨S1x1, .f32⟩
  | .local _ .vmem, ⟨110, _⟩ => ⟨S1x16384x1, .f32⟩
  | .local _ .vmem, ⟨111, _⟩ => ⟨S1x16384x1, .f32⟩
  | .local _ .vmem, ⟨112, _⟩ => ⟨S1x66x258x64, .f32⟩
  | .local _ .vmem, ⟨113, _⟩ => ⟨S1x66x258x64, .f32⟩
  | .local _ .vmem, ⟨114, _⟩ => ⟨S9x64x1, .f32⟩
  | .local _ .vmem, ⟨115, _⟩ => ⟨S1x1, .f32⟩
  | .local _ .vmem, ⟨116, _⟩ => ⟨S1x1, .f32⟩
  | .local _ .vmem, ⟨117, _⟩ => ⟨S1x16384x1, .f32⟩
  | .local _ .vmem, ⟨118, _⟩ => ⟨S1x16384x1, .f32⟩
  | _, _ => ⟨S2x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | _, _ => false

abbrev semScoped : Fin 0 → Bool
  | ⟨_, h⟩ => absurd h (Nat.not_lt_zero _)

abbrev dmaSemScoped : Fin 119 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | _ => false

abbrev sig : RefSig :=
  ofTc nBuf bufTy 0 119 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_c : Ref sig .tc := ⟨.hbm, 24, rfl⟩
abbrev main_call0_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_0 : Ref sig .tc := ⟨.hbm, 48, rfl⟩
abbrev main_v22 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_2 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_4 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_c : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_0 : Ref sig .tc := ⟨.hbm, 83, rfl⟩
abbrev main_call1_v12 : Ref sig .tc := ⟨.hbm, 84, rfl⟩
abbrev main_call1_v13 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c_5 : Ref sig .tc := ⟨.hbm, 89, rfl⟩
abbrev main_call2_v0 : Ref sig .tc := ⟨.hbm, 90, rfl⟩
abbrev main_call2_c : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_c_1 : Ref sig .tc := ⟨.hbm, 97, rfl⟩
abbrev main_call2_v5 : Ref sig .tc := ⟨.hbm, 98, rfl⟩
abbrev main_call2_v6 : Ref sig .tc := ⟨.hbm, 99, rfl⟩
abbrev main_call2_c_2 : Ref sig .tc := ⟨.hbm, 100, rfl⟩
abbrev main_call2_v7 : Ref sig .tc := ⟨.hbm, 101, rfl⟩
abbrev main_call2_v8 : Ref sig .tc := ⟨.hbm, 102, rfl⟩
abbrev main_call2_c_3 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_c_6 : Ref sig .tc := ⟨.hbm, 132, rfl⟩
abbrev main_c_7 : Ref sig .tc := ⟨.hbm, 133, rfl⟩
abbrev main_call3_v0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_v64 : Ref sig .tc := ⟨.hbm, 139, rfl⟩
abbrev main_c_8 : Ref sig .tc := ⟨.hbm, 140, rfl⟩
abbrev main_v65 : Ref sig .tc := ⟨.hbm, 141, rfl⟩
abbrev main_v66 : Ref sig .tc := ⟨.hbm, 142, rfl⟩
abbrev main_c_9 : Ref sig .tc := ⟨.hbm, 143, rfl⟩
abbrev main_c_10 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_v67 : Ref sig .tc := ⟨.hbm, 150, rfl⟩
abbrev main_c_11 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_cst_12 : Ref sig .tc := ⟨.hbm, 160, rfl⟩
abbrev main_v76 : Ref sig .tc := ⟨.hbm, 161, rfl⟩
abbrev main_c_13 : Ref sig .tc := ⟨.hbm, 162, rfl⟩
abbrev main_v77 : Ref sig .tc := ⟨.hbm, 163, rfl⟩
abbrev main_v78 : Ref sig .tc := ⟨.hbm, 164, rfl⟩
abbrev main_c_14 : Ref sig .tc := ⟨.hbm, 165, rfl⟩
abbrev main_v79 : Ref sig .tc := ⟨.hbm, 166, rfl⟩
abbrev main_v80 : Ref sig .tc := ⟨.hbm, 167, rfl⟩
abbrev main_c_15 : Ref sig .tc := ⟨.hbm, 168, rfl⟩
abbrev main_v81 : Ref sig .tc := ⟨.hbm, 169, rfl⟩
abbrev main_v82 : Ref sig .tc := ⟨.hbm, 170, rfl⟩
abbrev main_c_16 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_c_17 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_c_18 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_cst_19 : Ref sig .tc := ⟨.hbm, 183, rfl⟩
abbrev main_v92 : Ref sig .tc := ⟨.hbm, 184, rfl⟩
abbrev main_v93 : Ref sig .tc := ⟨.hbm, 185, rfl⟩
abbrev main_cst_20 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_cst_21 : Ref sig .tc := ⟨.hbm, 190, rfl⟩
abbrev main_call5_v0 : Ref sig .tc := ⟨.hbm, 191, rfl⟩
abbrev main_call5_v1 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_c_22 : Ref sig .tc := ⟨.hbm, 202, rfl⟩
abbrev main_v106 : Ref sig .tc := ⟨.hbm, 203, rfl⟩
abbrev main_v107 : Ref sig .tc := ⟨.hbm, 204, rfl⟩
abbrev main_c_23 : Ref sig .tc := ⟨.hbm, 205, rfl⟩
abbrev main_v108 : Ref sig .tc := ⟨.hbm, 206, rfl⟩
abbrev main_v109 : Ref sig .tc := ⟨.hbm, 207, rfl⟩
abbrev main_c_24 : Ref sig .tc := ⟨.hbm, 208, rfl⟩
abbrev main_v110 : Ref sig .tc := ⟨.hbm, 209, rfl⟩
abbrev main_v111 : Ref sig .tc := ⟨.hbm, 210, rfl⟩
abbrev main_c_25 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_c_26 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_c_27 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_cst_28 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_cst_29 : Ref sig .tc := ⟨.hbm, 227, rfl⟩
abbrev main_call6_v0 : Ref sig .tc := ⟨.hbm, 228, rfl⟩
abbrev main_call6_v1 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_c_30 : Ref sig .tc := ⟨.hbm, 239, rfl⟩
abbrev main_v133 : Ref sig .tc := ⟨.hbm, 240, rfl⟩
abbrev main_v134 : Ref sig .tc := ⟨.hbm, 241, rfl⟩
abbrev main_c_31 : Ref sig .tc := ⟨.hbm, 242, rfl⟩
abbrev main_v135 : Ref sig .tc := ⟨.hbm, 243, rfl⟩
abbrev main_v136 : Ref sig .tc := ⟨.hbm, 244, rfl⟩
abbrev main_c_32 : Ref sig .tc := ⟨.hbm, 245, rfl⟩
abbrev main_v137 : Ref sig .tc := ⟨.hbm, 246, rfl⟩
abbrev main_v138 : Ref sig .tc := ⟨.hbm, 247, rfl⟩
abbrev main_c_33 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_c_34 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_c_35 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_cst_36 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_cst_37 : Ref sig .tc := ⟨.hbm, 264, rfl⟩
abbrev main_call7_v0 : Ref sig .tc := ⟨.hbm, 265, rfl⟩
abbrev main_call7_v1 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_c_38 : Ref sig .tc := ⟨.hbm, 276, rfl⟩
abbrev main_v160 : Ref sig .tc := ⟨.hbm, 277, rfl⟩
abbrev main_v161 : Ref sig .tc := ⟨.hbm, 278, rfl⟩
abbrev main_c_39 : Ref sig .tc := ⟨.hbm, 279, rfl⟩
abbrev main_v162 : Ref sig .tc := ⟨.hbm, 280, rfl⟩
abbrev main_v163 : Ref sig .tc := ⟨.hbm, 281, rfl⟩
abbrev main_c_40 : Ref sig .tc := ⟨.hbm, 282, rfl⟩
abbrev main_v164 : Ref sig .tc := ⟨.hbm, 283, rfl⟩
abbrev main_v165 : Ref sig .tc := ⟨.hbm, 284, rfl⟩
abbrev main_c_41 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_c_42 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_c_43 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_cst_44 : Ref sig .tc := ⟨.hbm, 298, rfl⟩
abbrev main_call8_v0 : Ref sig .tc := ⟨.hbm, 299, rfl⟩
abbrev main_call8_v1 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_cst_45 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_cst_46 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_c_47 : Ref sig .tc := ⟨.hbm, 333, rfl⟩
abbrev main_call9_v0 : Ref sig .tc := ⟨.hbm, 334, rfl⟩
abbrev main_v206 : Ref sig .tc := ⟨.hbm, 335, rfl⟩
abbrev main_v207 : Ref sig .tc := ⟨.hbm, 336, rfl⟩
abbrev main_v208 : Ref sig .tc := ⟨.hbm, 337, rfl⟩
abbrev main_v209 : Ref sig .tc := ⟨.hbm, 338, rfl⟩
abbrev main_v210 : Ref sig .tc := ⟨.hbm, 339, rfl⟩
abbrev main_v211 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_v215 : Ref sig .tc := ⟨.hbm, 344, rfl⟩
abbrev main_v216 : Ref sig .tc := ⟨.hbm, 345, rfl⟩
abbrev main_v217 : Ref sig .tc := ⟨.hbm, 346, rfl⟩
abbrev main_v218 : Ref sig .tc := ⟨.hbm, 347, rfl⟩
abbrev main_v219 : Ref sig .tc := ⟨.hbm, 348, rfl⟩
abbrev main_cst_48 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_v227 : Ref sig .tc := ⟨.hbm, 357, rfl⟩
abbrev main_c_49 : Ref sig .tc := ⟨.hbm, 358, rfl⟩
abbrev main_call10_v0 : Ref sig .tc := ⟨.hbm, 359, rfl⟩
abbrev main_v228 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_v237 : Ref sig .tc := ⟨.hbm, 369, rfl⟩
abbrev main_v238 : Ref sig .tc := ⟨.hbm, 370, rfl⟩
abbrev main_v239 : Ref sig .tc := ⟨.hbm, 371, rfl⟩
abbrev main_v240 : Ref sig .tc := ⟨.hbm, 372, rfl⟩
abbrev main_v241 : Ref sig .tc := ⟨.hbm, 373, rfl⟩
abbrev main_v242 : Ref sig .tc := ⟨.hbm, 374, rfl⟩
abbrev main_c_50 : Ref sig .tc := ⟨.hbm, 375, rfl⟩
abbrev main_call11_v0 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_cst_51 : Ref sig .tc := ⟨.hbm, 380, rfl⟩
abbrev main_v246 : Ref sig .tc := ⟨.hbm, 381, rfl⟩
abbrev main_v247 : Ref sig .tc := ⟨.hbm, 382, rfl⟩
abbrev main_v248 : Ref sig .tc := ⟨.hbm, 383, rfl⟩
abbrev main_v249 : Ref sig .tc := ⟨.hbm, 384, rfl⟩
abbrev main_v250 : Ref sig .tc := ⟨.hbm, 385, rfl⟩
abbrev main_v251 : Ref sig .tc := ⟨.hbm, 386, rfl⟩
abbrev main_v252 : Ref sig .tc := ⟨.hbm, 387, rfl⟩
abbrev main_v253 : Ref sig .tc := ⟨.hbm, 388, rfl⟩
abbrev main_v254 : Ref sig .tc := ⟨.hbm, 389, rfl⟩
abbrev main_v255 : Ref sig .tc := ⟨.hbm, 390, rfl⟩
abbrev main_v256 : Ref sig .tc := ⟨.hbm, 391, rfl⟩
abbrev main_v257 : Ref sig .tc := ⟨.hbm, 392, rfl⟩
abbrev main_v258 : Ref sig .tc := ⟨.hbm, 393, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg4_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg4_0 : Ref sig .tc := ⟨.vmem, 61, rfl⟩
abbrev cc8_stg4_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg2_0 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg3_0 : Ref sig .tc := ⟨.vmem, 74, rfl⟩
abbrev cc10_stg4_0 : Ref sig .tc := ⟨.vmem, 75, rfl⟩
abbrev cc10_stg4_1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg2_0 : Ref sig .tc := ⟨.vmem, 80, rfl⟩
abbrev cc11_stg3_0 : Ref sig .tc := ⟨.vmem, 81, rfl⟩
abbrev cc11_stg4_0 : Ref sig .tc := ⟨.vmem, 82, rfl⟩
abbrev cc11_stg4_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg3_0 : Ref sig .tc := ⟨.vmem, 88, rfl⟩
abbrev cc12_stg4_0 : Ref sig .tc := ⟨.vmem, 89, rfl⟩
abbrev cc12_stg4_1 : Ref sig .tc := ⟨.vmem, 90, rfl⟩
abbrev cc13_stg0_0 : Ref sig .tc := ⟨.vmem, 91, rfl⟩
abbrev cc13_stg0_1 : Ref sig .tc := ⟨.vmem, 92, rfl⟩
abbrev cc13_stg1_0 : Ref sig .tc := ⟨.vmem, 93, rfl⟩
abbrev cc13_stg2_0 : Ref sig .tc := ⟨.vmem, 94, rfl⟩
abbrev cc13_stg3_0 : Ref sig .tc := ⟨.vmem, 95, rfl⟩
abbrev cc13_stg4_0 : Ref sig .tc := ⟨.vmem, 96, rfl⟩
abbrev cc13_stg4_1 : Ref sig .tc := ⟨.vmem, 97, rfl⟩
abbrev cc14_stg0_0 : Ref sig .tc := ⟨.vmem, 98, rfl⟩
abbrev cc14_stg0_1 : Ref sig .tc := ⟨.vmem, 99, rfl⟩
abbrev cc14_stg1_0 : Ref sig .tc := ⟨.vmem, 100, rfl⟩
abbrev cc14_stg2_0 : Ref sig .tc := ⟨.vmem, 101, rfl⟩
abbrev cc14_stg3_0 : Ref sig .tc := ⟨.vmem, 102, rfl⟩
abbrev cc14_stg4_0 : Ref sig .tc := ⟨.vmem, 103, rfl⟩
abbrev cc14_stg4_1 : Ref sig .tc := ⟨.vmem, 104, rfl⟩
abbrev cc15_stg0_0 : Ref sig .tc := ⟨.vmem, 105, rfl⟩
abbrev cc15_stg0_1 : Ref sig .tc := ⟨.vmem, 106, rfl⟩
abbrev cc15_stg1_0 : Ref sig .tc := ⟨.vmem, 107, rfl⟩
abbrev cc15_stg2_0 : Ref sig .tc := ⟨.vmem, 108, rfl⟩
abbrev cc15_stg3_0 : Ref sig .tc := ⟨.vmem, 109, rfl⟩
abbrev cc15_stg4_0 : Ref sig .tc := ⟨.vmem, 110, rfl⟩
abbrev cc15_stg4_1 : Ref sig .tc := ⟨.vmem, 111, rfl⟩
abbrev cc16_stg0_0 : Ref sig .tc := ⟨.vmem, 112, rfl⟩
abbrev cc16_stg0_1 : Ref sig .tc := ⟨.vmem, 113, rfl⟩
abbrev cc16_stg1_0 : Ref sig .tc := ⟨.vmem, 114, rfl⟩
abbrev cc16_stg2_0 : Ref sig .tc := ⟨.vmem, 115, rfl⟩
abbrev cc16_stg3_0 : Ref sig .tc := ⟨.vmem, 116, rfl⟩
abbrev cc16_stg4_0 : Ref sig .tc := ⟨.vmem, 117, rfl⟩
abbrev cc16_stg4_1 : Ref sig .tc := ⟨.vmem, 118, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem4_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem4_0 : DmaSem sig := 61
abbrev cc8_sem4_1 : DmaSem sig := 62
abbrev cc9_sem0_0 : DmaSem sig := 63
abbrev cc9_sem0_1 : DmaSem sig := 64
abbrev cc9_sem1_0 : DmaSem sig := 65
abbrev cc9_sem2_0 : DmaSem sig := 66
abbrev cc9_sem3_0 : DmaSem sig := 67
abbrev cc9_sem4_0 : DmaSem sig := 68
abbrev cc9_sem4_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem3_0 : DmaSem sig := 74
abbrev cc10_sem4_0 : DmaSem sig := 75
abbrev cc10_sem4_1 : DmaSem sig := 76
abbrev cc11_sem0_0 : DmaSem sig := 77
abbrev cc11_sem0_1 : DmaSem sig := 78
abbrev cc11_sem1_0 : DmaSem sig := 79
abbrev cc11_sem2_0 : DmaSem sig := 80
abbrev cc11_sem3_0 : DmaSem sig := 81
abbrev cc11_sem4_0 : DmaSem sig := 82
abbrev cc11_sem4_1 : DmaSem sig := 83
abbrev cc12_sem0_0 : DmaSem sig := 84
abbrev cc12_sem0_1 : DmaSem sig := 85
abbrev cc12_sem1_0 : DmaSem sig := 86
abbrev cc12_sem2_0 : DmaSem sig := 87
abbrev cc12_sem3_0 : DmaSem sig := 88
abbrev cc12_sem4_0 : DmaSem sig := 89
abbrev cc12_sem4_1 : DmaSem sig := 90
abbrev cc13_sem0_0 : DmaSem sig := 91
abbrev cc13_sem0_1 : DmaSem sig := 92
abbrev cc13_sem1_0 : DmaSem sig := 93
abbrev cc13_sem2_0 : DmaSem sig := 94
abbrev cc13_sem3_0 : DmaSem sig := 95
abbrev cc13_sem4_0 : DmaSem sig := 96
abbrev cc13_sem4_1 : DmaSem sig := 97
abbrev cc14_sem0_0 : DmaSem sig := 98
abbrev cc14_sem0_1 : DmaSem sig := 99
abbrev cc14_sem1_0 : DmaSem sig := 100
abbrev cc14_sem2_0 : DmaSem sig := 101
abbrev cc14_sem3_0 : DmaSem sig := 102
abbrev cc14_sem4_0 : DmaSem sig := 103
abbrev cc14_sem4_1 : DmaSem sig := 104
abbrev cc15_sem0_0 : DmaSem sig := 105
abbrev cc15_sem0_1 : DmaSem sig := 106
abbrev cc15_sem1_0 : DmaSem sig := 107
abbrev cc15_sem2_0 : DmaSem sig := 108
abbrev cc15_sem3_0 : DmaSem sig := 109
abbrev cc15_sem4_0 : DmaSem sig := 110
abbrev cc15_sem4_1 : DmaSem sig := 111
abbrev cc16_sem0_0 : DmaSem sig := 112
abbrev cc16_sem0_1 : DmaSem sig := 113
abbrev cc16_sem1_0 : DmaSem sig := 114
abbrev cc16_sem2_0 : DmaSem sig := 115
abbrev cc16_sem3_0 : DmaSem sig := 116
abbrev cc16_sem4_0 : DmaSem sig := 117
abbrev cc16_sem4_1 : DmaSem sig := 118

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x66x258x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x27 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x27 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16384x27 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x66x258x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x64x27 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x27 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x27 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x16384x27 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![2], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x66x258x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x64x27 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x27 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x27 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x16384x27 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![2], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x66x258x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x64x27 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x27 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x27 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x16384x27 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![2, 16], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x9x4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S9x64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x4096x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨1, ![2], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x68x260x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S9x64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x16384x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![2], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x68x260x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S9x64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1x16384x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![2], ![false]⟩

def cc7_transform_0 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x68x260x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S9x64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1x16384x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![2], ![false]⟩

def cc8_transform_0 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x68x260x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S9x64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1x16384x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![2], ![false]⟩

def cc9_transform_0 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x68x260x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S9x64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1x16384x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![2], ![false]⟩

def cc10_transform_0 (i : grid10.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x68x260x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S9x64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S1x16384x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![2], ![false]⟩

def cc11_transform_0 (i : grid11.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x68x260x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S9x64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S1x16384x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![2], ![false]⟩

def cc12_transform_0 (i : grid12.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x68x260x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S9x64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S1x16384x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![2], ![false]⟩

def cc13_transform_0 (i : grid13.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc13_transform_1 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x66x258x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S9x64x1 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x1 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S1x16384x1 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![2], ![false]⟩

def cc14_transform_0 (i : grid14.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc14_transform_1 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S1x66x258x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S9x64x1 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x1 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 2 → Memref sig .tc .vmem S1x16384x1 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![2], ![false]⟩

def cc15_transform_0 (i : grid15.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc15_transform_1 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x66x258x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S9x64x1 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x1 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S1x16384x1 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨1, ![2], ![false]⟩

def cc16_transform_0 (i : grid16.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc16_transform_1 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S1x66x258x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S9x64x1 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x1 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 2 → Memref sig .tc .vmem S1x16384x1 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]
-- ==== ReferenceIdeal.lean ====
abbrev S2x64x256x256 : Shape := ⟨4, ![2, 64, 256, 256]⟩
abbrev S27x64x3x3 : Shape := ⟨4, ![27, 64, 3, 3]⟩
abbrev S27 : Shape := ⟨1, ![27]⟩
abbrev S64x64x3x3 : Shape := ⟨4, ![64, 64, 3, 3]⟩
abbrev S64 : Shape := ⟨1, ![64]⟩
abbrev S1x64x3x3 : Shape := ⟨4, ![1, 64, 3, 3]⟩
abbrev S1 : Shape := ⟨1, ![1]⟩
abbrev S_ : Shape := ⟨0, ![]⟩
abbrev S2x64x258x258 : Shape := ⟨4, ![2, 64, 258, 258]⟩
abbrev S2x64x256x258 : Shape := ⟨4, ![2, 64, 256, 258]⟩
abbrev S2x192x256x258 : Shape := ⟨4, ![2, 192, 256, 258]⟩
abbrev S2x192x256x256 : Shape := ⟨4, ![2, 192, 256, 256]⟩
abbrev S2x576x256x256 : Shape := ⟨4, ![2, 576, 256, 256]⟩
abbrev S27x3x3x64 : Shape := ⟨4, ![27, 3, 3, 64]⟩
abbrev S27x576 : Shape := ⟨2, ![27, 576]⟩
abbrev S27x2x256x256 : Shape := ⟨4, ![27, 2, 256, 256]⟩
abbrev S2x27x256x256 : Shape := ⟨4, ![2, 27, 256, 256]⟩
abbrev S2x9x256x256 : Shape := ⟨4, ![2, 9, 256, 256]⟩
abbrev S3x3 : Shape := ⟨2, ![3, 3]⟩
abbrev S9 : Shape := ⟨1, ![9]⟩
abbrev S2x64x65536 : Shape := ⟨3, ![2, 64, 65536]⟩
abbrev S2x1x9x256x256 : Shape := ⟨5, ![2, 1, 9, 256, 256]⟩
abbrev S2x2x9x256x256 : Shape := ⟨5, ![2, 2, 9, 256, 256]⟩
abbrev S2x2x2x9x256x256 : Shape := ⟨6, ![2, 2, 2, 9, 256, 256]⟩
abbrev S2x2359296 : Shape := ⟨2, ![2, 2359296]⟩
abbrev S2x2359296x1 : Shape := ⟨3, ![2, 2359296, 1]⟩
abbrev S2x64x2359296 : Shape := ⟨3, ![2, 64, 2359296]⟩
abbrev S2x64x2x2x9x256x256 : Shape := ⟨7, ![2, 64, 2, 2, 9, 256, 256]⟩
abbrev S2x64x9x256x256 : Shape := ⟨5, ![2, 64, 9, 256, 256]⟩
abbrev S64x64x9 : Shape := ⟨3, ![64, 64, 9]⟩
abbrev S64x2x256x256 : Shape := ⟨4, ![64, 2, 256, 256]⟩
abbrev S2x64x260x260 : Shape := ⟨4, ![2, 64, 260, 260]⟩
abbrev S2x64x256x260 : Shape := ⟨4, ![2, 64, 256, 260]⟩
abbrev S2x192x256x260 : Shape := ⟨4, ![2, 192, 256, 260]⟩
abbrev S64x3x3x64 : Shape := ⟨4, ![64, 3, 3, 64]⟩
abbrev S64x576 : Shape := ⟨2, ![64, 576]⟩
abbrev S1x3x3x64 : Shape := ⟨4, ![1, 3, 3, 64]⟩
abbrev S1x576 : Shape := ⟨2, ![1, 576]⟩
abbrev S1x2x256x256 : Shape := ⟨4, ![1, 2, 256, 256]⟩
abbrev S2x1x256x256 : Shape := ⟨4, ![2, 1, 256, 256]⟩

abbrev nBuf : Space → Nat
  | .hbm => 248
  | .vmem => 0
  | .smem => 0
  | _ => 0

abbrev hbmTy0_0 (i : Nat) : BufTy := match i % 128 with
  | 0 => ⟨S2x64x256x256, .f32⟩
  | 1 => ⟨S27x64x3x3, .f32⟩
  | 2 => ⟨S27, .f32⟩
  | 3 => ⟨S64x64x3x3, .f32⟩
  | 4 => ⟨S64, .f32⟩
  | 5 => ⟨S64, .f32⟩
  | 6 => ⟨S64, .f32⟩
  | 7 => ⟨S64, .f32⟩
  | 8 => ⟨S64, .f32⟩
  | 9 => ⟨S64x64x3x3, .f32⟩
  | 10 => ⟨S64, .f32⟩
  | 11 => ⟨S64, .f32⟩
  | 12 => ⟨S64, .f32⟩
  | 13 => ⟨S64, .f32⟩
  | 14 => ⟨S64, .f32⟩
  | 15 => ⟨S64x64x3x3, .f32⟩
  | 16 => ⟨S64, .f32⟩
  | 17 => ⟨S64, .f32⟩
  | 18 => ⟨S64, .f32⟩
  | 19 => ⟨S64, .f32⟩
  | 20 => ⟨S64, .f32⟩
  | 21 => ⟨S1x64x3x3, .f32⟩
  | 22 => ⟨S1, .f32⟩
  | 23 => ⟨S_, .f32⟩
  | 24 => ⟨S2x64x258x258, .f32⟩
  | 25 => ⟨S2x64x256x258, .f32⟩
  | 26 => ⟨S2x64x256x258, .f32⟩
  | 27 => ⟨S2x64x256x258, .f32⟩
  | 28 => ⟨S2x192x256x258, .f32⟩
  | 29 => ⟨S2x192x256x256, .f32⟩
  | 30 => ⟨S2x192x256x256, .f32⟩
  | 31 => ⟨S2x192x256x256, .f32⟩
  | 32 => ⟨S2x576x256x256, .f32⟩
  | 33 => ⟨S27x3x3x64, .f32⟩
  | 34 => ⟨S27x576, .f32⟩
  | 35 => ⟨S27x2x256x256, .f32⟩
  | 36 => ⟨S2x27x256x256, .f32⟩
  | 37 => ⟨S2x27x256x256, .f32⟩
  | 38 => ⟨S2x27x256x256, .f32⟩
  | 39 => ⟨S2x9x256x256, .f32⟩
  | 40 => ⟨S2x9x256x256, .f32⟩
  | 41 => ⟨S2x9x256x256, .f32⟩
  | 42 => ⟨S_, .f32⟩
  | 43 => ⟨S2x9x256x256, .f32⟩
  | 44 => ⟨S2x9x256x256, .f32⟩
  | 45 => ⟨S2x9x256x256, .f32⟩
  | 46 => ⟨S2x9x256x256, .f32⟩
  | 47 => ⟨S2x9x256x256, .f32⟩
  | 48 => ⟨S3x3, .f32⟩
  | 49 => ⟨S9, .f32⟩
  | 50 => ⟨S_, .f32⟩
  | 51 => ⟨S9, .f32⟩
  | 52 => ⟨S9, .f32⟩
  | 53 => ⟨S3x3, .f32⟩
  | 54 => ⟨S9, .f32⟩
  | 55 => ⟨S_, .f32⟩
  | 56 => ⟨S9, .f32⟩
  | 57 => ⟨S9, .f32⟩
  | 58 => ⟨S2x9x256x256, .f32⟩
  | 59 => ⟨S2x9x256x256, .f32⟩
  | 60 => ⟨S2x9x256x256, .f32⟩
  | 61 => ⟨S2x9x256x256, .f32⟩
  | 62 => ⟨S2x9x256x256, .f32⟩
  | 63 => ⟨S2x9x256x256, .f32⟩
  | 64 => ⟨S2x9x256x256, .f32⟩
  | 65 => ⟨S2x9x256x256, .f32⟩
  | 66 => ⟨S2x9x256x256, .f32⟩
  | 67 => ⟨S2x9x256x256, .f32⟩
  | 68 => ⟨S2x9x256x256, .f32⟩
  | 69 => ⟨S2x9x256x256, .f32⟩
  | 70 => ⟨S2x9x256x256, .i32⟩
  | 71 => ⟨S2x9x256x256, .i32⟩
  | 72 => ⟨S2x64x65536, .f32⟩
  | 73 => ⟨S2x9x256x256, .f32⟩
  | 74 => ⟨S2x1x9x256x256, .f32⟩
  | 75 => ⟨S2x1x9x256x256, .f32⟩
  | 76 => ⟨S2x2x9x256x256, .f32⟩
  | 77 => ⟨S2x9x256x256, .f32⟩
  | 78 => ⟨S2x1x9x256x256, .f32⟩
  | 79 => ⟨S2x1x9x256x256, .f32⟩
  | 80 => ⟨S2x2x9x256x256, .f32⟩
  | 81 => ⟨S_, .i32⟩
  | 82 => ⟨S2x9x256x256, .i32⟩
  | 83 => ⟨S2x9x256x256, .i32⟩
  | 84 => ⟨S2x1x9x256x256, .i32⟩
  | 85 => ⟨S2x1x9x256x256, .i32⟩
  | 86 => ⟨S2x2x9x256x256, .i32⟩
  | 87 => ⟨S_, .i32⟩
  | 88 => ⟨S2x9x256x256, .i32⟩
  | 89 => ⟨S2x9x256x256, .i32⟩
  | 90 => ⟨S2x1x9x256x256, .i32⟩
  | 91 => ⟨S2x1x9x256x256, .i32⟩
  | 92 => ⟨S2x2x9x256x256, .i32⟩
  | 93 => ⟨S_, .i32⟩
  | 94 => ⟨S2x2x9x256x256, .i32⟩
  | 95 => ⟨S2x2x9x256x256, .i1⟩
  | 96 => ⟨S_, .i32⟩
  | 97 => ⟨S2x2x9x256x256, .i32⟩
  | 98 => ⟨S2x2x9x256x256, .i1⟩
  | 99 => ⟨S2x2x9x256x256, .i1⟩
  | 100 => ⟨S2x2x2x9x256x256, .i1⟩
  | 101 => ⟨S2x2x9x256x256, .i1⟩
  | 102 => ⟨S_, .i32⟩
  | 103 => ⟨S2x2x9x256x256, .i32⟩
  | 104 => ⟨S2x2x9x256x256, .i1⟩
  | 105 => ⟨S2x2x9x256x256, .i1⟩
  | 106 => ⟨S2x2x2x9x256x256, .i1⟩
  | 107 => ⟨S2x2x2x9x256x256, .i1⟩
  | 108 => ⟨S2x2x2x9x256x256, .f32⟩
  | 109 => ⟨S2x2x2x9x256x256, .f32⟩
  | 110 => ⟨S2x2x2x9x256x256, .f32⟩
  | 111 => ⟨S2x2x2x9x256x256, .f32⟩
  | 112 => ⟨S2x2x9x256x256, .i32⟩
  | 113 => ⟨S_, .i32⟩
  | 114 => ⟨S2x2x9x256x256, .i32⟩
  | 115 => ⟨S2x2x9x256x256, .i32⟩
  | 116 => ⟨S2x2x9x256x256, .i32⟩
  | 117 => ⟨S_, .i32⟩
  | 118 => ⟨S2x2x9x256x256, .i32⟩
  | 119 => ⟨S2x2x9x256x256, .i32⟩
  | 120 => ⟨S_, .i32⟩
  | 121 => ⟨S2x2x9x256x256, .i32⟩
  | 122 => ⟨S2x2x9x256x256, .i32⟩
  | 123 => ⟨S2x2x2x9x256x256, .i32⟩
  | 124 => ⟨S2x2x2x9x256x256, .i32⟩
  | 125 => ⟨S2x2x2x9x256x256, .i32⟩
  | 126 => ⟨S2x2359296, .i32⟩
  | 127 => ⟨S2x2359296x1, .i32⟩
  | _ => ⟨S2x64x256x256, .f32⟩

abbrev hbmTy0_1 (i : Nat) : BufTy := match i % 128 with
  | 0 => ⟨S2x64x2359296, .f32⟩
  | 1 => ⟨S2x64x2x2x9x256x256, .f32⟩
  | 2 => ⟨S2x2x2x9x256x256, .f32⟩
  | 3 => ⟨S2x64x2x2x9x256x256, .f32⟩
  | 4 => ⟨S2x64x2x2x9x256x256, .f32⟩
  | 5 => ⟨S_, .f32⟩
  | 6 => ⟨S2x64x9x256x256, .f32⟩
  | 7 => ⟨S2x64x9x256x256, .f32⟩
  | 8 => ⟨S2x64x9x256x256, .f32⟩
  | 9 => ⟨S64x64x9, .f32⟩
  | 10 => ⟨S64x2x256x256, .f32⟩
  | 11 => ⟨S2x64x256x256, .f32⟩
  | 12 => ⟨S2x64x256x256, .f32⟩
  | 13 => ⟨S2x64x256x256, .f32⟩
  | 14 => ⟨S_, .f32⟩
  | 15 => ⟨S64, .f32⟩
  | 16 => ⟨S64, .f32⟩
  | 17 => ⟨S64, .f32⟩
  | 18 => ⟨S2x64x256x256, .f32⟩
  | 19 => ⟨S2x64x256x256, .f32⟩
  | 20 => ⟨S64, .f32⟩
  | 21 => ⟨S2x64x256x256, .f32⟩
  | 22 => ⟨S2x64x256x256, .f32⟩
  | 23 => ⟨S2x64x256x256, .f32⟩
  | 24 => ⟨S2x64x256x256, .f32⟩
  | 25 => ⟨S_, .f32⟩
  | 26 => ⟨S2x64x256x256, .f32⟩
  | 27 => ⟨S2x64x256x256, .f32⟩
  | 28 => ⟨S_, .f32⟩
  | 29 => ⟨S2x64x260x260, .f32⟩
  | 30 => ⟨S2x64x256x260, .f32⟩
  | 31 => ⟨S2x64x256x260, .f32⟩
  | 32 => ⟨S2x64x256x260, .f32⟩
  | 33 => ⟨S2x192x256x260, .f32⟩
  | 34 => ⟨S2x192x256x256, .f32⟩
  | 35 => ⟨S2x192x256x256, .f32⟩
  | 36 => ⟨S2x192x256x256, .f32⟩
  | 37 => ⟨S2x576x256x256, .f32⟩
  | 38 => ⟨S64x3x3x64, .f32⟩
  | 39 => ⟨S64x576, .f32⟩
  | 40 => ⟨S64x2x256x256, .f32⟩
  | 41 => ⟨S2x64x256x256, .f32⟩
  | 42 => ⟨S2x64x256x256, .f32⟩
  | 43 => ⟨S2x64x256x256, .f32⟩
  | 44 => ⟨S_, .f32⟩
  | 45 => ⟨S64, .f32⟩
  | 46 => ⟨S64, .f32⟩
  | 47 => ⟨S64, .f32⟩
  | 48 => ⟨S2x64x256x256, .f32⟩
  | 49 => ⟨S2x64x256x256, .f32⟩
  | 50 => ⟨S64, .f32⟩
  | 51 => ⟨S2x64x256x256, .f32⟩
  | 52 => ⟨S2x64x256x256, .f32⟩
  | 53 => ⟨S2x64x256x256, .f32⟩
  | 54 => ⟨S2x64x256x256, .f32⟩
  | 55 => ⟨S_, .f32⟩
  | 56 => ⟨S2x64x256x256, .f32⟩
  | 57 => ⟨S2x64x256x256, .f32⟩
  | 58 => ⟨S_, .f32⟩
  | 59 => ⟨S2x64x260x260, .f32⟩
  | 60 => ⟨S2x64x256x260, .f32⟩
  | 61 => ⟨S2x64x256x260, .f32⟩
  | 62 => ⟨S2x64x256x260, .f32⟩
  | 63 => ⟨S2x192x256x260, .f32⟩
  | 64 => ⟨S2x192x256x256, .f32⟩
  | 65 => ⟨S2x192x256x256, .f32⟩
  | 66 => ⟨S2x192x256x256, .f32⟩
  | 67 => ⟨S2x576x256x256, .f32⟩
  | 68 => ⟨S64x3x3x64, .f32⟩
  | 69 => ⟨S64x576, .f32⟩
  | 70 => ⟨S64x2x256x256, .f32⟩
  | 71 => ⟨S2x64x256x256, .f32⟩
  | 72 => ⟨S2x64x256x256, .f32⟩
  | 73 => ⟨S2x64x256x256, .f32⟩
  | 74 => ⟨S_, .f32⟩
  | 75 => ⟨S64, .f32⟩
  | 76 => ⟨S64, .f32⟩
  | 77 => ⟨S64, .f32⟩
  | 78 => ⟨S2x64x256x256, .f32⟩
  | 79 => ⟨S2x64x256x256, .f32⟩
  | 80 => ⟨S64, .f32⟩
  | 81 => ⟨S2x64x256x256, .f32⟩
  | 82 => ⟨S2x64x256x256, .f32⟩
  | 83 => ⟨S2x64x256x256, .f32⟩
  | 84 => ⟨S2x64x256x256, .f32⟩
  | 85 => ⟨S_, .f32⟩
  | 86 => ⟨S2x64x256x256, .f32⟩
  | 87 => ⟨S2x64x256x256, .f32⟩
  | 88 => ⟨S_, .f32⟩
  | 89 => ⟨S2x64x258x258, .f32⟩
  | 90 => ⟨S2x64x256x258, .f32⟩
  | 91 => ⟨S2x64x256x258, .f32⟩
  | 92 => ⟨S2x64x256x258, .f32⟩
  | 93 => ⟨S2x192x256x258, .f32⟩
  | 94 => ⟨S2x192x256x256, .f32⟩
  | 95 => ⟨S2x192x256x256, .f32⟩
  | 96 => ⟨S2x192x256x256, .f32⟩
  | 97 => ⟨S2x576x256x256, .f32⟩
  | 98 => ⟨S1x3x3x64, .f32⟩
  | 99 => ⟨S1x576, .f32⟩
  | 100 => ⟨S1x2x256x256, .f32⟩
  | 101 => ⟨S2x1x256x256, .f32⟩
  | 102 => ⟨S2x1x256x256, .f32⟩
  | 103 => ⟨S2x1x256x256, .f32⟩
  | 104 => ⟨S2x1x256x256, .f32⟩
  | 105 => ⟨S2x1x256x256, .f32⟩
  | 106 => ⟨S_, .f32⟩
  | 107 => ⟨S2x1x256x256, .f32⟩
  | 108 => ⟨S2x1x256x256, .f32⟩
  | 109 => ⟨S_, .f32⟩
  | 110 => ⟨S2x1x256x256, .f32⟩
  | 111 => ⟨S2x1x256x256, .f32⟩
  | 112 => ⟨S_, .f32⟩
  | 113 => ⟨S_, .f32⟩
  | 114 => ⟨S_, .f32⟩
  | 115 => ⟨S2x1x256x256, .f32⟩
  | 116 => ⟨S2x1x256x256, .f32⟩
  | 117 => ⟨S_, .f32⟩
  | 118 => ⟨S2x1x256x256, .f32⟩
  | 119 => ⟨S2x1x256x256, .f32⟩
  | _ => ⟨S2x64x256x256, .f32⟩

abbrev hbmTy (i : Nat) : BufTy := match i / 128 with
  | 0 => hbmTy0_0 i
  | 1 => hbmTy0_1 i
  | _ => ⟨S2x64x256x256, .f32⟩

abbrev bufTy : (tb : Table) → Fin (tcTables nBuf tb) → BufTy
  | .hbm, ⟨i, _⟩ => hbmTy i
  | _, _ => ⟨S2x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_3 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_4 : Ref sig .tc := ⟨.hbm, 93, rfl⟩
abbrev main_v64 : Ref sig .tc := ⟨.hbm, 94, rfl⟩
abbrev main_v65 : Ref sig .tc := ⟨.hbm, 95, rfl⟩
abbrev main_c_5 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_6 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_7 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_8 : Ref sig .tc := ⟨.hbm, 117, rfl⟩
abbrev main_v84 : Ref sig .tc := ⟨.hbm, 118, rfl⟩
abbrev main_v85 : Ref sig .tc := ⟨.hbm, 119, rfl⟩
abbrev main_c_9 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call0_v0 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_10 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_11 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_12 : Ref sig .tc := ⟨.hbm, 153, rfl⟩
abbrev main_v115 : Ref sig .tc := ⟨.hbm, 154, rfl⟩
abbrev main_v116 : Ref sig .tc := ⟨.hbm, 155, rfl⟩
abbrev main_cst_13 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_14 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_15 : Ref sig .tc := ⟨.hbm, 183, rfl⟩
abbrev main_v142 : Ref sig .tc := ⟨.hbm, 184, rfl⟩
abbrev main_v143 : Ref sig .tc := ⟨.hbm, 185, rfl⟩
abbrev main_cst_16 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_17 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_cst_18 : Ref sig .tc := ⟨.hbm, 213, rfl⟩
abbrev main_v169 : Ref sig .tc := ⟨.hbm, 214, rfl⟩
abbrev main_v170 : Ref sig .tc := ⟨.hbm, 215, rfl⟩
abbrev main_cst_19 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_cst_20 : Ref sig .tc := ⟨.hbm, 234, rfl⟩
abbrev main_v188 : Ref sig .tc := ⟨.hbm, 235, rfl⟩
abbrev main_v189 : Ref sig .tc := ⟨.hbm, 236, rfl⟩
abbrev main_cst_21 : Ref sig .tc := ⟨.hbm, 237, rfl⟩
abbrev main_v190 : Ref sig .tc := ⟨.hbm, 238, rfl⟩
abbrev main_v191 : Ref sig .tc := ⟨.hbm, 239, rfl⟩
abbrev main_cst_22 : Ref sig .tc := ⟨.hbm, 240, rfl⟩
abbrev main_cst_23 : Ref sig .tc := ⟨.hbm, 241, rfl⟩
abbrev main_call1_v0 : Ref sig .tc := ⟨.hbm, 242, rfl⟩
abbrev main_call1_v1 : Ref sig .tc := ⟨.hbm, 243, rfl⟩
abbrev main_call1_v2 : Ref sig .tc := ⟨.hbm, 244, rfl⟩
abbrev main_call1_v3 : Ref sig .tc := ⟨.hbm, 245, rfl⟩
abbrev main_call1_v4 : Ref sig .tc := ⟨.hbm, 246, rfl⟩
abbrev main_v192 : Ref sig .tc := ⟨.hbm, 247, rfl⟩

abbrev nD : Nat := 1
abbrev τ : Topo := Topo.v7x

variable {F : FTy → Type} [FloatOps F]
-- ==== Proof.Spec.lean ====
/- Arrays of extended reals read at natural-number coordinates, and the mathematics that the kernel and the reference
   are both shown to compute, written over such readings. -/
module

public import Idealize.ShloMosaic.Lib.Pointwise

@[expose] public section

noncomputable section

namespace Cert.Spec

open Idealize.ShloMosaic

/-- The element of a rank-2 array at two natural numbers, zero outside the array. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

/-- The element of a rank-3 array at three natural numbers, zero outside the array. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

/-- The element of a rank-4 array at four natural numbers, zero outside the array. -/
def at4 {n0 n1 n2 n3 : ℕ} (X : (⟨4, ![n0, n1, n2, n3]⟩ : Shape).Idx → EReal) (a b c d : ℕ) : EReal :=
  if h : a < n0 ∧ b < n1 ∧ c < n2 ∧ d < n3 then X (ix4 ⟨a, h.1⟩ ⟨b, h.2.1⟩ ⟨c, h.2.2.1⟩ ⟨d, h.2.2.2⟩) else 0

/-- A rank-2 array at an index is its reading at the index's coordinates. -/
theorem ix2_at {n0 n1 : ℕ} (X : (⟨2, ![n0, n1]⟩ : Shape).Idx → EReal) (i : Fin n0) (j : Fin n1) {a b : ℕ}
    (ha : i.val = a) (hb : j.val = b) : X (ix2 i j) = at2 X a b := by
  subst ha hb; unfold at2; rw [dif_pos ⟨i.2, j.2⟩]

/-- A rank-3 array at an index is its reading at the index's coordinates. -/
theorem ix3_at {n0 n1 n2 : ℕ} (X : (⟨3, ![n0, n1, n2]⟩ : Shape).Idx → EReal) (i : Fin n0) (j : Fin n1) (k : Fin n2)
    {a b c : ℕ} (ha : i.val = a) (hb : j.val = b) (hc : k.val = c) : X (ix3 i j k) = at3 X a b c := by
  subst ha hb hc; unfold at3; rw [dif_pos ⟨i.2, j.2, k.2⟩]

/-- A rank-4 array at an index is its reading at the index's coordinates. -/
theorem ix4_at {n0 n1 n2 n3 : ℕ} (X : (⟨4, ![n0, n1, n2, n3]⟩ : Shape).Idx → EReal)
    (i : Fin n0) (j : Fin n1) (k : Fin n2) (l : Fin n3) {a b c d : ℕ}
    (ha : i.val = a) (hb : j.val = b) (hc : k.val = c) (hd : l.val = d) : X (ix4 i j k l) = at4 X a b c d := by
  subst ha hb hc hd; unfold at4; rw [dif_pos ⟨i.2, j.2, k.2, l.2⟩]

/-- One tap of a convolution in channels-last layout: the products over the input channels, summed. -/
def tap {n0 n1 n2 n3 m0 m1 m2 : ℕ} (C : ℕ) (x : (⟨4, ![n0, n1, n2, n3]⟩ : Shape).Idx → EReal)
    (w : (⟨3, ![m0, m1, m2]⟩ : Shape).Idx → EReal) (b r q k o : ℕ) : EReal :=
  ∑ c : Fin C, at4 x b r q c * at3 w k c o

/-- The nine taps at dilation `d`, added in order. -/
def taps {n0 n1 n2 n3 m0 m1 m2 : ℕ} (d : ℕ) (x : (⟨4, ![n0, n1, n2, n3]⟩ : Shape).Idx → EReal)
    (w : (⟨3, ![m0, m1, m2]⟩ : Shape).Idx → EReal) (b r q o : ℕ) : EReal :=
  tap 64 x w b r q 0 o + tap 64 x w b r (q + d) 1 o + tap 64 x w b r (q + 2 * d) 2 o
    + tap 64 x w b (r + d) q 3 o + tap 64 x w b (r + d) (q + d) 4 o + tap 64 x w b (r + d) (q + 2 * d) 5 o
    + tap 64 x w b (r + 2 * d) q 6 o + tap 64 x w b (r + 2 * d) (q + d) 7 o + tap 64 x w b (r + 2 * d) (q + 2 * d) 8 o

/-- A sum over the channels of products of two arrays' elements is a tap at the elements' coordinates. -/
theorem tap_of {n0 n1 n2 n3 m0 m1 m2 : ℕ} {x : (⟨4, ![n0, n1, n2, n3]⟩ : Shape).Idx → EReal}
    {w : (⟨3, ![m0, m1, m2]⟩ : Shape).Idx → EReal} {C : ℕ} {i : Fin n0} {j : Fin n1} {l : Fin n2} {f : Fin C → Fin n3}
    {g : Fin C → Fin m1} {u : Fin m0} {v : Fin m2} {b r q k o : ℕ} (hf : ∀ c, (f c).val = c.val) (hg : ∀ c, (g c).val = c.val)
    (hi : i.val = b) (hj : j.val = r) (hl : l.val = q) (hu : u.val = k) (hv : v.val = o) :
    ∑ c, x (ix4 i j l (f c)) * w (ix3 u (g c) v) = tap C x w b r q k o :=
  Finset.sum_congr rfl fun c _ => by rw [ix4_at x i j l (f c) hi hj hl (hf c), ix3_at w u (g c) v hu (hg c) hv]

/-- Nine terms added in order, equal term by term. -/
theorem add9 {a0 a1 a2 a3 a4 a5 a6 a7 a8 b0 b1 b2 b3 b4 b5 b6 b7 b8 : EReal} (h0 : a0 = b0) (h1 : a1 = b1) (h2 : a2 = b2)
    (h3 : a3 = b3) (h4 : a4 = b4) (h5 : a5 = b5) (h6 : a6 = b6) (h7 : a7 = b7) (h8 : a8 = b8) :
    a0 + a1 + a2 + a3 + a4 + a5 + a6 + a7 + a8 = b0 + b1 + b2 + b3 + b4 + b5 + b6 + b7 + b8 := by
  subst h0 h1 h2 h3 h4 h5 h6 h7 h8; rfl

/-- Two scaled and shifted values, equal part by part. -/
theorem affine_congr {a b s s' t t' : EReal} (h : a = b) (hs : s = s') (ht : t = t') : a * s + t = b * s' + t' := by
  subst h hs ht; rfl

/-- The head's activation: the logistic function, clipped to the kernel's two constants. -/
def squash (y : EReal) : EReal :=
  min (Ideal.ofBits .f32 1065351538#32) (max (Ideal.ofBits .f32 953267991#32) (Ideal.logistic y))

/-- What a 3×3 convolution over a padded channels-last array, scaled, shifted and passed through `act`, leaves of each image's
    rows laid out one after another, 256 positions each. -/
def convOut {n0 n1 n2 n3 m0 m1 m2 u0 u1 v0 v1 : ℕ} (d : ℕ) (act : EReal → EReal)
    (x : (⟨4, ![n0, n1, n2, n3]⟩ : Shape).Idx → EReal) (w : (⟨3, ![m0, m1, m2]⟩ : Shape).Idx → EReal)
    (s : (⟨2, ![u0, u1]⟩ : Shape).Idx → EReal) (t : (⟨2, ![v0, v1]⟩ : Shape).Idx → EReal) (b p o : ℕ) : EReal :=
  act (taps d x w b (p / 256) (p % 256) o * at2 s 0 o + at2 t 0 o)

/-- Taps over arrays that read alike are equal. -/
theorem taps_congr {n0 n1 n2 n3 m0 m1 m2 n0' n1' n2' n3' m0' m1' m2' : ℕ} {d : ℕ}
    {x : (⟨4, ![n0, n1, n2, n3]⟩ : Shape).Idx → EReal} {w : (⟨3, ![m0, m1, m2]⟩ : Shape).Idx → EReal}
    {x' : (⟨4, ![n0', n1', n2', n3']⟩ : Shape).Idx → EReal} {w' : (⟨3, ![m0', m1', m2']⟩ : Shape).Idx → EReal}
    {b b' r r' q o : ℕ} (hx : ∀ i j k, i ≤ 2 * d → j ≤ 2 * d → k < 64 → at4 x b (r + i) (q + j) k = at4 x' b' (r' + i) (q + j) k)
    (hw : ∀ i j k, i < 9 → j < 64 → at3 w i j k = at3 w' i j k) : taps d x w b r q o = taps d x' w' b' r' q o := by
  have e : ∀ i j k, i ≤ 2 * d → j ≤ 2 * d → k < 9 → tap 64 x w b (r + i) (q + j) k o = tap 64 x' w' b' (r' + i) (q + j) k o :=
    fun i j k hi hj hk => Finset.sum_congr rfl fun c _ => by rw [hx i j c hi hj c.2, hw k c o hk c.2]
  unfold taps
  refine add9 (e 0 0 _ ?_ ?_ ?_) (e 0 d _ ?_ ?_ ?_) (e 0 (2 * d) _ ?_ ?_ ?_) (e d 0 _ ?_ ?_ ?_) (e d d _ ?_ ?_ ?_)
    (e d (2 * d) _ ?_ ?_ ?_) (e (2 * d) 0 _ ?_ ?_ ?_) (e (2 * d) d _ ?_ ?_ ?_) (e (2 * d) (2 * d) _ ?_ ?_ ?_) <;> omega

/-- Two rank-4 arrays with equal elements read alike where both coordinates lie inside. -/
theorem at4_congr {n0 n1 n2 n3 n0' n1' n2' n3' : ℕ} {x : (⟨4, ![n0, n1, n2, n3]⟩ : Shape).Idx → EReal}
    {x' : (⟨4, ![n0', n1', n2', n3']⟩ : Shape).Idx → EReal} {a b c d a' b' c' d' : ℕ}
    (hc : (a < n0 ∧ b < n1 ∧ c < n2 ∧ d < n3) ↔ (a' < n0' ∧ b' < n1' ∧ c' < n2' ∧ d' < n3'))
    (h : ∀ (h : a < n0 ∧ b < n1 ∧ c < n2 ∧ d < n3) (h' : a' < n0' ∧ b' < n1' ∧ c' < n2' ∧ d' < n3'),
      x (ix4 ⟨a, h.1⟩ ⟨b, h.2.1⟩ ⟨c, h.2.2.1⟩ ⟨d, h.2.2.2⟩) = x' (ix4 ⟨a', h'.1⟩ ⟨b', h'.2.1⟩ ⟨c', h'.2.2.1⟩ ⟨d', h'.2.2.2⟩)) :
    at4 x a b c d = at4 x' a' b' c' d' := by
  unfold at4
  by_cases k : a < n0 ∧ b < n1 ∧ c < n2 ∧ d < n3
  · rw [dif_pos k, dif_pos (hc.1 k), h k (hc.1 k)]
  · rw [dif_neg k, dif_neg (fun k' => k (hc.2 k'))]

/-- Two rank-3 arrays of one shape with equal elements read alike. -/
theorem at3_congr {n0 n1 n2 : ℕ} {x x' : (⟨3, ![n0, n1, n2]⟩ : Shape).Idx → EReal} {a b c : ℕ}
    (h : ∀ i j k, x (ix3 i j k) = x' (ix3 i j k)) : at3 x a b c = at3 x' a b c := by
  unfold at3; split <;> [exact h _ _ _; rfl]

/-- Two rank-2 arrays of one shape with equal elements read alike. -/
theorem at2_congr {n0 n1 : ℕ} {x x' : (⟨2, ![n0, n1]⟩ : Shape).Idx → EReal} {a b : ℕ}
    (h : ∀ i j, x (ix2 i j) = x' (ix2 i j)) : at2 x a b = at2 x' a b := by
  unfold at2; split <;> [exact h _ _; rfl]

/-- A convolution over one image's block is the convolution over the array of images that the block is cut from. -/
theorem convOut_block {N n1 n2 n3 m0 m1 m2 u0 u1 v0 v1 : ℕ} {d : ℕ} {act : EReal → EReal}
    {x : (⟨4, ![1, n1, n2, n3]⟩ : Shape).Idx → EReal} {w w' : (⟨3, ![m0, m1, m2]⟩ : Shape).Idx → EReal}
    {s s' : (⟨2, ![u0, u1]⟩ : Shape).Idx → EReal} {t t' : (⟨2, ![v0, v1]⟩ : Shape).Idx → EReal}
    {x' : (⟨4, ![N, n1, n2, n3]⟩ : Shape).Idx → EReal} {p o : ℕ} (b : Fin N)
    (hx : ∀ i j k, x (ix4 0 i j k) = x' (ix4 b i j k)) (hw : ∀ i j k, w (ix3 i j k) = w' (ix3 i j k))
    (hs : ∀ i j, s (ix2 i j) = s' (ix2 i j)) (ht : ∀ i j, t (ix2 i j) = t' (ix2 i j)) :
    convOut d act x w s t 0 p o = convOut d act x' w' s' t' b p o := by
  unfold convOut
  refine congrArg act (affine_congr (taps_congr (fun i j k _ _ _ => at4_congr ?_ fun h h' => ?_) fun i j k _ _ => at3_congr hw)
    (at2_congr hs) (at2_congr ht))
  · have := b.2; constructor <;> rintro ⟨-, h⟩ <;> exact ⟨by omega, h⟩
  · exact hx _ _ _

end Cert.Spec

end
-- ==== Proof.Bands.lean ====
/- A convolution done in four bands of 64 rows: each band's result, and the four put together. -/
module

public import proofs.«01_k».proof.Proof.Spec

@[expose] public section

noncomputable section

namespace Cert.Spec

open Idealize.ShloMosaic

/-- A convolution over one band of rows is the convolution over the whole padded array, at the band's own positions. -/
theorem convOut_band {n N M m0 m1 m2 u0 u1 v0 v1 : ℕ} {d : ℕ} {act : EReal → EReal}
    {x : (⟨4, ![2, n, M, 64]⟩ : Shape).Idx → EReal} {P : (⟨4, ![2, N, M, 64]⟩ : Shape).Idx → EReal}
    {w : (⟨3, ![m0, m1, m2]⟩ : Shape).Idx → EReal} {s : (⟨2, ![u0, u1]⟩ : Shape).Idx → EReal}
    {t : (⟨2, ![v0, v1]⟩ : Shape).Idx → EReal} (i : ℕ) (hn : n = 64 + 2 * d) (hN : n + 64 * i ≤ N)
    (hx : ∀ (b : Fin 2) (r : Fin n) (q : Fin M) (c : Fin 64), x (ix4 b r q c) = P (ix4 b ⟨64 * i + r.val, by omega⟩ q c))
    {b p o : ℕ} (hp : p < 16384) : convOut d act x w s t b p o = convOut d act P w s t b (p + 16384 * i) o := by
  unfold convOut
  rw [show (p + 16384 * i) % 256 = p % 256 by omega]
  refine congrArg act (affine_congr (taps_congr (fun j k l hj hk hl => ?_) fun _ _ _ _ _ => rfl) rfl rfl)
  unfold at4
  have hr : p / 256 + j < n := by omega
  have hR : (p + 16384 * i) / 256 + j < N := by omega
  by_cases h : b < 2 ∧ p % 256 + k < M
  · rw [dif_pos ⟨h.1, hr, h.2, hl⟩, dif_pos ⟨h.1, hR, h.2, hl⟩, hx]
    refine congrArg P ?_
    refine congrArg (ix4 _ · _ _) (Fin.ext ?_)
    show 64 * i + (p / 256 + j) = (p + 16384 * i) / 256 + j
    omega
  · rw [dif_neg fun k => h ⟨k.1, k.2.2.1⟩, dif_neg fun k => h ⟨k.1, k.2.2.1⟩]

/-- Four bands of positions laid one after another. -/
theorem bands4 {C : ℕ} {a0 a1 a2 a3 : (⟨3, ![2, 16384, C]⟩ : Shape).Idx → EReal} (g : ℕ → ℕ → ℕ → EReal)
    (h0 : ∀ (b : Fin 2) (p : Fin 16384) (o : Fin C), a0 (ix3 b p o) = g b (p.val + 16384 * 0) o)
    (h1 : ∀ (b : Fin 2) (p : Fin 16384) (o : Fin C), a1 (ix3 b p o) = g b (p.val + 16384 * 1) o)
    (h2 : ∀ (b : Fin 2) (p : Fin 16384) (o : Fin C), a2 (ix3 b p o) = g b (p.val + 16384 * 2) o)
    (h3 : ∀ (b : Fin 2) (p : Fin 16384) (o : Fin C), a3 (ix3 b p o) = g b (p.val + 16384 * 3) o)
    (b : Fin 2) (p : Fin 65536) (o : Fin C) :
    (if h : p.val < 16384 then a0 (ix3 b ⟨p.val, h⟩ o)
      else if h : p.val - 16384 < 16384 then a1 (ix3 b ⟨p.val - 16384, h⟩ o)
      else if h : p.val - 16384 - 16384 < 16384 then a2 (ix3 b ⟨p.val - 16384 - 16384, h⟩ o)
      else a3 (ix3 b ⟨p.val - 16384 - 16384 - 16384, by omega⟩ o)) = g b p o := by
  split_ifs
  · rw [h0]; congr 1
  · rw [h1]; congr 1; dsimp only; omega
  · rw [h2]; congr 1; dsimp only; omega
  · rw [h3]; congr 1; dsimp only; omega

end Cert.Spec

end
-- ==== Proof.ConvBody.lean ====
module

public import proofs.«01_k».proof.Proof.Spec
public import proofs.«01_k».proof.Proof.Gen.KernelIdeal.Frame.Region0
public import proofs.«01_k».proof.Proof.Gen.KernelIdeal.Frame.Region1
public import proofs.«01_k».proof.Proof.Gen.KernelIdeal.Frame.Region5
public import proofs.«01_k».proof.Proof.Gen.KernelIdeal.Frame.Region9
public import proofs.«01_k».proof.Proof.Gen.KernelIdeal.Frame.Region13
public import proofs.«01_k».proof.Proof.Gen.KernelIdeal.Frame.Region14
public import Idealize.ShloMosaic.Lib.Pipeline.ValueKit

@[expose] public section

set_option maxRecDepth 16384

noncomputable section

namespace Cert.KernelIdeal.Conv

open Idealize.ShloMosaic Idealize.ShloMosaic.TcCoe Cert.KernelIdeal Cert.KernelIdeal.Gen Cert.Spec

/-- What the body of the convolution at dilation 1 with 27 output channels leaves, at an index: the nine taps over its block, scaled, shifted and activated. -/
theorem out0_at (X : Vec Ideal S1x66x258x64 .f32) (W : Vec Ideal S9x64x27 .f32) (S T : Vec Ideal S1x27 .f32)
    (p : Fin 16384) (o : Fin 27) :
    out0_4 X W S T (ix3 0 p o) = convOut 1 id X W S T 0 p o := by
  unfold out0_4
  canon_tiles x h
  all_goals
    idx_vars x
    pointwise [k0_pay1, k0_pay2, k0_pay3, k0_pay4, k0_pay5, k0_pay6, k0_pay7, k0_pay8, k0_pay9, k0_pay10, k0_pay11, k0_pay12, k0_pay13]
    refine congrArg id (affine_congr (add9 ?_ ?_ ?_ ?_ ?_ ?_ ?_ ?_ ?_) ?_ ?_)
    all_goals first
      | (refine Finset.sum_congr rfl fun c _ => congrArg₂ (· * ·) (ix4_at X _ _ _ _ ?_ ?_ ?_ ?_) (ix3_at W _ _ _ ?_ ?_ ?_) <;> first | rfl | omega | (dsimp only; omega))
      | (refine ix2_at _ _ _ ?_ ?_ <;> first | rfl | omega | (dsimp only; omega))

/-- What the body of the convolution at dilation 2 with 64 output channels leaves, at an index: the nine taps over its block, scaled, shifted and activated. -/
theorem out5_at (X : Vec Ideal S1x68x260x64 .f32) (W : Vec Ideal S9x64x64 .f32) (S T : Vec Ideal S1x64 .f32)
    (p : Fin 16384) (o : Fin 64) :
    out5_4 X W S T (ix3 0 p o) = convOut 2 (max · 0) X W S T 0 p o := by
  unfold out5_4
  canon_tiles x h
  all_goals
    idx_vars x
    pointwise [k5_pay1, k5_pay2, k5_pay3, k5_pay4, k5_pay5, k5_pay6, k5_pay7, k5_pay8, k5_pay9, k5_pay10, k5_pay11]
    refine congrArg (max · 0) (affine_congr (add9 ?_ ?_ ?_ ?_ ?_ ?_ ?_ ?_ ?_) ?_ ?_)
    all_goals first
      | (refine Finset.sum_congr rfl fun c _ => congrArg₂ (· * ·) (ix4_at X _ _ _ _ ?_ ?_ ?_ ?_) (ix3_at W _ _ _ ?_ ?_ ?_) <;> first | rfl | omega | (dsimp only; omega))
      | (refine ix2_at _ _ _ ?_ ?_ <;> first | rfl | omega | (dsimp only; omega))

/-- What the body of the convolution at dilation 1 with 1 output channel leaves, at an index: the nine taps over its block, scaled, shifted and activated. -/
theorem out13_at (X : Vec Ideal S1x66x258x64 .f32) (W : Vec Ideal S9x64x1 .f32) (S T : Vec Ideal S1x1 .f32)
    (p : Fin 16384) (o : Fin 1) :
    out13_4 X W S T (ix3 0 p o) = convOut 1 squash X W S T 0 p o := by
  unfold out13_4
  canon_tiles x h
  all_goals
    idx_vars x
    pointwise [k13_pay1, k13_pay2, k13_pay3, k13_pay4, k13_pay5, k13_pay6, k13_pay7, k13_pay8, k13_pay9, k13_pay10, k13_pay11, k13_pay12, k13_pay13, k13_pay14]
    refine congrArg squash (affine_congr (add9 ?_ ?_ ?_ ?_ ?_ ?_ ?_ ?_ ?_) ?_ ?_)
    all_goals first
      | (refine Finset.sum_congr rfl fun c _ => congrArg₂ (· * ·) (ix4_at X _ _ _ _ ?_ ?_ ?_ ?_) (ix3_at W _ _ _ ?_ ?_ ?_) <;> first | rfl | omega | (dsimp only; omega))
      | (refine ix2_at _ _ _ ?_ ?_ <;> first | rfl | omega | (dsimp only; omega))

end Cert.KernelIdeal.Conv

end
-- ==== Proof.ConvOm.lean ====
module

public import proofs.«01_k».proof.Proof.ConvBody
public import proofs.«01_k».proof.Proof.Gen.KernelIdeal.Frame.Region1
public import proofs.«01_k».proof.Proof.Gen.KernelIdeal.Frame.Region2
public import proofs.«01_k».proof.Proof.Gen.KernelIdeal.Frame.Region3

@[expose] public section

set_option maxRecDepth 16384

noncomputable section

namespace Cert.KernelIdeal.Conv

open Idealize.ShloMosaic Idealize.ShloMosaic.TcCoe Cert.KernelIdeal Cert.KernelIdeal.Gen Cert.Spec

/-- The block indices of region 0's windows: the image on the first axis, the whole array on the others. -/
theorem idx0 : ∀ t : Fin cfg0.N, win0_0.index t = ![t.val, 0, 0, 0] ∧ win0_1.index t = ![0, 0, 0] ∧ win0_2.index t = ![0, 0]
    ∧ win0_3.index t = ![0, 0] ∧ win0_4.index t = ![t.val, 0, 0] := by decide +kernel

set_option maxHeartbeats 800000 in
/-- Region 0, the first band of rows, leaves the convolution over its band of the padded array. -/
theorem arr0 (V : (c : Dev nD) → (b : Ref sig .tc) → Buf (Elt Ideal) ((c : Thread nD τ).loc b)) (c : Dev nD) :
    (dat0 V c).arrAt 4 cfg0.N = fun j : S2x16384x27.Idx => convOut 1 id (V c main_v6 : S2x66x258x64.Idx → EReal)
      (V c main_v3 : S9x64x27.Idx → EReal) (V c main_v4 : S1x27.Idx → EReal) (V c main_v5 : S1x27.Idx → EReal) (j 0) (j 1) (j 2) := by
  refine (dat0 V c).arrAt_eq_of_covers 4 _ (by decide +kernel) fun t hf y => ?_
  rw [after0_4]
  idx_vars y
  blk_simp [idx0 t]
  obtain rfl : y0 = 0 := Subsingleton.elim _ _
  exact (out0_at _ _ _ _ y1 y2).trans (convOut_block (x' := (V c main_v6 : S2x66x258x64.Idx → EReal))
    (w' := (V c main_v3 : S9x64x27.Idx → EReal)) (s' := (V c main_v4 : S1x27.Idx → EReal))
    (t' := (V c main_v5 : S1x27.Idx → EReal)) ⟨t.val, t.isLt⟩ (fun i j k => by blk_ext [iblk0, idx0 t])
    (fun i j k => by blk_ext [iblk0, idx0 t]) (fun i j => by blk_ext [iblk0, idx0 t]) fun i j => by blk_ext [iblk0, idx0 t])

/-- Region 1's body is region 0's. -/
theorem out1_eq : out1_4 (F := Ideal) = out0_4 := rfl

/-- The block indices of region 1's windows: the image on the first axis, the whole array on the others. -/
theorem idx1 : ∀ t : Fin cfg1.N, win1_0.index t = ![t.val, 0, 0, 0] ∧ win1_1.index t = ![0, 0, 0] ∧ win1_2.index t = ![0, 0]
    ∧ win1_3.index t = ![0, 0] ∧ win1_4.index t = ![t.val, 0, 0] := by decide +kernel

set_option maxHeartbeats 800000 in
/-- Region 1, the second band of rows, leaves the convolution over its band of the padded array. -/
theorem arr1 (V : (c : Dev nD) → (b : Ref sig .tc) → Buf (Elt Ideal) ((c : Thread nD τ).loc b)) (c : Dev nD) :
    (dat1 V c).arrAt 4 cfg1.N = fun j : S2x16384x27.Idx => convOut 1 id (V c main_v8 : S2x66x258x64.Idx → EReal)
      (V c main_v3 : S9x64x27.Idx → EReal) (V c main_v4 : S1x27.Idx → EReal) (V c main_v5 : S1x27.Idx → EReal) (j 0) (j 1) (j 2) := by
  refine (dat1 V c).arrAt_eq_of_covers 4 _ (by decide +kernel) fun t hf y => ?_
  rw [after1_4, out1_eq]
  idx_vars y
  blk_simp [idx1 t]
  obtain rfl : y0 = 0 := Subsingleton.elim _ _
  exact (out0_at _ _ _ _ y1 y2).trans (convOut_block (x' := (V c main_v8 : S2x66x258x64.Idx → EReal))
    (w' := (V c main_v3 : S9x64x27.Idx → EReal)) (s' := (V c main_v4 : S1x27.Idx → EReal))
    (t' := (V c main_v5 : S1x27.Idx → EReal)) ⟨t.val, t.isLt⟩ (fun i j k => by blk_ext [iblk1, idx1 t])
    (fun i j k => by blk_ext [iblk1, idx1 t]) (fun i j => by blk_ext [iblk1, idx1 t]) fun i j => by blk_ext [iblk1, idx1 t])

/-- Region 2's body is region 0's. -/
theorem out2_eq : out2_4 (F := Ideal) = out0_4 := rfl

/-- The block indices of region 2's windows: the image on the first axis, the whole array on the others. -/
theorem idx2 : ∀ t : Fin cfg2.N, win2_0.index t = ![t.val, 0, 0, 0] ∧ win2_1.index t = ![0, 0, 0] ∧ win2_2.index t = ![0, 0]
    ∧ win2_3.index t = ![0, 0] ∧ win2_4.index t = ![t.val, 0, 0] := by decide +kernel

set_option maxHeartbeats 800000 in
/-- Region 2, the third band of rows, leaves the convolution over its band of the padded array. -/
theorem arr2 (V : (c : Dev nD) → (b : Ref sig .tc) → Buf (Elt Ideal) ((c : Thread nD τ).loc b)) (c : Dev nD) :
    (dat2 V c).arrAt 4 cfg2.N = fun j : S2x16384x27.Idx => convOut 1 id (V c main_v10 : S2x66x258x64.Idx → EReal)
      (V c main_v3 : S9x64x27.Idx → EReal) (V c main_v4 : S1x27.Idx → EReal) (V c main_v5 : S1x27.Idx → EReal) (j 0) (j 1) (j 2) := by
  refine (dat2 V c).arrAt_eq_of_covers 4 _ (by decide +kernel) fun t hf y => ?_
  rw [after2_4, out2_eq]
  idx_vars y
  blk_simp [idx2 t]
  obtain rfl : y0 = 0 := Subsingleton.elim _ _
  exact (out0_at _ _ _ _ y1 y2).trans (convOut_block (x' := (V c main_v10 : S2x66x258x64.Idx → EReal))
    (w' := (V c main_v3 : S9x64x27.Idx → EReal)) (s' := (V c main_v4 : S1x27.Idx → EReal))
    (t' := (V c main_v5 : S1x27.Idx → EReal)) ⟨t.val, t.isLt⟩ (fun i j k => by blk_ext [iblk2, idx2 t])
    (fun i j k => by blk_ext [iblk2, idx2 t]) (fun i j => by blk_ext [iblk2, idx2 t]) fun i j => by blk_ext [iblk2, idx2 t])

/-- Region 3's body is region 0's. -/
theorem out3_eq : out3_4 (F := Ideal) = out0_4 := rfl

/-- The block indices of region 3's windows: the image on the first axis, the whole array on the others. -/
theorem idx3 : ∀ t : Fin cfg3.N, win3_0.index t = ![t.val, 0, 0, 0] ∧ win3_1.index t = ![0, 0, 0] ∧ win3_2.index t = ![0, 0]
    ∧ win3_3.index t = ![0, 0] ∧ win3_4.index t = ![t.val, 0, 0] := by decide +kernel

set_option maxHeartbeats 800000 in
/-- Region 3, the fourth band of rows, leaves the convolution over its band of the padded array. -/
theorem arr3 (V : (c : Dev nD) → (b : Ref sig .tc) → Buf (Elt Ideal) ((c : Thread nD τ).loc b)) (c : Dev nD) :
    (dat3 V c).arrAt 4 cfg3.N = fun j : S2x16384x27.Idx => convOut 1 id (V c main_v12 : S2x66x258x64.Idx → EReal)
      (V c main_v3 : S9x64x27.Idx → EReal) (V c main_v4 : S1x27.Idx → EReal) (V c main_v5 : S1x27.Idx → EReal) (j 0) (j 1) (j 2) := by
  refine (dat3 V c).arrAt_eq_of_covers 4 _ (by decide +kernel) fun t hf y => ?_
  rw [after3_4, out3_eq]
  idx_vars y
  blk_simp [idx3 t]
  obtain rfl : y0 = 0 := Subsingleton.elim _ _
  exact (out0_at _ _ _ _ y1 y2).trans (convOut_block (x' := (V c main_v12 : S2x66x258x64.Idx → EReal))
    (w' := (V c main_v3 : S9x64x27.Idx → EReal)) (s' := (V c main_v4 : S1x27.Idx → EReal))
    (t' := (V c main_v5 : S1x27.Idx → EReal)) ⟨t.val, t.isLt⟩ (fun i j k => by blk_ext [iblk3, idx3 t])
    (fun i j k => by blk_ext [iblk3, idx3 t]) (fun i j => by blk_ext [iblk3, idx3 t]) fun i j => by blk_ext [iblk3, idx3 t])

end Cert.KernelIdeal.Conv

end
-- ==== Proof.ConvOne.lean ====
module

public import proofs.«01_k».proof.Proof.ConvBody
public import proofs.«01_k».proof.Proof.Gen.KernelIdeal.Frame.Region6
public import proofs.«01_k».proof.Proof.Gen.KernelIdeal.Frame.Region7
public import proofs.«01_k».proof.Proof.Gen.KernelIdeal.Frame.Region8

@[expose] public section

set_option maxRecDepth 16384

noncomputable section

namespace Cert.KernelIdeal.Conv

open Idealize.ShloMosaic Idealize.ShloMosaic.TcCoe Cert.KernelIdeal Cert.KernelIdeal.Gen Cert.Spec

/-- The block indices of region 5's windows: the image on the first axis, the whole array on the others. -/
theorem idx5 : ∀ t : Fin cfg5.N, win5_0.index t = ![t.val, 0, 0, 0] ∧ win5_1.index t = ![0, 0, 0] ∧ win5_2.index t = ![0, 0]
    ∧ win5_3.index t = ![0, 0] ∧ win5_4.index t = ![t.val, 0, 0] := by decide +kernel

set_option maxHeartbeats 800000 in
/-- Region 5, the first band of rows, leaves the convolution over its band of the padded array. -/
theorem arr5 (V : (c : Dev nD) → (b : Ref sig .tc) → Buf (Elt Ideal) ((c : Thread nD τ).loc b)) (c : Dev nD) :
    (dat5 V c).arrAt 4 cfg5.N = fun j : S2x16384x64.Idx => convOut 2 (max · 0) (V c main_v211 : S2x68x260x64.Idx → EReal)
      (V c main_v208 : S9x64x64.Idx → EReal) (V c main_v209 : S1x64.Idx → EReal) (V c main_v210 : S1x64.Idx → EReal) (j 0) (j 1) (j 2) := by
  refine (dat5 V c).arrAt_eq_of_covers 4 _ (by decide +kernel) fun t hf y => ?_
  rw [after5_4]
  idx_vars y
  blk_simp [idx5 t]
  obtain rfl : y0 = 0 := Subsingleton.elim _ _
  exact (out5_at _ _ _ _ y1 y2).trans (convOut_block (x' := (V c main_v211 : S2x68x260x64.Idx → EReal))
    (w' := (V c main_v208 : S9x64x64.Idx → EReal)) (s' := (V c main_v209 : S1x64.Idx → EReal))
    (t' := (V c main_v210 : S1x64.Idx → EReal)) ⟨t.val, t.isLt⟩ (fun i j k => by blk_ext [iblk5, idx5 t])
    (fun i j k => by blk_ext [iblk5, idx5 t]) (fun i j => by blk_ext [iblk5, idx5 t]) fun i j => by blk_ext [iblk5, idx5 t])

/-- Region 6's body is region 5's. -/
theorem out6_eq : out6_4 (F := Ideal) = out5_4 := rfl

/-- The block indices of region 6's windows: the image on the first axis, the whole array on the others. -/
theorem idx6 : ∀ t : Fin cfg6.N, win6_0.index t = ![t.val, 0, 0, 0] ∧ win6_1.index t = ![0, 0, 0] ∧ win6_2.index t = ![0, 0]
    ∧ win6_3.index t = ![0, 0] ∧ win6_4.index t = ![t.val, 0, 0] := by decide +kernel

set_option maxHeartbeats 800000 in
/-- Region 6, the second band of rows, leaves the convolution over its band of the padded array. -/
theorem arr6 (V : (c : Dev nD) → (b : Ref sig .tc) → Buf (Elt Ideal) ((c : Thread nD τ).loc b)) (c : Dev nD) :
    (dat6 V c).arrAt 4 cfg6.N = fun j : S2x16384x64.Idx => convOut 2 (max · 0) (V c main_v213 : S2x68x260x64.Idx → EReal)
      (V c main_v208 : S9x64x64.Idx → EReal) (V c main_v209 : S1x64.Idx → EReal) (V c main_v210 : S1x64.Idx → EReal) (j 0) (j 1) (j 2) := by
  refine (dat6 V c).arrAt_eq_of_covers 4 _ (by decide +kernel) fun t hf y => ?_
  rw [after6_4, out6_eq]
  idx_vars y
  blk_simp [idx6 t]
  obtain rfl : y0 = 0 := Subsingleton.elim _ _
  exact (out5_at _ _ _ _ y1 y2).trans (convOut_block (x' := (V c main_v213 : S2x68x260x64.Idx → EReal))
    (w' := (V c main_v208 : S9x64x64.Idx → EReal)) (s' := (V c main_v209 : S1x64.Idx → EReal))
    (t' := (V c main_v210 : S1x64.Idx → EReal)) ⟨t.val, t.isLt⟩ (fun i j k => by blk_ext [iblk6, idx6 t])
    (fun i j k => by blk_ext [iblk6, idx6 t]) (fun i j => by blk_ext [iblk6, idx6 t]) fun i j => by blk_ext [iblk6, idx6 t])

/-- Region 7's body is region 5's. -/
theorem out7_eq : out7_4 (F := Ideal) = out5_4 := rfl

/-- The block indices of region 7's windows: the image on the first axis, the whole array on the others. -/
theorem idx7 : ∀ t : Fin cfg7.N, win7_0.index t = ![t.val, 0, 0, 0] ∧ win7_1.index t = ![0, 0, 0] ∧ win7_2.index t = ![0, 0]
    ∧ win7_3.index t = ![0, 0] ∧ win7_4.index t = ![t.val, 0, 0] := by decide +kernel

set_option maxHeartbeats 800000 in
/-- Region 7, the third band of rows, leaves the convolution over its band of the padded array. -/
theorem arr7 (V : (c : Dev nD) → (b : Ref sig .tc) → Buf (Elt Ideal) ((c : Thread nD τ).loc b)) (c : Dev nD) :
    (dat7 V c).arrAt 4 cfg7.N = fun j : S2x16384x64.Idx => convOut 2 (max · 0) (V c main_v215 : S2x68x260x64.Idx → EReal)
      (V c main_v208 : S9x64x64.Idx → EReal) (V c main_v209 : S1x64.Idx → EReal) (V c main_v210 : S1x64.Idx → EReal) (j 0) (j 1) (j 2) := by
  refine (dat7 V c).arrAt_eq_of_covers 4 _ (by decide +kernel) fun t hf y => ?_
  rw [after7_4, out7_eq]
  idx_vars y
  blk_simp [idx7 t]
  obtain rfl : y0 = 0 := Subsingleton.elim _ _
  exact (out5_at _ _ _ _ y1 y2).trans (convOut_block (x' := (V c main_v215 : S2x68x260x64.Idx → EReal))
    (w' := (V c main_v208 : S9x64x64.Idx → EReal)) (s' := (V c main_v209 : S1x64.Idx → EReal))
    (t' := (V c main_v210 : S1x64.Idx → EReal)) ⟨t.val, t.isLt⟩ (fun i j k => by blk_ext [iblk7, idx7 t])
    (fun i j k => by blk_ext [iblk7, idx7 t]) (fun i j => by blk_ext [iblk7, idx7 t]) fun i j => by blk_ext [iblk7, idx7 t])

/-- Region 8's body is region 5's. -/
theorem out8_eq : out8_4 (F := Ideal) = out5_4 := rfl

/-- The block indices of region 8's windows: the image on the first axis, the whole array on the others. -/
theorem idx8 : ∀ t : Fin cfg8.N, win8_0.index t = ![t.val, 0, 0, 0] ∧ win8_1.index t = ![0, 0, 0] ∧ win8_2.index t = ![0, 0]
    ∧ win8_3.index t = ![0, 0] ∧ win8_4.index t = ![t.val, 0, 0] := by decide +kernel

set_option maxHeartbeats 800000 in
/-- Region 8, the fourth band of rows, leaves the convolution over its band of the padded array. -/
theorem arr8 (V : (c : Dev nD) → (b : Ref sig .tc) → Buf (Elt Ideal) ((c : Thread nD τ).loc b)) (c : Dev nD) :
    (dat8 V c).arrAt 4 cfg8.N = fun j : S2x16384x64.Idx => convOut 2 (max · 0) (V c main_v217 : S2x68x260x64.Idx → EReal)
      (V c main_v208 : S9x64x64.Idx → EReal) (V c main_v209 : S1x64.Idx → EReal) (V c main_v210 : S1x64.Idx → EReal) (j 0) (j 1) (j 2) := by
  refine (dat8 V c).arrAt_eq_of_covers 4 _ (by decide +kernel) fun t hf y => ?_
  rw [after8_4, out8_eq]
  idx_vars y
  blk_simp [idx8 t]
  obtain rfl : y0 = 0 := Subsingleton.elim _ _
  exact (out5_at _ _ _ _ y1 y2).trans (convOut_block (x' := (V c main_v217 : S2x68x260x64.Idx → EReal))
    (w' := (V c main_v208 : S9x64x64.Idx → EReal)) (s' := (V c main_v209 : S1x64.Idx → EReal))
    (t' := (V c main_v210 : S1x64.Idx → EReal)) ⟨t.val, t.isLt⟩ (fun i j k => by blk_ext [iblk8, idx8 t])
    (fun i j k => by blk_ext [iblk8, idx8 t]) (fun i j => by blk_ext [iblk8, idx8 t]) fun i j => by blk_ext [iblk8, idx8 t])

end Cert.KernelIdeal.Conv

end
-- ==== Proof.ConvTwo.lean ====
module

public import proofs.«01_k».proof.Proof.ConvBody
public import proofs.«01_k».proof.Proof.Gen.KernelIdeal.Frame.Region9
public import proofs.«01_k».proof.Proof.Gen.KernelIdeal.Frame.Region10
public import proofs.«01_k».proof.Proof.Gen.KernelIdeal.Frame.Region11
public import proofs.«01_k».proof.Proof.Gen.KernelIdeal.Frame.Region12

@[expose] public section

set_option maxRecDepth 16384

noncomputable section

namespace Cert.KernelIdeal.Conv

open Idealize.ShloMosaic Idealize.ShloMosaic.TcCoe Cert.KernelIdeal Cert.KernelIdeal.Gen Cert.Spec

/-- Region 9's body is region 5's. -/
theorem out9_eq : out9_4 (F := Ideal) = out5_4 := rfl

/-- The block indices of region 9's windows: the image on the first axis, the whole array on the others. -/
theorem idx9 : ∀ t : Fin cfg9.N, win9_0.index t = ![t.val, 0, 0, 0] ∧ win9_1.index t = ![0, 0, 0] ∧ win9_2.index t = ![0, 0]
    ∧ win9_3.index t = ![0, 0] ∧ win9_4.index t = ![t.val, 0, 0] := by decide +kernel

set_option maxHeartbeats 800000 in
/-- Region 9, the first band of rows, leaves the convolution over its band of the padded array. -/
theorem arr9 (V : (c : Dev nD) → (b : Ref sig .tc) → Buf (Elt Ideal) ((c : Thread nD τ).loc b)) (c : Dev nD) :
    (dat9 V c).arrAt 4 cfg9.N = fun j : S2x16384x64.Idx => convOut 2 (max · 0) (V c main_v233 : S2x68x260x64.Idx → EReal)
      (V c main_v230 : S9x64x64.Idx → EReal) (V c main_v231 : S1x64.Idx → EReal) (V c main_v232 : S1x64.Idx → EReal) (j 0) (j 1) (j 2) := by
  refine (dat9 V c).arrAt_eq_of_covers 4 _ (by decide +kernel) fun t hf y => ?_
  rw [after9_4, out9_eq]
  idx_vars y
  blk_simp [idx9 t]
  obtain rfl : y0 = 0 := Subsingleton.elim _ _
  exact (out5_at _ _ _ _ y1 y2).trans (convOut_block (x' := (V c main_v233 : S2x68x260x64.Idx → EReal))
    (w' := (V c main_v230 : S9x64x64.Idx → EReal)) (s' := (V c main_v231 : S1x64.Idx → EReal))
    (t' := (V c main_v232 : S1x64.Idx → EReal)) ⟨t.val, t.isLt⟩ (fun i j k => by blk_ext [iblk9, idx9 t])
    (fun i j k => by blk_ext [iblk9, idx9 t]) (fun i j => by blk_ext [iblk9, idx9 t]) fun i j => by blk_ext [iblk9, idx9 t])

/-- Region 10's body is region 5's. -/
theorem out10_eq : out10_4 (F := Ideal) = out5_4 := rfl

/-- The block indices of region 10's windows: the image on the first axis, the whole array on the others. -/
theorem idx10 : ∀ t : Fin cfg10.N, win10_0.index t = ![t.val, 0, 0, 0] ∧ win10_1.index t = ![0, 0, 0] ∧ win10_2.index t = ![0, 0]
    ∧ win10_3.index t = ![0, 0] ∧ win10_4.index t = ![t.val, 0, 0] := by decide +kernel

set_option maxHeartbeats 800000 in
/-- Region 10, the second band of rows, leaves the convolution over its band of the padded array. -/
theorem arr10 (V : (c : Dev nD) → (b : Ref sig .tc) → Buf (Elt Ideal) ((c : Thread nD τ).loc b)) (c : Dev nD) :
    (dat10 V c).arrAt 4 cfg10.N = fun j : S2x16384x64.Idx => convOut 2 (max · 0) (V c main_v235 : S2x68x260x64.Idx → EReal)
      (V c main_v230 : S9x64x64.Idx → EReal) (V c main_v231 : S1x64.Idx → EReal) (V c main_v232 : S1x64.Idx → EReal) (j 0) (j 1) (j 2) := by
  refine (dat10 V c).arrAt_eq_of_covers 4 _ (by decide +kernel) fun t hf y => ?_
  rw [after10_4, out10_eq]
  idx_vars y
  blk_simp [idx10 t]
  obtain rfl : y0 = 0 := Subsingleton.elim _ _
  exact (out5_at _ _ _ _ y1 y2).trans (convOut_block (x' := (V c main_v235 : S2x68x260x64.Idx → EReal))
    (w' := (V c main_v230 : S9x64x64.Idx → EReal)) (s' := (V c main_v231 : S1x64.Idx → EReal))
    (t' := (V c main_v232 : S1x64.Idx → EReal)) ⟨t.val, t.isLt⟩ (fun i j k => by blk_ext [iblk10, idx10 t])
    (fun i j k => by blk_ext [iblk10, idx10 t]) (fun i j => by blk_ext [iblk10, idx10 t]) fun i j => by blk_ext [iblk10, idx10 t])

/-- Region 11's body is region 5's. -/
theorem out11_eq : out11_4 (F := Ideal) = out5_4 := rfl

/-- The block indices of region 11's windows: the image on the first axis, the whole array on the others. -/
theorem idx11 : ∀ t : Fin cfg11.N, win11_0.index t = ![t.val, 0, 0, 0] ∧ win11_1.index t = ![0, 0, 0] ∧ win11_2.index t = ![0, 0]
    ∧ win11_3.index t = ![0, 0] ∧ win11_4.index t = ![t.val, 0, 0] := by decide +kernel

set_option maxHeartbeats 800000 in
/-- Region 11, the third band of rows, leaves the convolution over its band of the padded array. -/
theorem arr11 (V : (c : Dev nD) → (b : Ref sig .tc) → Buf (Elt Ideal) ((c : Thread nD τ).loc b)) (c : Dev nD) :
    (dat11 V c).arrAt 4 cfg11.N = fun j : S2x16384x64.Idx => convOut 2 (max · 0) (V c main_v237 : S2x68x260x64.Idx → EReal)
      (V c main_v230 : S9x64x64.Idx → EReal) (V c main_v231 : S1x64.Idx → EReal) (V c main_v232 : S1x64.Idx → EReal) (j 0) (j 1) (j 2) := by
  refine (dat11 V c).arrAt_eq_of_covers 4 _ (by decide +kernel) fun t hf y => ?_
  rw [after11_4, out11_eq]
  idx_vars y
  blk_simp [idx11 t]
  obtain rfl : y0 = 0 := Subsingleton.elim _ _
  exact (out5_at _ _ _ _ y1 y2).trans (convOut_block (x' := (V c main_v237 : S2x68x260x64.Idx → EReal))
    (w' := (V c main_v230 : S9x64x64.Idx → EReal)) (s' := (V c main_v231 : S1x64.Idx → EReal))
    (t' := (V c main_v232 : S1x64.Idx → EReal)) ⟨t.val, t.isLt⟩ (fun i j k => by blk_ext [iblk11, idx11 t])
    (fun i j k => by blk_ext [iblk11, idx11 t]) (fun i j => by blk_ext [iblk11, idx11 t]) fun i j => by blk_ext [iblk11, idx11 t])

/-- Region 12's body is region 5's. -/
theorem out12_eq : out12_4 (F := Ideal) = out5_4 := rfl

/-- The block indices of region 12's windows: the image on the first axis, the whole array on the others. -/
theorem idx12 : ∀ t : Fin cfg12.N, win12_0.index t = ![t.val, 0, 0, 0] ∧ win12_1.index t = ![0, 0, 0] ∧ win12_2.index t = ![0, 0]
    ∧ win12_3.index t = ![0, 0] ∧ win12_4.index t = ![t.val, 0, 0] := by decide +kernel

set_option maxHeartbeats 800000 in
/-- Region 12, the fourth band of rows, leaves the convolution over its band of the padded array. -/
theorem arr12 (V : (c : Dev nD) → (b : Ref sig .tc) → Buf (Elt Ideal) ((c : Thread nD τ).loc b)) (c : Dev nD) :
    (dat12 V c).arrAt 4 cfg12.N = fun j : S2x16384x64.Idx => convOut 2 (max · 0) (V c main_v239 : S2x68x260x64.Idx → EReal)
      (V c main_v230 : S9x64x64.Idx → EReal) (V c main_v231 : S1x64.Idx → EReal) (V c main_v232 : S1x64.Idx → EReal) (j 0) (j 1) (j 2) := by
  refine (dat12 V c).arrAt_eq_of_covers 4 _ (by decide +kernel) fun t hf y => ?_
  rw [after12_4, out12_eq]
  idx_vars y
  blk_simp [idx12 t]
  obtain rfl : y0 = 0 := Subsingleton.elim _ _
  exact (out5_at _ _ _ _ y1 y2).trans (convOut_block (x' := (V c main_v239 : S2x68x260x64.Idx → EReal))
    (w' := (V c main_v230 : S9x64x64.Idx → EReal)) (s' := (V c main_v231 : S1x64.Idx → EReal))
    (t' := (V c main_v232 : S1x64.Idx → EReal)) ⟨t.val, t.isLt⟩ (fun i j k => by blk_ext [iblk12, idx12 t])
    (fun i j k => by blk_ext [iblk12, idx12 t]) (fun i j => by blk_ext [iblk12, idx12 t]) fun i j => by blk_ext [iblk12, idx12 t])

end Cert.KernelIdeal.Conv

end
-- ==== Proof.ConvHead.lean ====
module

public import proofs.«01_k».proof.Proof.ConvBody
public import proofs.«01_k».proof.Proof.Gen.KernelIdeal.Frame.Region14
public import proofs.«01_k».proof.Proof.Gen.KernelIdeal.Frame.Region15
public import proofs.«01_k».proof.Proof.Gen.KernelIdeal.Frame.Region16

@[expose] public section

set_option maxRecDepth 16384

noncomputable section

namespace Cert.KernelIdeal.Conv

open Idealize.ShloMosaic Idealize.ShloMosaic.TcCoe Cert.KernelIdeal Cert.KernelIdeal.Gen Cert.Spec

/-- The block indices of region 13's windows: the image on the first axis, the whole array on the others. -/
theorem idx13 : ∀ t : Fin cfg13.N, win13_0.index t = ![t.val, 0, 0, 0] ∧ win13_1.index t = ![0, 0, 0] ∧ win13_2.index t = ![0, 0]
    ∧ win13_3.index t = ![0, 0] ∧ win13_4.index t = ![t.val, 0, 0] := by decide +kernel

set_option maxHeartbeats 800000 in
/-- Region 13, the first band of rows, leaves the convolution over its band of the padded array. -/
theorem arr13 (V : (c : Dev nD) → (b : Ref sig .tc) → Buf (Elt Ideal) ((c : Thread nD τ).loc b)) (c : Dev nD) :
    (dat13 V c).arrAt 4 cfg13.N = fun j : S2x16384x1.Idx => convOut 1 squash (V c main_v248 : S2x66x258x64.Idx → EReal)
      (V c main_v245 : S9x64x1.Idx → EReal) (V c main_v246 : S1x1.Idx → EReal) (V c main_v247 : S1x1.Idx → EReal) (j 0) (j 1) (j 2) := by
  refine (dat13 V c).arrAt_eq_of_covers 4 _ (by decide +kernel) fun t hf y => ?_
  rw [after13_4]
  idx_vars y
  obtain rfl : y0 = 0 := Subsingleton.elim _ _
  obtain rfl : y2 = 0 := Subsingleton.elim _ _
  blk_simp [idx13 t]
  refine (out13_at (iblk13 V c 0 t) (iblk13 V c 1 t) (iblk13 V c 2 t) (iblk13 V c 3 t) y1 0).trans ?_
  refine (convOut_block (x := iblk13 V c 0 t) (w := iblk13 V c 1 t) (s := iblk13 V c 2 t) (t := iblk13 V c 3 t)
    (x' := (V c main_v248 : S2x66x258x64.Idx → EReal)) (w' := (V c main_v245 : S9x64x1.Idx → EReal))
    (s' := (V c main_v246 : S1x1.Idx → EReal)) (t' := (V c main_v247 : S1x1.Idx → EReal)) ⟨t.val, t.isLt⟩
    (fun i j k => ?_) (fun i j k => ?_) (fun i j => ?_) fun i j => ?_).trans ?_
  · blk_ext [iblk13, idx13 t]
  · blk_ext [iblk13, idx13 t]
  · blk_ext [iblk13, idx13 t]
  · blk_ext [iblk13, idx13 t]
  · rfl

/-- Region 14's body is region 13's. -/
theorem out14_eq : out14_4 (F := Ideal) = out13_4 := rfl

/-- The block indices of region 14's windows: the image on the first axis, the whole array on the others. -/
theorem idx14 : ∀ t : Fin cfg14.N, win14_0.index t = ![t.val, 0, 0, 0] ∧ win14_1.index t = ![0, 0, 0] ∧ win14_2.index t = ![0, 0]
    ∧ win14_3.index t = ![0, 0] ∧ win14_4.index t = ![t.val, 0, 0] := by decide +kernel

set_option maxHeartbeats 800000 in
/-- Region 14, the second band of rows, leaves the convolution over its band of the padded array. -/
theorem arr14 (V : (c : Dev nD) → (b : Ref sig .tc) → Buf (Elt Ideal) ((c : Thread nD τ).loc b)) (c : Dev nD) :
    (dat14 V c).arrAt 4 cfg14.N = fun j : S2x16384x1.Idx => convOut 1 squash (V c main_v250 : S2x66x258x64.Idx → EReal)
      (V c main_v245 : S9x64x1.Idx → EReal) (V c main_v246 : S1x1.Idx → EReal) (V c main_v247 : S1x1.Idx → EReal) (j 0) (j 1) (j 2) := by
  refine (dat14 V c).arrAt_eq_of_covers 4 _ (by decide +kernel) fun t hf y => ?_
  rw [after14_4, out14_eq]
  idx_vars y
  obtain rfl : y0 = 0 := Subsingleton.elim _ _
  obtain rfl : y2 = 0 := Subsingleton.elim _ _
  blk_simp [idx14 t]
  refine (out13_at (iblk14 V c 0 t) (iblk14 V c 1 t) (iblk14 V c 2 t) (iblk14 V c 3 t) y1 0).trans ?_
  refine (convOut_block (x := iblk14 V c 0 t) (w := iblk14 V c 1 t) (s := iblk14 V c 2 t) (t := iblk14 V c 3 t)
    (x' := (V c main_v250 : S2x66x258x64.Idx → EReal)) (w' := (V c main_v245 : S9x64x1.Idx → EReal))
    (s' := (V c main_v246 : S1x1.Idx → EReal)) (t' := (V c main_v247 : S1x1.Idx → EReal)) ⟨t.val, t.isLt⟩
    (fun i j k => ?_) (fun i j k => ?_) (fun i j => ?_) fun i j => ?_).trans ?_
  · blk_ext [iblk14, idx14 t]
  · blk_ext [iblk14, idx14 t]
  · blk_ext [iblk14, idx14 t]
  · blk_ext [iblk14, idx14 t]
  · rfl

/-- Region 15's body is region 13's. -/
theorem out15_eq : out15_4 (F := Ideal) = out13_4 := rfl

/-- The block indices of region 15's windows: the image on the first axis, the whole array on the others. -/
theorem idx15 : ∀ t : Fin cfg15.N, win15_0.index t = ![t.val, 0, 0, 0] ∧ win15_1.index t = ![0, 0, 0] ∧ win15_2.index t = ![0, 0]
    ∧ win15_3.index t = ![0, 0] ∧ win15_4.index t = ![t.val, 0, 0] := by decide +kernel

set_option maxHeartbeats 800000 in
/-- Region 15, the third band of rows, leaves the convolution over its band of the padded array. -/
theorem arr15 (V : (c : Dev nD) → (b : Ref sig .tc) → Buf (Elt Ideal) ((c : Thread nD τ).loc b)) (c : Dev nD) :
    (dat15 V c).arrAt 4 cfg15.N = fun j : S2x16384x1.Idx => convOut 1 squash (V c main_v252 : S2x66x258x64.Idx → EReal)
      (V c main_v245 : S9x64x1.Idx → EReal) (V c main_v246 : S1x1.Idx → EReal) (V c main_v247 : S1x1.Idx → EReal) (j 0) (j 1) (j 2) := by
  refine (dat15 V c).arrAt_eq_of_covers 4 _ (by decide +kernel) fun t hf y => ?_
  rw [after15_4, out15_eq]
  idx_vars y
  obtain rfl : y0 = 0 := Subsingleton.elim _ _
  obtain rfl : y2 = 0 := Subsingleton.elim _ _
  blk_simp [idx15 t]
  refine (out13_at (iblk15 V c 0 t) (iblk15 V c 1 t) (iblk15 V c 2 t) (iblk15 V c 3 t) y1 0).trans ?_
  refine (convOut_block (x := iblk15 V c 0 t) (w := iblk15 V c 1 t) (s := iblk15 V c 2 t) (t := iblk15 V c 3 t)
    (x' := (V c main_v252 : S2x66x258x64.Idx → EReal)) (w' := (V c main_v245 : S9x64x1.Idx → EReal))
    (s' := (V c main_v246 : S1x1.Idx → EReal)) (t' := (V c main_v247 : S1x1.Idx → EReal)) ⟨t.val, t.isLt⟩
    (fun i j k => ?_) (fun i j k => ?_) (fun i j => ?_) fun i j => ?_).trans ?_
  · blk_ext [iblk15, idx15 t]
  · blk_ext [iblk15, idx15 t]
  · blk_ext [iblk15, idx15 t]
  · blk_ext [iblk15, idx15 t]
  · rfl

/-- Region 16's body is region 13's. -/
theorem out16_eq : out16_4 (F := Ideal) = out13_4 := rfl

/-- The block indices of region 16's windows: the image on the first axis, the whole array on the others. -/
theorem idx16 : ∀ t : Fin cfg16.N, win16_0.index t = ![t.val, 0, 0, 0] ∧ win16_1.index t = ![0, 0, 0] ∧ win16_2.index t = ![0, 0]
    ∧ win16_3.index t = ![0, 0] ∧ win16_4.index t = ![t.val, 0, 0] := by decide +kernel

set_option maxHeartbeats 800000 in
/-- Region 16, the fourth band of rows, leaves the convolution over its band of the padded array. -/
theorem arr16 (V : (c : Dev nD) → (b : Ref sig .tc) → Buf (Elt Ideal) ((c : Thread nD τ).loc b)) (c : Dev nD) :
    (dat16 V c).arrAt 4 cfg16.N = fun j : S2x16384x1.Idx => convOut 1 squash (V c main_v254 : S2x66x258x64.Idx → EReal)
      (V c main_v245 : S9x64x1.Idx → EReal) (V c main_v246 : S1x1.Idx → EReal) (V c main_v247 : S1x1.Idx → EReal) (j 0) (j 1) (j 2) := by
  refine (dat16 V c).arrAt_eq_of_covers 4 _ (by decide +kernel) fun t hf y => ?_
  rw [after16_4, out16_eq]
  idx_vars y
  obtain rfl : y0 = 0 := Subsingleton.elim _ _
  obtain rfl : y2 = 0 := Subsingleton.elim _ _
  blk_simp [idx16 t]
  refine (out13_at (iblk16 V c 0 t) (iblk16 V c 1 t) (iblk16 V c 2 t) (iblk16 V c 3 t) y1 0).trans ?_
  refine (convOut_block (x := iblk16 V c 0 t) (w := iblk16 V c 1 t) (s := iblk16 V c 2 t) (t := iblk16 V c 3 t)
    (x' := (V c main_v254 : S2x66x258x64.Idx → EReal)) (w' := (V c main_v245 : S9x64x1.Idx → EReal))
    (s' := (V c main_v246 : S1x1.Idx → EReal)) (t' := (V c main_v247 : S1x1.Idx → EReal)) ⟨t.val, t.isLt⟩
    (fun i j k => ?_) (fun i j k => ?_) (fun i j => ?_) fun i j => ?_).trans ?_
  · blk_ext [iblk16, idx16 t]
  · blk_ext [iblk16, idx16 t]
  · blk_ext [iblk16, idx16 t]
  · blk_ext [iblk16, idx16 t]
  · rfl

end Cert.KernelIdeal.Conv

end
-- ==== Proof.KBands.lean ====
/- Each convolution of the kernel, its four bands read over the whole padded array. -/
module

public import proofs.«01_k».proof.Proof.Bands
public import proofs.«01_k».proof.Proof.ConvOm
public import proofs.«01_k».proof.Proof.ConvOne
public import proofs.«01_k».proof.Proof.ConvTwo
public import proofs.«01_k».proof.Proof.ConvHead
public import proofs.«01_k».proof.Proof.Gen.KernelIdeal.Frame.Fold0
public import Idealize.ShloMosaic.Lib.StableHlo.ReadAt

@[expose] public section

set_option maxRecDepth 16384

noncomputable section

namespace Cert.KernelIdeal.Host

open Idealize.ShloMosaic Idealize.ShloMosaic.TcCoe Cert.KernelIdeal Cert.KernelIdeal.Gen Cert.Spec Cert.KernelIdeal.Conv

variable (m : (ℓ : Loc nD τ sig) → Buf (Elt Ideal) ℓ) (ρ : Dev nD → PrngReg) (c : Dev nD)

/-- The offset and mask convolution over the whole padded array, as the kernel computes it. -/
def om (b p o : ℕ) : EReal :=
  convOut 1 id (W3 m ρ c (Proc.devRef .tc main_v1) : S2x258x258x64.Idx → EReal) (W3 m ρ c (Proc.devRef .tc main_v3) : S9x64x27.Idx → EReal)
    (W3 m ρ c (Proc.devRef .tc main_v4) : S1x27.Idx → EReal) (W3 m ρ c (Proc.devRef .tc main_v5) : S1x27.Idx → EReal) b p o

/-- What region 0 and the stretch after it leave as it was. -/
theorem keep5 (r : Ref sig .tc) (h : (∀ w : Fin cfg0.W, Pipeline.arrRef spec0 w = r → (cfg0.win w).isOut = false) ∧ r ∉ hostOps1_W) :
    W5 m ρ c (Proc.devRef .tc r) = W3 m ρ c (Proc.devRef .tc r) := (W5_of m ρ c r h.2).trans (W4_of m ρ c r h.1)

/-- What region 1 and the stretch after it leave as it was. -/
theorem keep7 (r : Ref sig .tc) (h : (∀ w : Fin cfg1.W, Pipeline.arrRef spec1 w = r → (cfg1.win w).isOut = false) ∧ r ∉ hostOps2_W) :
    W7 m ρ c (Proc.devRef .tc r) = W5 m ρ c (Proc.devRef .tc r) := (W7_of m ρ c r h.2).trans (W6_of m ρ c r h.1)

/-- What region 2 and the stretch after it leave as it was. -/
theorem keep9 (r : Ref sig .tc) (h : (∀ w : Fin cfg2.W, Pipeline.arrRef spec2 w = r → (cfg2.win w).isOut = false) ∧ r ∉ hostOps3_W) :
    W9 m ρ c (Proc.devRef .tc r) = W7 m ρ c (Proc.devRef .tc r) := (W9_of m ρ c r h.2).trans (W8_of m ρ c r h.1)

/-- The first band's rows of the padded array. -/
theorem v6_at (V : Valuation τ sig (Elt Ideal)) (b : Fin 2) (r : Fin 66) (q : Fin 258) (k : Fin 64) :
    (StableHlo.after hostOps0_2 V (Proc.devRef .tc main_v6) : S2x66x258x64.Idx → EReal) (ix4 b r q k)
      = (V (Proc.devRef .tc main_v1) : S2x258x258x64.Idx → EReal) (ix4 b ⟨64 * 0 + r.val, by omega⟩ q k) := by
  after_reads_at

/-- The second band's rows of the padded array. -/
theorem v8_at (V : Valuation τ sig (Elt Ideal)) (b : Fin 2) (r : Fin 66) (q : Fin 258) (k : Fin 64) :
    (StableHlo.after hostOps1 V (Proc.devRef .tc main_v8) : S2x66x258x64.Idx → EReal) (ix4 b r q k)
      = (V (Proc.devRef .tc main_v1) : S2x258x258x64.Idx → EReal) (ix4 b ⟨64 * 1 + r.val, by omega⟩ q k) := by
  after_reads_at

/-- The third band's rows of the padded array. -/
theorem v10_at (V : Valuation τ sig (Elt Ideal)) (b : Fin 2) (r : Fin 66) (q : Fin 258) (k : Fin 64) :
    (StableHlo.after hostOps2 V (Proc.devRef .tc main_v10) : S2x66x258x64.Idx → EReal) (ix4 b r q k)
      = (V (Proc.devRef .tc main_v1) : S2x258x258x64.Idx → EReal) (ix4 b ⟨64 * 2 + r.val, by omega⟩ q k) := by
  after_reads_at

/-- The fourth band's rows of the padded array. -/
theorem v12_at (V : Valuation τ sig (Elt Ideal)) (b : Fin 2) (r : Fin 66) (q : Fin 258) (k : Fin 64) :
    (StableHlo.after hostOps3 V (Proc.devRef .tc main_v12) : S2x66x258x64.Idx → EReal) (ix4 b r q k)
      = (V (Proc.devRef .tc main_v1) : S2x258x258x64.Idx → EReal) (ix4 b ⟨64 * 3 + r.val, by omega⟩ q k) := by
  after_reads_at

/-- The first band's result. -/
theorem om7 (b : Fin 2) (p : Fin 16384) (o : Fin 27) :
    (W10 m ρ c (Proc.devRef .tc main_v7) : S2x16384x27.Idx → EReal) (ix3 b p o) = om m ρ c b (p.val + 16384 * 0) o := by
  refine (congrFun ((W10_of m ρ c main_v7 (by decide)).trans ((keep9 m ρ c main_v7 (by decide)).trans ((keep7 m ρ c main_v7 (by decide)).trans ((W5_of m ρ c main_v7 (by decide)).trans ((W4_arr m ρ c 4).trans (arr0 _ _)))))) (ix3 b p o)).trans ?_
  refine Eq.trans ?_ (convOut_band 0 rfl (by decide) (fun b r q k => (v6_at (W2 m ρ c) b r q k).trans
    (congrFun (W3_of m ρ c main_v1 (by decide)).symm _)) p.isLt)
  rfl

/-- The second band's result. -/
theorem om9 (b : Fin 2) (p : Fin 16384) (o : Fin 27) :
    (W10 m ρ c (Proc.devRef .tc main_v9) : S2x16384x27.Idx → EReal) (ix3 b p o) = om m ρ c b (p.val + 16384 * 1) o := by
  refine (congrFun ((W10_of m ρ c main_v9 (by decide)).trans ((keep9 m ρ c main_v9 (by decide)).trans ((W7_of m ρ c main_v9 (by decide)).trans ((W6_arr m ρ c 4).trans (arr1 _ _))))) (ix3 b p o)).trans ?_
  refine Eq.trans ?_ (convOut_band 1 rfl (by decide) (fun b r q k => (v8_at (W4 m ρ c) b r q k).trans
    (congrFun (W4_of m ρ c main_v1 (by decide)) _)) p.isLt)
  show convOut 1 id _ (W5 m ρ c (Proc.devRef .tc main_v3)) (W5 m ρ c (Proc.devRef .tc main_v4)) (W5 m ρ c (Proc.devRef .tc main_v5)) b p o = _
  rw [keep5 m ρ c main_v3 (by decide), keep5 m ρ c main_v4 (by decide), keep5 m ρ c main_v5 (by decide)]

/-- The third band's result. -/
theorem om11 (b : Fin 2) (p : Fin 16384) (o : Fin 27) :
    (W10 m ρ c (Proc.devRef .tc main_v11) : S2x16384x27.Idx → EReal) (ix3 b p o) = om m ρ c b (p.val + 16384 * 2) o := by
  refine (congrFun ((W10_of m ρ c main_v11 (by decide)).trans ((W9_of m ρ c main_v11 (by decide)).trans ((W8_arr m ρ c 4).trans (arr2 _ _)))) (ix3 b p o)).trans ?_
  refine Eq.trans ?_ (convOut_band 2 rfl (by decide) (fun b r q k => (v10_at (W6 m ρ c) b r q k).trans
    (congrFun ((W6_of m ρ c main_v1 (by decide)).trans (keep5 m ρ c main_v1 (by decide))) _)) p.isLt)
  show convOut 1 id _ (W7 m ρ c (Proc.devRef .tc main_v3)) (W7 m ρ c (Proc.devRef .tc main_v4)) (W7 m ρ c (Proc.devRef .tc main_v5)) b p o = _
  rw [keep7 m ρ c main_v3 (by decide), keep5 m ρ c main_v3 (by decide), keep7 m ρ c main_v4 (by decide), keep5 m ρ c main_v4 (by decide), keep7 m ρ c main_v5 (by decide), keep5 m ρ c main_v5 (by decide)]

/-- The fourth band's result. -/
theorem om13 (b : Fin 2) (p : Fin 16384) (o : Fin 27) :
    (W10 m ρ c (Proc.devRef .tc main_v13) : S2x16384x27.Idx → EReal) (ix3 b p o) = om m ρ c b (p.val + 16384 * 3) o := by
  refine (congrFun ((W10_arr m ρ c 4).trans (arr3 _ _)) (ix3 b p o)).trans ?_
  refine Eq.trans ?_ (convOut_band 3 rfl (by decide) (fun b r q k => (v12_at (W8 m ρ c) b r q k).trans
    (congrFun ((W8_of m ρ c main_v1 (by decide)).trans ((keep7 m ρ c main_v1 (by decide)).trans (keep5 m ρ c main_v1 (by decide)))) _)) p.isLt)
  show convOut 1 id _ (W9 m ρ c (Proc.devRef .tc main_v3)) (W9 m ρ c (Proc.devRef .tc main_v4)) (W9 m ρ c (Proc.devRef .tc main_v5)) b p o = _
  rw [keep9 m ρ c main_v3 (by decide), keep7 m ρ c main_v3 (by decide), keep5 m ρ c main_v3 (by decide), keep9 m ρ c main_v4 (by decide), keep7 m ρ c main_v4 (by decide), keep5 m ρ c main_v4 (by decide), keep9 m ρ c main_v5 (by decide), keep7 m ρ c main_v5 (by decide), keep5 m ρ c main_v5 (by decide)]

/-- The first dilated convolution over the whole padded array, as the kernel computes it. -/
def one (b p o : ℕ) : EReal :=
  convOut 2 (max · 0) (W31 m ρ c (Proc.devRef .tc main_v206) : S2x260x260x64.Idx → EReal) (W31 m ρ c (Proc.devRef .tc main_v208) : S9x64x64.Idx → EReal)
    (W31 m ρ c (Proc.devRef .tc main_v209) : S1x64.Idx → EReal) (W31 m ρ c (Proc.devRef .tc main_v210) : S1x64.Idx → EReal) b p o

/-- What region 5 and the stretch after it leave as it was. -/
theorem keep33 (r : Ref sig .tc) (h : (∀ w : Fin cfg5.W, Pipeline.arrRef spec5 w = r → (cfg5.win w).isOut = false) ∧ r ∉ hostOps6_W) :
    W33 m ρ c (Proc.devRef .tc r) = W31 m ρ c (Proc.devRef .tc r) := (W33_of m ρ c r h.2).trans (W32_of m ρ c r h.1)

/-- What region 6 and the stretch after it leave as it was. -/
theorem keep35 (r : Ref sig .tc) (h : (∀ w : Fin cfg6.W, Pipeline.arrRef spec6 w = r → (cfg6.win w).isOut = false) ∧ r ∉ hostOps7_W) :
    W35 m ρ c (Proc.devRef .tc r) = W33 m ρ c (Proc.devRef .tc r) := (W35_of m ρ c r h.2).trans (W34_of m ρ c r h.1)

/-- What region 7 and the stretch after it leave as it was. -/
theorem keep37 (r : Ref sig .tc) (h : (∀ w : Fin cfg7.W, Pipeline.arrRef spec7 w = r → (cfg7.win w).isOut = false) ∧ r ∉ hostOps8_W) :
    W37 m ρ c (Proc.devRef .tc r) = W35 m ρ c (Proc.devRef .tc r) := (W37_of m ρ c r h.2).trans (W36_of m ρ c r h.1)

/-- The first band's rows of the padded array. -/
theorem v211_at (V : Valuation τ sig (Elt Ideal)) (b : Fin 2) (r : Fin 68) (q : Fin 260) (k : Fin 64) :
    (StableHlo.after hostOps5_2 V (Proc.devRef .tc main_v211) : S2x68x260x64.Idx → EReal) (ix4 b r q k)
      = (V (Proc.devRef .tc main_v206) : S2x260x260x64.Idx → EReal) (ix4 b ⟨64 * 0 + r.val, by omega⟩ q k) := by
  after_reads_at

/-- The second band's rows of the padded array. -/
theorem v213_at (V : Valuation τ sig (Elt Ideal)) (b : Fin 2) (r : Fin 68) (q : Fin 260) (k : Fin 64) :
    (StableHlo.after hostOps6 V (Proc.devRef .tc main_v213) : S2x68x260x64.Idx → EReal) (ix4 b r q k)
      = (V (Proc.devRef .tc main_v206) : S2x260x260x64.Idx → EReal) (ix4 b ⟨64 * 1 + r.val, by omega⟩ q k) := by
  after_reads_at

/-- The third band's rows of the padded array. -/
theorem v215_at (V : Valuation τ sig (Elt Ideal)) (b : Fin 2) (r : Fin 68) (q : Fin 260) (k : Fin 64) :
    (StableHlo.after hostOps7 V (Proc.devRef .tc main_v215) : S2x68x260x64.Idx → EReal) (ix4 b r q k)
      = (V (Proc.devRef .tc main_v206) : S2x260x260x64.Idx → EReal) (ix4 b ⟨64 * 2 + r.val, by omega⟩ q k) := by
  after_reads_at

/-- The fourth band's rows of the padded array. -/
theorem v217_at (V : Valuation τ sig (Elt Ideal)) (b : Fin 2) (r : Fin 68) (q : Fin 260) (k : Fin 64) :
    (StableHlo.after hostOps8 V (Proc.devRef .tc main_v217) : S2x68x260x64.Idx → EReal) (ix4 b r q k)
      = (V (Proc.devRef .tc main_v206) : S2x260x260x64.Idx → EReal) (ix4 b ⟨64 * 3 + r.val, by omega⟩ q k) := by
  after_reads_at

/-- The first band's result. -/
theorem one212 (b : Fin 2) (p : Fin 16384) (o : Fin 64) :
    (W38 m ρ c (Proc.devRef .tc main_v212) : S2x16384x64.Idx → EReal) (ix3 b p o) = one m ρ c b (p.val + 16384 * 0) o := by
  refine (congrFun ((W38_of m ρ c main_v212 (by decide)).trans ((keep37 m ρ c main_v212 (by decide)).trans ((keep35 m ρ c main_v212 (by decide)).trans ((W33_of m ρ c main_v212 (by decide)).trans ((W32_arr m ρ c 4).trans (arr5 _ _)))))) (ix3 b p o)).trans ?_
  refine Eq.trans ?_ (convOut_band 0 rfl (by decide) (fun b r q k => (v211_at (W30 m ρ c) b r q k).trans
    (congrFun (W31_of m ρ c main_v206 (by decide)).symm _)) p.isLt)
  rfl

/-- The second band's result. -/
theorem one214 (b : Fin 2) (p : Fin 16384) (o : Fin 64) :
    (W38 m ρ c (Proc.devRef .tc main_v214) : S2x16384x64.Idx → EReal) (ix3 b p o) = one m ρ c b (p.val + 16384 * 1) o := by
  refine (congrFun ((W38_of m ρ c main_v214 (by decide)).trans ((keep37 m ρ c main_v214 (by decide)).trans ((W35_of m ρ c main_v214 (by decide)).trans ((W34_arr m ρ c 4).trans (arr6 _ _))))) (ix3 b p o)).trans ?_
  refine Eq.trans ?_ (convOut_band 1 rfl (by decide) (fun b r q k => (v213_at (W32 m ρ c) b r q k).trans
    (congrFun (W32_of m ρ c main_v206 (by decide)) _)) p.isLt)
  show convOut 2 (max · 0) _ (W33 m ρ c (Proc.devRef .tc main_v208)) (W33 m ρ c (Proc.devRef .tc main_v209)) (W33 m ρ c (Proc.devRef .tc main_v210)) b p o = _
  rw [keep33 m ρ c main_v208 (by decide), keep33 m ρ c main_v209 (by decide), keep33 m ρ c main_v210 (by decide)]

/-- The third band's result. -/
theorem one216 (b : Fin 2) (p : Fin 16384) (o : Fin 64) :
    (W38 m ρ c (Proc.devRef .tc main_v216) : S2x16384x64.Idx → EReal) (ix3 b p o) = one m ρ c b (p.val + 16384 * 2) o := by
  refine (congrFun ((W38_of m ρ c main_v216 (by decide)).trans ((W37_of m ρ c main_v216 (by decide)).trans ((W36_arr m ρ c 4).trans (arr7 _ _)))) (ix3 b p o)).trans ?_
  refine Eq.trans ?_ (convOut_band 2 rfl (by decide) (fun b r q k => (v215_at (W34 m ρ c) b r q k).trans
    (congrFun ((W34_of m ρ c main_v206 (by decide)).trans (keep33 m ρ c main_v206 (by decide))) _)) p.isLt)
  show convOut 2 (max · 0) _ (W35 m ρ c (Proc.devRef .tc main_v208)) (W35 m ρ c (Proc.devRef .tc main_v209)) (W35 m ρ c (Proc.devRef .tc main_v210)) b p o = _
  rw [keep35 m ρ c main_v208 (by decide), keep33 m ρ c main_v208 (by decide), keep35 m ρ c main_v209 (by decide), keep33 m ρ c main_v209 (by decide), keep35 m ρ c main_v210 (by decide), keep33 m ρ c main_v210 (by decide)]

/-- The fourth band's result. -/
theorem one218 (b : Fin 2) (p : Fin 16384) (o : Fin 64) :
    (W38 m ρ c (Proc.devRef .tc main_v218) : S2x16384x64.Idx → EReal) (ix3 b p o) = one m ρ c b (p.val + 16384 * 3) o := by
  refine (congrFun ((W38_arr m ρ c 4).trans (arr8 _ _)) (ix3 b p o)).trans ?_
  refine Eq.trans ?_ (convOut_band 3 rfl (by decide) (fun b r q k => (v217_at (W36 m ρ c) b r q k).trans
    (congrFun ((W36_of m ρ c main_v206 (by decide)).trans ((keep35 m ρ c main_v206 (by decide)).trans (keep33 m ρ c main_v206 (by decide)))) _)) p.isLt)
  show convOut 2 (max · 0) _ (W37 m ρ c (Proc.devRef .tc main_v208)) (W37 m ρ c (Proc.devRef .tc main_v209)) (W37 m ρ c (Proc.devRef .tc main_v210)) b p o = _
  rw [keep37 m ρ c main_v208 (by decide), keep35 m ρ c main_v208 (by decide), keep33 m ρ c main_v208 (by decide), keep37 m ρ c main_v209 (by decide), keep35 m ρ c main_v209 (by decide), keep33 m ρ c main_v209 (by decide), keep37 m ρ c main_v210 (by decide), keep35 m ρ c main_v210 (by decide), keep33 m ρ c main_v210 (by decide)]

/-- The second dilated convolution over the whole padded array, as the kernel computes it. -/
def two (b p o : ℕ) : EReal :=
  convOut 2 (max · 0) (W41 m ρ c (Proc.devRef .tc main_v228) : S2x260x260x64.Idx → EReal) (W41 m ρ c (Proc.devRef .tc main_v230) : S9x64x64.Idx → EReal)
    (W41 m ρ c (Proc.devRef .tc main_v231) : S1x64.Idx → EReal) (W41 m ρ c (Proc.devRef .tc main_v232) : S1x64.Idx → EReal) b p o

/-- What region 9 and the stretch after it leave as it was. -/
theorem keep43 (r : Ref sig .tc) (h : (∀ w : Fin cfg9.W, Pipeline.arrRef spec9 w = r → (cfg9.win w).isOut = false) ∧ r ∉ hostOps10_W) :
    W43 m ρ c (Proc.devRef .tc r) = W41 m ρ c (Proc.devRef .tc r) := (W43_of m ρ c r h.2).trans (W42_of m ρ c r h.1)

/-- What region 10 and the stretch after it leave as it was. -/
theorem keep45 (r : Ref sig .tc) (h : (∀ w : Fin cfg10.W, Pipeline.arrRef spec10 w = r → (cfg10.win w).isOut = false) ∧ r ∉ hostOps11_W) :
    W45 m ρ c (Proc.devRef .tc r) = W43 m ρ c (Proc.devRef .tc r) := (W45_of m ρ c r h.2).trans (W44_of m ρ c r h.1)

/-- What region 11 and the stretch after it leave as it was. -/
theorem keep47 (r : Ref sig .tc) (h : (∀ w : Fin cfg11.W, Pipeline.arrRef spec11 w = r → (cfg11.win w).isOut = false) ∧ r ∉ hostOps12_W) :
    W47 m ρ c (Proc.devRef .tc r) = W45 m ρ c (Proc.devRef .tc r) := (W47_of m ρ c r h.2).trans (W46_of m ρ c r h.1)

/-- The first band's rows of the padded array. -/
theorem v233_at (V : Valuation τ sig (Elt Ideal)) (b : Fin 2) (r : Fin 68) (q : Fin 260) (k : Fin 64) :
    (StableHlo.after hostOps9_2 V (Proc.devRef .tc main_v233) : S2x68x260x64.Idx → EReal) (ix4 b r q k)
      = (V (Proc.devRef .tc main_v228) : S2x260x260x64.Idx → EReal) (ix4 b ⟨64 * 0 + r.val, by omega⟩ q k) := by
  after_reads_at

/-- The second band's rows of the padded array. -/
theorem v235_at (V : Valuation τ sig (Elt Ideal)) (b : Fin 2) (r : Fin 68) (q : Fin 260) (k : Fin 64) :
    (StableHlo.after hostOps10 V (Proc.devRef .tc main_v235) : S2x68x260x64.Idx → EReal) (ix4 b r q k)
      = (V (Proc.devRef .tc main_v228) : S2x260x260x64.Idx → EReal) (ix4 b ⟨64 * 1 + r.val, by omega⟩ q k) := by
  after_reads_at

/-- The third band's rows of the padded array. -/
theorem v237_at (V : Valuation τ sig (Elt Ideal)) (b : Fin 2) (r : Fin 68) (q : Fin 260) (k : Fin 64) :
    (StableHlo.after hostOps11 V (Proc.devRef .tc main_v237) : S2x68x260x64.Idx → EReal) (ix4 b r q k)
      = (V (Proc.devRef .tc main_v228) : S2x260x260x64.Idx → EReal) (ix4 b ⟨64 * 2 + r.val, by omega⟩ q k) := by
  after_reads_at

/-- The fourth band's rows of the padded array. -/
theorem v239_at (V : Valuation τ sig (Elt Ideal)) (b : Fin 2) (r : Fin 68) (q : Fin 260) (k : Fin 64) :
    (StableHlo.after hostOps12 V (Proc.devRef .tc main_v239) : S2x68x260x64.Idx → EReal) (ix4 b r q k)
      = (V (Proc.devRef .tc main_v228) : S2x260x260x64.Idx → EReal) (ix4 b ⟨64 * 3 + r.val, by omega⟩ q k) := by
  after_reads_at

/-- The first band's result. -/
theorem two234 (b : Fin 2) (p : Fin 16384) (o : Fin 64) :
    (W48 m ρ c (Proc.devRef .tc main_v234) : S2x16384x64.Idx → EReal) (ix3 b p o) = two m ρ c b (p.val + 16384 * 0) o := by
  refine (congrFun ((W48_of m ρ c main_v234 (by decide)).trans ((keep47 m ρ c main_v234 (by decide)).trans ((keep45 m ρ c main_v234 (by decide)).trans ((W43_of m ρ c main_v234 (by decide)).trans ((W42_arr m ρ c 4).trans (arr9 _ _)))))) (ix3 b p o)).trans ?_
  refine Eq.trans ?_ (convOut_band 0 rfl (by decide) (fun b r q k => (v233_at (W40 m ρ c) b r q k).trans
    (congrFun (W41_of m ρ c main_v228 (by decide)).symm _)) p.isLt)
  rfl

/-- The second band's result. -/
theorem two236 (b : Fin 2) (p : Fin 16384) (o : Fin 64) :
    (W48 m ρ c (Proc.devRef .tc main_v236) : S2x16384x64.Idx → EReal) (ix3 b p o) = two m ρ c b (p.val + 16384 * 1) o := by
  refine (congrFun ((W48_of m ρ c main_v236 (by decide)).trans ((keep47 m ρ c main_v236 (by decide)).trans ((W45_of m ρ c main_v236 (by decide)).trans ((W44_arr m ρ c 4).trans (arr10 _ _))))) (ix3 b p o)).trans ?_
  refine Eq.trans ?_ (convOut_band 1 rfl (by decide) (fun b r q k => (v235_at (W42 m ρ c) b r q k).trans
    (congrFun (W42_of m ρ c main_v228 (by decide)) _)) p.isLt)
  show convOut 2 (max · 0) _ (W43 m ρ c (Proc.devRef .tc main_v230)) (W43 m ρ c (Proc.devRef .tc main_v231)) (W43 m ρ c (Proc.devRef .tc main_v232)) b p o = _
  rw [keep43 m ρ c main_v230 (by decide), keep43 m ρ c main_v231 (by decide), keep43 m ρ c main_v232 (by decide)]

/-- The third band's result. -/
theorem two238 (b : Fin 2) (p : Fin 16384) (o : Fin 64) :
    (W48 m ρ c (Proc.devRef .tc main_v238) : S2x16384x64.Idx → EReal) (ix3 b p o) = two m ρ c b (p.val + 16384 * 2) o := by
  refine (congrFun ((W48_of m ρ c main_v238 (by decide)).trans ((W47_of m ρ c main_v238 (by decide)).trans ((W46_arr m ρ c 4).trans (arr11 _ _)))) (ix3 b p o)).trans ?_
  refine Eq.trans ?_ (convOut_band 2 rfl (by decide) (fun b r q k => (v237_at (W44 m ρ c) b r q k).trans
    (congrFun ((W44_of m ρ c main_v228 (by decide)).trans (keep43 m ρ c main_v228 (by decide))) _)) p.isLt)
  show convOut 2 (max · 0) _ (W45 m ρ c (Proc.devRef .tc main_v230)) (W45 m ρ c (Proc.devRef .tc main_v231)) (W45 m ρ c (Proc.devRef .tc main_v232)) b p o = _
  rw [keep45 m ρ c main_v230 (by decide), keep43 m ρ c main_v230 (by decide), keep45 m ρ c main_v231 (by decide), keep43 m ρ c main_v231 (by decide), keep45 m ρ c main_v232 (by decide), keep43 m ρ c main_v232 (by decide)]

/-- The fourth band's result. -/
theorem two240 (b : Fin 2) (p : Fin 16384) (o : Fin 64) :
    (W48 m ρ c (Proc.devRef .tc main_v240) : S2x16384x64.Idx → EReal) (ix3 b p o) = two m ρ c b (p.val + 16384 * 3) o := by
  refine (congrFun ((W48_arr m ρ c 4).trans (arr12 _ _)) (ix3 b p o)).trans ?_
  refine Eq.trans ?_ (convOut_band 3 rfl (by decide) (fun b r q k => (v239_at (W46 m ρ c) b r q k).trans
    (congrFun ((W46_of m ρ c main_v228 (by decide)).trans ((keep45 m ρ c main_v228 (by decide)).trans (keep43 m ρ c main_v228 (by decide)))) _)) p.isLt)
  show convOut 2 (max · 0) _ (W47 m ρ c (Proc.devRef .tc main_v230)) (W47 m ρ c (Proc.devRef .tc main_v231)) (W47 m ρ c (Proc.devRef .tc main_v232)) b p o = _
  rw [keep47 m ρ c main_v230 (by decide), keep45 m ρ c main_v230 (by decide), keep43 m ρ c main_v230 (by decide), keep47 m ρ c main_v231 (by decide), keep45 m ρ c main_v231 (by decide), keep43 m ρ c main_v231 (by decide), keep47 m ρ c main_v232 (by decide), keep45 m ρ c main_v232 (by decide), keep43 m ρ c main_v232 (by decide)]

/-- The last convolution over the whole padded array, as the kernel computes it. -/
def head (b p o : ℕ) : EReal :=
  convOut 1 squash (W51 m ρ c (Proc.devRef .tc main_v243) : S2x258x258x64.Idx → EReal) (W51 m ρ c (Proc.devRef .tc main_v245) : S9x64x1.Idx → EReal)
    (W51 m ρ c (Proc.devRef .tc main_v246) : S1x1.Idx → EReal) (W51 m ρ c (Proc.devRef .tc main_v247) : S1x1.Idx → EReal) b p o

/-- What region 13 and the stretch after it leave as it was. -/
theorem keep53 (r : Ref sig .tc) (h : (∀ w : Fin cfg13.W, Pipeline.arrRef spec13 w = r → (cfg13.win w).isOut = false) ∧ r ∉ hostOps14_W) :
    W53 m ρ c (Proc.devRef .tc r) = W51 m ρ c (Proc.devRef .tc r) := (W53_of m ρ c r h.2).trans (W52_of m ρ c r h.1)

/-- What region 14 and the stretch after it leave as it was. -/
theorem keep55 (r : Ref sig .tc) (h : (∀ w : Fin cfg14.W, Pipeline.arrRef spec14 w = r → (cfg14.win w).isOut = false) ∧ r ∉ hostOps15_W) :
    W55 m ρ c (Proc.devRef .tc r) = W53 m ρ c (Proc.devRef .tc r) := (W55_of m ρ c r h.2).trans (W54_of m ρ c r h.1)

/-- What region 15 and the stretch after it leave as it was. -/
theorem keep57 (r : Ref sig .tc) (h : (∀ w : Fin cfg15.W, Pipeline.arrRef spec15 w = r → (cfg15.win w).isOut = false) ∧ r ∉ hostOps16_W) :
    W57 m ρ c (Proc.devRef .tc r) = W55 m ρ c (Proc.devRef .tc r) := (W57_of m ρ c r h.2).trans (W56_of m ρ c r h.1)

/-- The first band's rows of the padded array. -/
theorem v248_at (V : Valuation τ sig (Elt Ideal)) (b : Fin 2) (r : Fin 66) (q : Fin 258) (k : Fin 64) :
    (StableHlo.after hostOps13_2 V (Proc.devRef .tc main_v248) : S2x66x258x64.Idx → EReal) (ix4 b r q k)
      = (V (Proc.devRef .tc main_v243) : S2x258x258x64.Idx → EReal) (ix4 b ⟨64 * 0 + r.val, by omega⟩ q k) := by
  after_reads_at

/-- The second band's rows of the padded array. -/
theorem v250_at (V : Valuation τ sig (Elt Ideal)) (b : Fin 2) (r : Fin 66) (q : Fin 258) (k : Fin 64) :
    (StableHlo.after hostOps14 V (Proc.devRef .tc main_v250) : S2x66x258x64.Idx → EReal) (ix4 b r q k)
      = (V (Proc.devRef .tc main_v243) : S2x258x258x64.Idx → EReal) (ix4 b ⟨64 * 1 + r.val, by omega⟩ q k) := by
  after_reads_at

/-- The third band's rows of the padded array. -/
theorem v252_at (V : Valuation τ sig (Elt Ideal)) (b : Fin 2) (r : Fin 66) (q : Fin 258) (k : Fin 64) :
    (StableHlo.after hostOps15 V (Proc.devRef .tc main_v252) : S2x66x258x64.Idx → EReal) (ix4 b r q k)
      = (V (Proc.devRef .tc main_v243) : S2x258x258x64.Idx → EReal) (ix4 b ⟨64 * 2 + r.val, by omega⟩ q k) := by
  after_reads_at

/-- The fourth band's rows of the padded array. -/
theorem v254_at (V : Valuation τ sig (Elt Ideal)) (b : Fin 2) (r : Fin 66) (q : Fin 258) (k : Fin 64) :
    (StableHlo.after hostOps16 V (Proc.devRef .tc main_v254) : S2x66x258x64.Idx → EReal) (ix4 b r q k)
      = (V (Proc.devRef .tc main_v243) : S2x258x258x64.Idx → EReal) (ix4 b ⟨64 * 3 + r.val, by omega⟩ q k) := by
  after_reads_at

/-- The first band's result. -/
theorem head249 (b : Fin 2) (p : Fin 16384) (o : Fin 1) :
    (W58 m ρ c (Proc.devRef .tc main_v249) : S2x16384x1.Idx → EReal) (ix3 b p o) = head m ρ c b (p.val + 16384 * 0) o := by
  refine (congrFun ((W58_of m ρ c main_v249 (by decide)).trans ((keep57 m ρ c main_v249 (by decide)).trans ((keep55 m ρ c main_v249 (by decide)).trans ((W53_of m ρ c main_v249 (by decide)).trans ((W52_arr m ρ c 4).trans (arr13 _ _)))))) (ix3 b p o)).trans ?_
  refine Eq.trans ?_ (convOut_band 0 rfl (by decide) (fun b r q k => (v248_at (W50 m ρ c) b r q k).trans
    (congrFun (W51_of m ρ c main_v243 (by decide)).symm _)) p.isLt)
  rfl

/-- The second band's result. -/
theorem head251 (b : Fin 2) (p : Fin 16384) (o : Fin 1) :
    (W58 m ρ c (Proc.devRef .tc main_v251) : S2x16384x1.Idx → EReal) (ix3 b p o) = head m ρ c b (p.val + 16384 * 1) o := by
  refine (congrFun ((W58_of m ρ c main_v251 (by decide)).trans ((keep57 m ρ c main_v251 (by decide)).trans ((W55_of m ρ c main_v251 (by decide)).trans ((W54_arr m ρ c 4).trans (arr14 _ _))))) (ix3 b p o)).trans ?_
  refine Eq.trans ?_ (convOut_band 1 rfl (by decide) (fun b r q k => (v250_at (W52 m ρ c) b r q k).trans
    (congrFun (W52_of m ρ c main_v243 (by decide)) _)) p.isLt)
  show convOut 1 squash _ (W53 m ρ c (Proc.devRef .tc main_v245)) (W53 m ρ c (Proc.devRef .tc main_v246)) (W53 m ρ c (Proc.devRef .tc main_v247)) b p o = _
  rw [keep53 m ρ c main_v245 (by decide), keep53 m ρ c main_v246 (by decide), keep53 m ρ c main_v247 (by decide)]

/-- The third band's result. -/
theorem head253 (b : Fin 2) (p : Fin 16384) (o : Fin 1) :
    (W58 m ρ c (Proc.devRef .tc main_v253) : S2x16384x1.Idx → EReal) (ix3 b p o) = head m ρ c b (p.val + 16384 * 2) o := by
  refine (congrFun ((W58_of m ρ c main_v253 (by decide)).trans ((W57_of m ρ c main_v253 (by decide)).trans ((W56_arr m ρ c 4).trans (arr15 _ _)))) (ix3 b p o)).trans ?_
  refine Eq.trans ?_ (convOut_band 2 rfl (by decide) (fun b r q k => (v252_at (W54 m ρ c) b r q k).trans
    (congrFun ((W54_of m ρ c main_v243 (by decide)).trans (keep53 m ρ c main_v243 (by decide))) _)) p.isLt)
  show convOut 1 squash _ (W55 m ρ c (Proc.devRef .tc main_v245)) (W55 m ρ c (Proc.devRef .tc main_v246)) (W55 m ρ c (Proc.devRef .tc main_v247)) b p o = _
  rw [keep55 m ρ c main_v245 (by decide), keep53 m ρ c main_v245 (by decide), keep55 m ρ c main_v246 (by decide), keep53 m ρ c main_v246 (by decide), keep55 m ρ c main_v247 (by decide), keep53 m ρ c main_v247 (by decide)]

/-- The fourth band's result. -/
theorem head255 (b : Fin 2) (p : Fin 16384) (o : Fin 1) :
    (W58 m ρ c (Proc.devRef .tc main_v255) : S2x16384x1.Idx → EReal) (ix3 b p o) = head m ρ c b (p.val + 16384 * 3) o := by
  refine (congrFun ((W58_arr m ρ c 4).trans (arr16 _ _)) (ix3 b p o)).trans ?_
  refine Eq.trans ?_ (convOut_band 3 rfl (by decide) (fun b r q k => (v254_at (W56 m ρ c) b r q k).trans
    (congrFun ((W56_of m ρ c main_v243 (by decide)).trans ((keep55 m ρ c main_v243 (by decide)).trans (keep53 m ρ c main_v243 (by decide)))) _)) p.isLt)
  show convOut 1 squash _ (W57 m ρ c (Proc.devRef .tc main_v245)) (W57 m ρ c (Proc.devRef .tc main_v246)) (W57 m ρ c (Proc.devRef .tc main_v247)) b p o = _
  rw [keep57 m ρ c main_v245 (by decide), keep55 m ρ c main_v245 (by decide), keep53 m ρ c main_v245 (by decide), keep57 m ρ c main_v246 (by decide), keep55 m ρ c main_v246 (by decide), keep53 m ρ c main_v246 (by decide), keep57 m ρ c main_v247 (by decide), keep55 m ρ c main_v247 (by decide), keep53 m ρ c main_v247 (by decide)]

end Cert.KernelIdeal.Host

end
-- ==== Proof.Sample.lean ====
/- Bilinear sampling of an image at a real position, written over natural-number coordinates. -/
module

public import proofs.«01_k».proof.Proof.Spec
public import Idealize.ShloMosaic.PureOps.Ideal

@[expose] public section

noncomputable section

namespace Cert.Spec

open Idealize.ShloMosaic

/-- An integer lies on one axis of the image. -/
def inside (a : BitVec 32) : Prop := 0 ≤ a.toInt ∧ a.toInt < 256

/-- Whether an integer lies on one axis of the image is decided on its signed value. -/
instance (a : BitVec 32) : Decidable (inside a) := by unfold inside; infer_instance

/-- One corner's share: the image's value there times the corner's weight, zero off the image. -/
def corner (X : ℕ → ℕ → EReal) (y x : BitVec 32) (w : EReal) : EReal :=
  if inside y ∧ inside x then X y.toNat x.toNat * w else 0

/-- The integer just below a real position. -/
def below (p : EReal) : BitVec 32 := Ideal.fptosi 32 (Ideal.liftRound Int.floor p)

/-- The fractional part of a real position. -/
def frac (p : EReal) : EReal := p - Ideal.liftRound Int.floor p

/-- The four corners' shares, added row by row. -/
def sample (X : ℕ → ℕ → EReal) (py px : EReal) : EReal :=
  (corner X (below py) (below px) ((1 - frac py) * (1 - frac px)) + corner X (below py) (below px + 1#32) ((1 - frac py) * frac px))
    + (corner X (below py + 1#32) (below px) (frac py * (1 - frac px)) + corner X (below py + 1#32) (below px + 1#32) (frac py * frac px))

/-- A sampling coordinate: the position, the tap's step and the learnt offset. -/
def pos (r k : ℕ) (o : EReal) : EReal :=
  FloatOps.sitofp (F := Ideal) .f32 (BitVec.ofNat 32 r) + (FloatOps.sitofp (F := Ideal) .f32 (BitVec.ofNat 32 k) - 1) + o

/-- The logistic function as both programs write it for the mask. -/
def gate (z : EReal) : EReal := Ideal.div 1 (1 + Ideal.exp (-z))

/-- The signed maximum's value. -/
theorem maxsi_toInt (x y : BitVec 32) : (IntOp.maxsi x y).toInt = max x.toInt y.toInt := by
  unfold IntOp.maxsi
  split
  · rename_i h; rw [BitVec.slt_iff_toInt_lt] at h; omega
  · rename_i h; rw [BitVec.slt_iff_toInt_lt] at h; omega

/-- The signed minimum's value. -/
theorem minsi_toInt (x y : BitVec 32) : (IntOp.minsi x y).toInt = min x.toInt y.toInt := by
  unfold IntOp.minsi
  split
  · rename_i h; rw [BitVec.slt_iff_toInt_lt] at h; omega
  · rename_i h; rw [BitVec.slt_iff_toInt_lt] at h; omega

/-- The two comparisons of an integer with the image's edges, as one bit. -/
theorem inside_bit (y : BitVec 32) :
    IntOp.andi (IntOp.cmpi .sge y 0#32) (IntOp.cmpi .slt y 256#32) = if inside y then 1#1 else 0#1 := by
  have h0 : (0#32).sle y = decide (0 ≤ y.toInt) := by rw [BitVec.sle_eq_decide]; rfl
  have h1 : y.slt 256#32 = decide (y.toInt < 256) := by rw [BitVec.slt_eq_decide]; rfl
  unfold IntOp.andi IntOp.cmpi inside
  rw [h0, h1]
  by_cases a : 0 ≤ y.toInt <;> by_cases b : y.toInt < 256 <;> simp [a, b]

/-- An integer inside the image is nonnegative: its signed and unsigned values agree. -/
theorem inside_toNat {y : BitVec 32} (h : inside y) : y.toInt = y.toNat ∧ y.toNat < 256 := by
  have := h.1; have := h.2
  have e := BitVec.toInt_eq_toNat_cond y
  split at e <;> omega

/-- An integer inside the image is unmoved by the reference's clamp. -/
theorem inside_clamp {y : BitVec 32} (h : inside y) : IntOp.minsi (IntOp.maxsi y 0#32) 255#32 = y := by
  refine BitVec.eq_of_toInt_eq ?_
  rw [minsi_toInt, maxsi_toInt, show (0#32).toInt = 0 from rfl, show (255#32).toInt = 255 from rfl]
  have := h.1; have := h.2; omega

/-- The reference's flat index of two integers inside the image. -/
theorem inside_flat {y x : BitVec 32} (hy : inside y) (hx : inside x) :
    min (IntOp.addi (IntOp.muli (IntOp.minsi (IntOp.maxsi y 0#32) 255#32) 256#32) (IntOp.minsi (IntOp.maxsi x 0#32) 255#32)).toInt.toNat 65535
      = y.toNat * 256 + x.toNat := by
  rw [inside_clamp hy, inside_clamp hx]
  obtain ⟨-, a⟩ := inside_toNat hy
  obtain ⟨-, b⟩ := inside_toNat hx
  have e : (IntOp.addi (IntOp.muli y 256#32) x).toNat = y.toNat * 256 + x.toNat := by
    unfold IntOp.addi IntOp.muli
    rw [BitVec.toNat_add, BitVec.toNat_mul, show (256#32).toNat = 256 from rfl]; omega
  have e' := BitVec.toInt_eq_toNat_cond (IntOp.addi (IntOp.muli y 256#32) x)
  split at e' <;> omega

/-- A bit set when two conditions hold, as a number. -/
theorem bit_num (p q : Prop) [Decidable p] [Decidable q] :
    (FloatOps.uitofp (F := Ideal) .f32 (IntOp.andi (if p then 1#1 else 0#1) (if q then 1#1 else 0#1)) : EReal) = if p ∧ q then 1 else 0 := by
  by_cases hp : p <;> by_cases hq : q <;> simp [hp, hq, IntOp.andi, FloatOps.uitofp]

/-- The reference's corner: the image at the clamped flat index, times the weight and the validity bit. -/
theorem ref_corner (X : (⟨4, ![2, 64, 256, 256]⟩ : Shape).Idx → EReal) (b : Fin 2) (c : Fin 64) (y x : BitVec 32) (w : EReal)
    (i j : Fin 256)
    (hi : i.val = min (IntOp.addi (IntOp.muli (IntOp.minsi (IntOp.maxsi y 0#32) 255#32) 256#32) (IntOp.minsi (IntOp.maxsi x 0#32) 255#32)).toInt.toNat 65535 / 256)
    (hj : j.val = min (IntOp.addi (IntOp.muli (IntOp.minsi (IntOp.maxsi y 0#32) 255#32) 256#32) (IntOp.minsi (IntOp.maxsi x 0#32) 255#32)).toInt.toNat 65535 % 256) :
    X (ix4 b c i j) * (w * (FloatOps.uitofp (F := Ideal) .f32
        (IntOp.andi (IntOp.andi (IntOp.cmpi .sge y 0#32) (IntOp.cmpi .slt y 256#32)) (IntOp.andi (IntOp.cmpi .sge x 0#32) (IntOp.cmpi .slt x 256#32))) : EReal))
      = corner (at4 X b c) y x w := by
  rw [inside_bit, inside_bit, bit_num]
  unfold corner
  split
  · rename_i h
    rw [inside_flat h.1 h.2] at hi hj
    have := (inside_toNat h.1).2; have := (inside_toNat h.2).2
    rw [mul_one, ix4_at X b c i j rfl rfl (hi.trans (show _ = y.toNat by omega)) (hj.trans (show _ = x.toNat by omega))]
  · rw [mul_zero, mul_zero]

/-- A chosen weight: the kernel's four comparisons select the weight or zero. -/
theorem kernel_bit (y x : BitVec 32) :
    IntOp.andi (IntOp.andi (IntOp.andi (IntOp.cmpi .sge y 0#32) (IntOp.cmpi .slt y 256#32)) (IntOp.cmpi .sge x 0#32)) (IntOp.cmpi .slt x 256#32)
      = if inside y ∧ inside x then 1#1 else 0#1 := by
  have e : ∀ a b c : BitVec 1, IntOp.andi (IntOp.andi a b) c = IntOp.andi a (IntOp.andi b c) := by
    unfold IntOp.andi; decide
  rw [e, inside_bit, inside_bit]
  by_cases hp : inside y <;> by_cases hq : inside x <;> simp [hp, hq, IntOp.andi]

/-- The kernel's clamped start: inside the image after the corner's step, it is the corner's own coordinate, one further on. -/
theorem kernel_start (y : BitVec 32) (d : ℕ) (hd : d < 2) (h : inside (y + BitVec.ofNat 32 d)) :
    min (IntOp.addi (IntOp.minsi 255#32 (IntOp.maxsi 4294967295#32 y)) 1#32).toInt.toNat 256 + d = (y + BitVec.ofNat 32 d).toNat + 1 := by
  obtain ⟨a, b⟩ := inside_toNat h
  have hz : (IntOp.minsi 255#32 (IntOp.maxsi 4294967295#32 y)) = y := by
    refine BitVec.eq_of_toInt_eq ?_
    rw [minsi_toInt, maxsi_toInt, show (4294967295#32).toInt = -1 from rfl, show (255#32).toInt = 255 from rfl]
    have := BitVec.toInt_eq_toNat_cond y
    rw [BitVec.toNat_add, BitVec.toNat_ofNat] at a b
    split at this <;> omega
  rw [hz]
  unfold IntOp.addi
  have e := BitVec.toInt_eq_toNat_cond (y + 1#32)
  rw [BitVec.toNat_add, show (1#32).toNat = 1 from rfl] at e
  rw [BitVec.toNat_add, BitVec.toNat_ofNat] at b ⊢
  have := y.isLt
  split at e <;> omega

end Cert.Spec

end
-- ==== Proof.Words.lean ====
/- Words and weights of the sampling: row and column of a flat position, the gate's bounds, one corner's share and their sum. -/
module

public import proofs.«01_k».proof.Proof.Sample
public import proofs.«01_k».proof.Proof.Spec

@[expose] public section

set_option maxRecDepth 16384

noncomputable section

namespace Cert.Spec

open Idealize.ShloMosaic

/-- A position's word is not negative. -/
theorem msb_small {p : ℕ} (hp : p < 65536) : (BitVec.ofNat 32 p).msb = false := by
  rw [BitVec.msb_eq_false_iff_two_mul_lt]; simp; omega

/-- Dividing a flat position by the row length gives its row. -/
theorem div_word {p : ℕ} (hp : p < 65536) : IntOp.divsi .host (BitVec.ofNat 32 p) 256#32 = BitVec.ofNat 32 (p / 256) := by
  unfold IntOp.divsi
  rw [if_neg (by simp [IntOp.SDivCorner]), BitVec.sdiv_eq, msb_small hp]
  show BitVec.ofNat 32 p / 256#32 = _
  apply BitVec.eq_of_toNat_eq
  simp only [BitVec.toNat_udiv, BitVec.toNat_ofNat, Nat.mod_eq_of_lt (show p < 2 ^ 32 by omega)]
  rw [Nat.mod_eq_of_lt (show p / 256 < 2 ^ 32 by omega)]

/-- The remainder is its column. -/
theorem rem_word {p : ℕ} (hp : p < 65536) : IntOp.remsi .host (BitVec.ofNat 32 p) 256#32 = BitVec.ofNat 32 (p % 256) := by
  unfold IntOp.remsi
  rw [if_neg (by simp [IntOp.SDivCorner]), BitVec.srem_eq, msb_small hp]
  show BitVec.ofNat 32 p % 256#32 = _
  apply BitVec.eq_of_toNat_eq
  simp only [BitVec.toNat_umod, BitVec.toNat_ofNat, Nat.mod_eq_of_lt (show p < 2 ^ 32 by omega)]
  rw [Nat.mod_eq_of_lt (show p % 256 < 2 ^ 32 by omega)]

/-- A small word is not negative. -/
theorem not_neg_small {p : ℕ} (hp : p < 65536) : IntOp.cmpi .slt (BitVec.ofNat 32 p) 0#32 = 0#1 := by
  have h : ((BitVec.ofNat 32 p).slt 0#32) = false := by
    rw [BitVec.slt_eq_decide]
    simp [BitVec.toInt_eq_toNat_of_msb (msb_small hp)]
    omega
  show BitVec.ofBool ((BitVec.ofNat 32 p).slt 0#32) = 0#1
  rw [h]; rfl

/-- The sign of a small word is 0 or 1. -/
theorem sign_small {p : ℕ} (hp : p < 65536) :
    (if BitVec.ofNat 32 p = 0 then (0 : BitVec 32) else if (BitVec.ofNat 32 p).msb then -1 else 1) = if p = 0 then 0 else 1 := by
  rw [msb_small hp]
  by_cases h : p = 0
  · subst h; simp
  · rw [if_neg h, if_neg]
    · rfl
    · intro hh
      have := congrArg BitVec.toNat hh
      simp at this
      omega

/-- The program's rounding-down quotient of a flat position by the row length: the row. -/
theorem floor_word {p : ℕ} {a r : BitVec 32} (hp : p < 65536) (ha : a = BitVec.ofNat 32 p) (hr : r = 256#32) :
    Scalar.select (IntOp.andi (IntOp.cmpi .ne (if a = 0 then (0 : BitVec 32) else if a.msb = true then -1 else 1)
          (if r = 0 then (0 : BitVec 32) else if r.msb = true then -1 else 1)) (IntOp.cmpi .ne (IntOp.remsi .host a r) 0#32))
        (IntOp.subi (IntOp.divsi .host a r) 1#32) (IntOp.divsi .host a r) = BitVec.ofNat 32 (p / 256) := by
  subst ha hr
  rw [div_word hp, rem_word hp, sign_small hp]
  by_cases h : p = 0
  · subst h; rfl
  · rw [if_neg h, show IntOp.cmpi .ne (1 : BitVec 32) (if (256#32 : BitVec 32) = 0 then (0 : BitVec 32) else if (256#32 : BitVec 32).msb = true
      then -1 else 1) = 0#1 from by decide]
    generalize IntOp.cmpi .ne (BitVec.ofNat 32 (p % 256)) 0#32 = z
    rw [show IntOp.andi 0#1 z = 0#1 by unfold IntOp.andi; exact BitVec.zero_and]
    rfl

/-- The program's nonnegative remainder of a flat position by the row length: the column. -/
theorem mod_word {p : ℕ} {a r : BitVec 32} (hp : p < 65536) (ha : a = BitVec.ofNat 32 p) (hr : r = 256#32) :
    Scalar.select (IntOp.andi (IntOp.cmpi .ne
          (IntOp.cmpi .slt (IntOp.remsi .host a (Scalar.select (IntOp.cmpi .eq r 0#32) 1#32 r)) 0#32)
          (IntOp.cmpi .slt (Scalar.select (IntOp.cmpi .eq r 0#32) 1#32 r) 0#32))
        (IntOp.cmpi .ne (IntOp.remsi .host a (Scalar.select (IntOp.cmpi .eq r 0#32) 1#32 r)) 0#32))
        (IntOp.addi (IntOp.remsi .host a (Scalar.select (IntOp.cmpi .eq r 0#32) 1#32 r)) (Scalar.select (IntOp.cmpi .eq r 0#32) 1#32 r))
        (IntOp.remsi .host a (Scalar.select (IntOp.cmpi .eq r 0#32) 1#32 r)) = BitVec.ofNat 32 (p % 256) := by
  subst ha hr
  rw [show Scalar.select (IntOp.cmpi .eq 256#32 0#32) 1#32 256#32 = 256#32 from rfl, rem_word hp,
    not_neg_small (show p % 256 < 65536 by omega), show IntOp.cmpi .ne (0#1) (IntOp.cmpi .slt 256#32 0#32) = 0#1 from rfl]
  generalize IntOp.cmpi .ne (BitVec.ofNat 32 (p % 256)) 0#32 = z
  rw [show IntOp.andi 0#1 z = 0#1 by unfold IntOp.andi; exact BitVec.zero_and]
  rfl

/-- The gate is the logistic function. -/
theorem gate_eq (z : EReal) : gate z = Ideal.logistic z := rfl

/-- The gate is not negative. -/
theorem gate_nonneg (z : EReal) : 0 ≤ gate z := by
  rw [gate_eq]
  induction z with
  | bot => simp
  | top => simp
  | coe r => rw [Ideal.logistic_coe]; exact EReal.coe_nonneg.2 (by positivity)

/-- The gate is finite above. -/
theorem gate_ne_top (z : EReal) : gate z ≠ ⊤ := by
  rw [gate_eq]
  induction z with
  | bot => simp
  | top => rw [Ideal.logistic_top]; exact EReal.coe_ne_top 1
  | coe r => rw [Ideal.logistic_coe]; exact EReal.coe_ne_top _

/-- The kernel adds up the four corners' shares, each already times the gate: the sample times the gate. -/
theorem sum_gate (a b c d z : EReal) :
    0 + a * gate z + b * gate z + c * gate z + d * gate z = ((a + b) + (c + d)) * gate z := by
  have h := EReal.right_distrib_of_nonneg_of_ne_top (gate_nonneg z) (gate_ne_top z)
  rw [h, h, h, zero_add, add_assoc]

/-- One corner's share in the kernel: the patch's value times the weight where the corner lies in the image, times the gate. -/
theorem kernel_corner (P : (⟨4, ![2, 258, 258, 64]⟩ : Shape).Idx → EReal) (X : ℕ → ℕ → EReal) (b : Fin 2) (o : Fin 64) (y x : BitVec 32)
    (dy dx : Fin 2) (w g : EReal) (hP : ∀ r q : ℕ, r < 256 → q < 256 → at4 P b (r + 1) (q + 1) o = X r q) :
    P (ix4 b ⟨min (IntOp.addi (IntOp.minsi 255#32 (IntOp.maxsi 4294967295#32 y)) 1#32).toInt.toNat 256 + dy.val, by omega⟩
        ⟨min (IntOp.addi (IntOp.minsi 255#32 (IntOp.maxsi 4294967295#32 x)) 1#32).toInt.toNat 256 + dx.val, by omega⟩ o)
      * (Scalar.select (if inside (y + BitVec.ofNat 32 dy.val) ∧ inside (x + BitVec.ofNat 32 dx.val) then 1#1 else 0#1) w 0 * g)
      = corner X (y + BitVec.ofNat 32 dy.val) (x + BitVec.ofNat 32 dx.val) w * g := by
  unfold corner
  by_cases h : inside (y + BitVec.ofNat 32 dy.val) ∧ inside (x + BitVec.ofNat 32 dx.val)
  · rw [if_pos h, if_pos h]
    have h1 := inside_toNat h.1
    have h2 := inside_toNat h.2
    rw [← hP _ _ (by omega) (by omega)]
    rw [show ∀ a b : EReal, Scalar.select 1#1 a b = a from fun _ _ => rfl, ← mul_assoc]
    refine congrArg (· * w * g) (ix4_at _ _ _ _ _ ?_ ?_ ?_ ?_)
    · rfl
    · exact kernel_start y dy.val (by omega) h.1
    · exact kernel_start x dx.val (by omega) h.2
    · rfl
  · rw [if_neg h, if_neg h, show ∀ a b : EReal, Scalar.select 0#1 a b = b from fun _ _ => rfl, zero_mul, mul_zero]

end Cert.Spec

end
-- ==== Proof.Gather.lean ====
/- The two programs' gathers and the reference's sum over the four corners, read at an index. -/
module

public import Idealize.ShloMosaic.Lib.Pointwise

@[expose] public section

noncomputable section

namespace Cert.Spec

open Idealize.ShloMosaic

/-- A gather of 2×2 patches of every image, at an index: the patch begins at the clamped start. -/
theorem gather_patch {α : Type} {B N H C : ℕ}
    (wf : GatherDims.WF ⟨4, ![B, H + 2, H + 2, C]⟩ ⟨3, ![B, N, 2]⟩ ⟨5, ![B, N, 2, 2, C]⟩ [2, 3, 4] [] [0] [1, 2] [0] 2 ![1, 2, 2, C])
    (x : (⟨4, ![B, H + 2, H + 2, C]⟩ : Shape).Idx → α) (idx : IVec ⟨3, ![B, N, 2]⟩ 32)
    (b : Fin B) (n : Fin N) (dy dx : Fin 2) (c : Fin C) :
    Host.gather (⟨[2, 3, 4], [], [0], [0], [1, 2], 2, ![1, 2, 2, C], wf⟩ : GatherDims _ _ _) x idx (ix5 b n dy dx c)
      = x (ix4 b ⟨min (idx (ix3 b n 0)).toInt.toNat H + dy.val, by omega⟩
          ⟨min (idx (ix3 b n 1)).toInt.toNat H + dx.val, by omega⟩ c) := by
  unfold Host.gather
  congr 1
  funext a
  refine Fin.ext ?_
  show GatherDims.start _ _ idx a + GatherDims.batchCoord _ _ a + GatherDims.offCoord _ _ a = _
  match a with
  | ⟨0, _⟩ => exact (congrArg₂ (· + ·) (congrArg₂ (· + ·) (show _ = 0 from rfl) (show _ = b.val from rfl)) (show _ = 0 from rfl)).trans (by simp)
  | ⟨1, _⟩ =>
    rw [GatherDims.batchCoord_eq_zero _ _ _ (show (1 : Fin 4) ∉ ([0] : List (Fin 4)) from by decide), Nat.add_zero]
    refine congrArg₂ (· + ·) ?_ rfl
    unfold GatherDims.start
    refine (dif_pos (show (1 : Fin 4) ∈ ([1, 2] : List (Fin 4)) from by decide)).trans ?_
    refine congrArg (fun i => min (idx i).toInt.toNat H) ?_
    funext e
    match e with
    | ⟨0, _⟩ => rfl
    | ⟨1, _⟩ => rfl
    | ⟨2, _⟩ => rfl
  | ⟨2, _⟩ =>
    rw [GatherDims.batchCoord_eq_zero _ _ _ (show (2 : Fin 4) ∉ ([0] : List (Fin 4)) from by decide), Nat.add_zero]
    refine congrArg₂ (· + ·) ?_ rfl
    unfold GatherDims.start
    refine (dif_pos (show (2 : Fin 4) ∈ ([1, 2] : List (Fin 4)) from by decide)).trans ?_
    refine congrArg (fun i => min (idx i).toInt.toNat H) ?_
    funext e
    match e with
    | ⟨0, _⟩ => rfl
    | ⟨1, _⟩ => rfl
    | ⟨2, _⟩ => rfl
  | ⟨3, _⟩ =>
    rw [GatherDims.batchCoord_eq_zero _ _ _ (show (3 : Fin 4) ∉ ([0] : List (Fin 4)) from by decide), Nat.add_zero]
    exact (congrArg₂ (· + ·) (show _ = 0 from rfl) (show _ = c.val from rfl)).trans (Nat.zero_add _)

/-- A gather of whole channel columns of every image, at an index: the column at the clamped start. -/
theorem gather_column {α : Type} {B N P C : ℕ}
    (wf : GatherDims.WF ⟨3, ![B, C, P + 1]⟩ ⟨3, ![B, N, 1]⟩ ⟨3, ![B, C, N]⟩ [1] [2] [0] [2] [0] 2 ![1, C, 1])
    (x : (⟨3, ![B, C, P + 1]⟩ : Shape).Idx → α) (idx : IVec ⟨3, ![B, N, 1]⟩ 32) (b : Fin B) (c : Fin C) (n : Fin N) :
    Host.gather (⟨[1], [2], [0], [0], [2], 2, ![1, C, 1], wf⟩ : GatherDims _ _ _) x idx (ix3 b c n)
      = x (ix3 b c ⟨min (idx (ix3 b n 0)).toInt.toNat P, by omega⟩) := by
  unfold Host.gather
  congr 1
  funext a
  refine Fin.ext ?_
  show GatherDims.start _ _ idx a + GatherDims.batchCoord _ _ a + GatherDims.offCoord _ _ a = _
  match a with
  | ⟨0, _⟩ => exact (congrArg₂ (· + ·) (congrArg₂ (· + ·) (show _ = 0 from rfl) (show _ = b.val from rfl)) (show _ = 0 from rfl)).trans (by simp)
  | ⟨1, _⟩ => exact (congrArg₂ (· + ·) (congrArg₂ (· + ·) (show _ = 0 from rfl) (show _ = 0 from rfl)) (show _ = c.val from rfl)).trans (by simp)
  | ⟨2, _⟩ =>
    refine (congrArg₂ (· + ·) (congrArg₂ (· + ·) (?_ : _ = min (idx (ix3 b n 0)).toInt.toNat P)
      (GatherDims.batchCoord_eq_zero _ _ _ (show (2 : Fin 3) ∉ ([0] : List (Fin 3)) from by decide)))
      (GatherDims.offCoord_eq_zero _ _ _ (fun h => ((GatherDims.mem_sKept _ _).mp h).1 (List.mem_singleton.mpr rfl)))).trans (by simp)
    unfold GatherDims.start
    refine (dif_pos (show (2 : Fin 3) ∈ ([2] : List (Fin 3)) from by decide)).trans ?_
    refine congrArg (fun i => min (idx i).toInt.toNat P) ?_
    funext e
    match e with
    | ⟨0, _⟩ => rfl
    | ⟨1, _⟩ => rfl
    | ⟨2, _⟩ => rfl

/-- The sum over the third and fourth of seven axes, at an index. -/
theorem sum_corners {n0 n1 n2 n3 n4 n5 n6 : ℕ}
    (h : (⟨7, ![n0, n1, n2, n3, n4, n5, n6]⟩ : Shape).ReducesTo [2, 3] ⟨5, ![n0, n1, n4, n5, n6]⟩)
    (x : (⟨7, ![n0, n1, n2, n3, n4, n5, n6]⟩ : Shape).Idx → EReal) (init : EReal)
    (a : Fin n0) (b : Fin n1) (c : Fin n4) (d : Fin n5) (e : Fin n6) :
    Ideal.hostReduceAdd h x init (ix5 a b c d e) = init + ∑ k : Fin n2 × Fin n3, x (ix7 a b k.1 k.2 c d e) := by
  refine congrArg (init + ·) ?_
  refine Finset.sum_filter_eq_sum_of_fiber _ (fun k : Fin n2 × Fin n3 => ix7 a b k.1 k.2 c d e) ?_ ?_ x
  · intro k l hkl
    exact Prod.ext (congrFun hkl 2) (congrFun hkl 3)
  · intro i
    constructor
    · intro hi
      refine ⟨(i 2, i 3), ?_⟩
      funext m
      match m with
      | ⟨0, _⟩ => exact (congrFun hi 0).symm
      | ⟨1, _⟩ => exact (congrFun hi 1).symm
      | ⟨2, _⟩ => rfl
      | ⟨3, _⟩ => rfl
      | ⟨4, _⟩ => exact (congrFun hi 2).symm
      | ⟨5, _⟩ => exact (congrFun hi 3).symm
      | ⟨6, _⟩ => exact (congrFun hi 4).symm
    · rintro ⟨k, rfl⟩
      funext m
      match m with
      | ⟨0, _⟩ => rfl
      | ⟨1, _⟩ => rfl
      | ⟨2, _⟩ => rfl
      | ⟨3, _⟩ => rfl
      | ⟨4, _⟩ => rfl

end Cert.Spec

end
-- ==== Proof.KSample.lean ====
/- The kernel's sampling: positions, gathered patches, corners and their sum, from the offset and mask convolution. -/
module

public import proofs.«01_k».proof.Proof.KBands
public import proofs.«01_k».proof.Proof.Words
public import proofs.«01_k».proof.Proof.Gather

@[expose] public section

set_option maxRecDepth 16384

noncomputable section

namespace Cert.KernelIdeal.Host

open Idealize.ShloMosaic Idealize.ShloMosaic.TcCoe Cert.KernelIdeal Cert.KernelIdeal.Gen Cert.Spec

/-- A buffer's element as a number. -/
abbrev num (x : EReal) : EReal := x

/-- A buffer's element as a word. -/
abbrev word {n : ℕ} (x : BitVec n) : BitVec n := x

section Stretch

variable (V : Valuation τ sig (Elt Ideal))

/-- The image with its channels last. -/
theorem v0_at (b : Fin 2) (r q : Fin 256) (k : Fin 64) :
    (StableHlo.after hostOps0 V (Proc.devRef .tc main_v0) : S2x256x256x64.Idx → EReal) (ix4 b r q k)
      = (V (Proc.devRef .tc main_arg0) : S2x64x256x256.Idx → EReal) (ix4 b k r q) := by
  after_reads_at

/-- The word the first padding takes. -/
theorem c_at : (StableHlo.after hostOps0 V (Proc.devRef .tc main_c) : S_.Idx → BitVec 32) = fun _ => 0#32 := by
  funext i; after_reads_at

/-- The padded image. -/
theorem v1_at (b : Fin 2) (r q : Fin 258) (k : Fin 64) :
    (StableHlo.after hostOps0_1 V (Proc.devRef .tc main_v1) : S2x258x258x64.Idx → EReal) (ix4 b r q k)
      = if h : (1 ≤ r.val ∧ r.val - 1 < 256) ∧ 1 ≤ q.val ∧ q.val - 1 < 256 then
          (V (Proc.devRef .tc main_v0) : S2x256x256x64.Idx → EReal) (ix4 b ⟨r.val - 1, h.1.2⟩ ⟨q.val - 1, h.2.2⟩ k)
        else FloatOps.sitofp (F := Ideal) .f32 ((V (Proc.devRef .tc main_c) : S_.Idx → BitVec 32) (Shape.Idx.first h_S_)) := by
  clean_types
  after_reads_at

/-- The vertical offsets, by tap and position. -/
theorem v16_at (g : ℕ → ℕ → ℕ → EReal)
    (h0 : ∀ (b : Fin 2) (p : Fin 16384) (o : Fin 27), (V (Proc.devRef .tc main_v7) : S2x16384x27.Idx → EReal) (ix3 b p o) = g b (p.val + 16384 * 0) o)
    (h1 : ∀ (b : Fin 2) (p : Fin 16384) (o : Fin 27), (V (Proc.devRef .tc main_v9) : S2x16384x27.Idx → EReal) (ix3 b p o) = g b (p.val + 16384 * 1) o)
    (h2 : ∀ (b : Fin 2) (p : Fin 16384) (o : Fin 27), (V (Proc.devRef .tc main_v11) : S2x16384x27.Idx → EReal) (ix3 b p o) = g b (p.val + 16384 * 2) o)
    (h3 : ∀ (b : Fin 2) (p : Fin 16384) (o : Fin 27), (V (Proc.devRef .tc main_v13) : S2x16384x27.Idx → EReal) (ix3 b p o) = g b (p.val + 16384 * 3) o)
    (b : Fin 2) (k : Fin 9) (p : Fin 65536) :
    (StableHlo.after hostOps4 V (Proc.devRef .tc main_v16) : S2x9x65536.Idx → EReal) (ix3 b k p) = g b p (k.val) := by
  after_reads_at
  exact bands4 g h0 h1 h2 h3 b p ⟨k.val, by omega⟩

/-- The horizontal offsets. -/
theorem v18_at (g : ℕ → ℕ → ℕ → EReal)
    (h0 : ∀ (b : Fin 2) (p : Fin 16384) (o : Fin 27), (V (Proc.devRef .tc main_v7) : S2x16384x27.Idx → EReal) (ix3 b p o) = g b (p.val + 16384 * 0) o)
    (h1 : ∀ (b : Fin 2) (p : Fin 16384) (o : Fin 27), (V (Proc.devRef .tc main_v9) : S2x16384x27.Idx → EReal) (ix3 b p o) = g b (p.val + 16384 * 1) o)
    (h2 : ∀ (b : Fin 2) (p : Fin 16384) (o : Fin 27), (V (Proc.devRef .tc main_v11) : S2x16384x27.Idx → EReal) (ix3 b p o) = g b (p.val + 16384 * 2) o)
    (h3 : ∀ (b : Fin 2) (p : Fin 16384) (o : Fin 27), (V (Proc.devRef .tc main_v13) : S2x16384x27.Idx → EReal) (ix3 b p o) = g b (p.val + 16384 * 3) o)
    (b : Fin 2) (k : Fin 9) (p : Fin 65536) :
    (StableHlo.after hostOps4 V (Proc.devRef .tc main_v18) : S2x9x65536.Idx → EReal) (ix3 b k p) = g b p (9 + k.val) := by
  after_reads_at
  exact bands4 g h0 h1 h2 h3 b p ⟨9 + k.val, by omega⟩

/-- The gates. -/
theorem v26_at (g : ℕ → ℕ → ℕ → EReal)
    (h0 : ∀ (b : Fin 2) (p : Fin 16384) (o : Fin 27), (V (Proc.devRef .tc main_v7) : S2x16384x27.Idx → EReal) (ix3 b p o) = g b (p.val + 16384 * 0) o)
    (h1 : ∀ (b : Fin 2) (p : Fin 16384) (o : Fin 27), (V (Proc.devRef .tc main_v9) : S2x16384x27.Idx → EReal) (ix3 b p o) = g b (p.val + 16384 * 1) o)
    (h2 : ∀ (b : Fin 2) (p : Fin 16384) (o : Fin 27), (V (Proc.devRef .tc main_v11) : S2x16384x27.Idx → EReal) (ix3 b p o) = g b (p.val + 16384 * 2) o)
    (h3 : ∀ (b : Fin 2) (p : Fin 16384) (o : Fin 27), (V (Proc.devRef .tc main_v13) : S2x16384x27.Idx → EReal) (ix3 b p o) = g b (p.val + 16384 * 3) o)
    (b : Fin 2) (k : Fin 9) (p : Fin 65536) :
    (StableHlo.after hostOps4 V (Proc.devRef .tc main_v26) : S2x9x65536.Idx → EReal) (ix3 b k p) = gate (g b p (18 + k.val)) := by
  after_reads_at
  exact congrArg gate (bands4 g h0 h1 h2 h3 b p ⟨18 + k.val, by omega⟩)

/-- The taps' rows. -/
theorem v31_at (k : Fin 9) : (StableHlo.after hostOps4 V (Proc.devRef .tc main_v31) : S9.Idx → EReal) (ix1 k)
    = FloatOps.sitofp (F := Ideal) .f32 (BitVec.ofNat 32 (k.val / 3)) - 1 := by
  after_reads_at

/-- The taps' columns. -/
theorem v37_at (k : Fin 9) : (StableHlo.after hostOps4 V (Proc.devRef .tc main_v37) : S9.Idx → EReal) (ix1 k)
    = FloatOps.sitofp (F := Ideal) .f32 (BitVec.ofNat 32 (k.val % 3)) - 1 := by
  after_reads_at

/-- The flat positions. -/
theorem v38_at (p : Fin 65536) : (StableHlo.after hostOps4 V (Proc.devRef .tc main_v38) : S65536.Idx → BitVec 32) (ix1 p)
    = BitVec.ofNat 32 p.val := by
  after_reads_at

/-- The row length. -/
theorem c4_at : (StableHlo.after hostOps4 V (Proc.devRef .tc main_c_4) : S_.Idx → BitVec 32) ix0 = 256#32 := by
  after_reads_at

/-- The rows of the flat positions. -/
theorem v39_at (h : (V (Proc.devRef .tc main_c_4) : S_.Idx → BitVec 32) ix0 = 256#32) (p : Fin 65536)
    (hp : (V (Proc.devRef .tc main_v38) : S65536.Idx → BitVec 32) (ix1 p) = BitVec.ofNat 32 p.val) :
    (StableHlo.after hostOps4_1 V (Proc.devRef .tc main_v39) : S65536.Idx → BitVec 32) (ix1 p) = BitVec.ofNat 32 (p.val / 256) := by
  after_reads_at
  simp only [id]
  exact floor_word p.isLt hp h

/-- The flat positions once more, and the row length. -/
theorem v41_at (p : Fin 65536) : (StableHlo.after hostOps4_2 V (Proc.devRef .tc main_v41) : S65536.Idx → BitVec 32) (ix1 p)
    = BitVec.ofNat 32 p.val := by
  after_reads_at

/-- The rows as numbers. -/
theorem v40_at (p : Fin 65536) : (StableHlo.after hostOps4_2 V (Proc.devRef .tc main_v40) : S65536.Idx → EReal) (ix1 p)
    = FloatOps.sitofp (F := Ideal) .f32 ((V (Proc.devRef .tc main_v39) : S65536.Idx → BitVec 32) (ix1 p)) := by
  after_reads_at

/-- The row length. -/
theorem c5_at : (StableHlo.after hostOps4_2 V (Proc.devRef .tc main_c_5) : S_.Idx → BitVec 32) ix0 = 256#32 := by
  after_reads_at

/-- The columns of the flat positions. -/
theorem v42_at (h : (V (Proc.devRef .tc main_c_5) : S_.Idx → BitVec 32) ix0 = 256#32) (p : Fin 65536)
    (hp : (V (Proc.devRef .tc main_v41) : S65536.Idx → BitVec 32) (ix1 p) = BitVec.ofNat 32 p.val) :
    (StableHlo.after hostOps4_3 V (Proc.devRef .tc main_v42) : S65536.Idx → BitVec 32) (ix1 p) = BitVec.ofNat 32 (p.val % 256) := by
  after_reads_at
  simp only [id]
  exact mod_word p.isLt hp h

/-- How far below the point its upper corner lies. -/
theorem v60_at (b : Fin 2) (k : Fin 9) (p : Fin 65536) : (StableHlo.after hostOps4_4 V (Proc.devRef .tc main_v60) : S2x9x65536.Idx → EReal) (ix3 b k p)
    = frac (num ((V (Proc.devRef .tc main_v40) : S65536.Idx → EReal) (ix1 p)) + num ((V (Proc.devRef .tc main_v31) : S9.Idx → EReal) (ix1 k))
      + num ((V (Proc.devRef .tc main_v16) : S2x9x65536.Idx → EReal) (ix3 b k p))) := by
  after_reads_at <;> rfl

/-- How far right of the point its left corner lies. -/
theorem v61_at (b : Fin 2) (k : Fin 9) (p : Fin 65536) : (StableHlo.after hostOps4_4 V (Proc.devRef .tc main_v61) : S2x9x65536.Idx → EReal) (ix3 b k p)
    = frac (FloatOps.sitofp (F := Ideal) .f32 (word ((V (Proc.devRef .tc main_v42) : S65536.Idx → BitVec 32) (ix1 p))) + num ((V (Proc.devRef .tc main_v37) : S9.Idx → EReal) (ix1 k))
      + num ((V (Proc.devRef .tc main_v18) : S2x9x65536.Idx → EReal) (ix3 b k p))) := by
  after_reads_at <;> rfl

/-- The row of the upper corners. -/
theorem v62_at (b : Fin 2) (k : Fin 9) (p : Fin 65536) : (StableHlo.after hostOps4_4 V (Proc.devRef .tc main_v62) : S2x9x65536.Idx → BitVec 32) (ix3 b k p)
    = below (num ((V (Proc.devRef .tc main_v40) : S65536.Idx → EReal) (ix1 p)) + num ((V (Proc.devRef .tc main_v31) : S9.Idx → EReal) (ix1 k))
      + num ((V (Proc.devRef .tc main_v16) : S2x9x65536.Idx → EReal) (ix3 b k p))) := by
  after_reads_at <;> rfl

/-- The column of the left corners. -/
theorem v63_at (b : Fin 2) (k : Fin 9) (p : Fin 65536) : (StableHlo.after hostOps4_4 V (Proc.devRef .tc main_v63) : S2x9x65536.Idx → BitVec 32) (ix3 b k p)
    = below (FloatOps.sitofp (F := Ideal) .f32 (word ((V (Proc.devRef .tc main_v42) : S65536.Idx → BitVec 32) (ix1 p))) + num ((V (Proc.devRef .tc main_v37) : S9.Idx → EReal) (ix1 k))
      + num ((V (Proc.devRef .tc main_v18) : S2x9x65536.Idx → EReal) (ix3 b k p))) := by
  after_reads_at <;> rfl

/-- A lower bound. -/
theorem c_6_at : (StableHlo.after hostOps4_4 V (Proc.devRef .tc main_c_6) : S_.Idx → BitVec 32) ix0 = 4294967295#32 := by
  after_reads_at

/-- An upper bound. -/
theorem c_7_at : (StableHlo.after hostOps4_4 V (Proc.devRef .tc main_c_7) : S_.Idx → BitVec 32) ix0 = 255#32 := by
  after_reads_at

/-- The row, held between the bounds. -/
theorem v64_at (b : Fin 2) (k : Fin 9) (p : Fin 65536) : (StableHlo.after hostOps4_5 V (Proc.devRef .tc main_v64) : S2x9x65536.Idx → BitVec 32) (ix3 b k p)
    = IntOp.minsi (word ((V (Proc.devRef .tc main_c_7) : S_.Idx → BitVec 32) ix0)) (IntOp.maxsi (word ((V (Proc.devRef .tc main_c_6) : S_.Idx → BitVec 32) ix0))
      (word ((V (Proc.devRef .tc main_v62) : S2x9x65536.Idx → BitVec 32) (ix3 b k p)))) := by
  after_reads_at <;> rfl

/-- The first row of the patch. -/
theorem v66_at (b : Fin 2) (k : Fin 9) (p : Fin 65536) : (StableHlo.after hostOps4_6 V (Proc.devRef .tc main_v66) : S2x9x65536.Idx → BitVec 32) (ix3 b k p)
    = IntOp.addi (word ((V (Proc.devRef .tc main_v64) : S2x9x65536.Idx → BitVec 32) (ix3 b k p))) 1#32 := by
  after_reads_at <;> rfl

/-- A lower bound. -/
theorem c_9_at : (StableHlo.after hostOps4_6 V (Proc.devRef .tc main_c_9) : S_.Idx → BitVec 32) ix0 = 4294967295#32 := by
  after_reads_at

/-- An upper bound. -/
theorem c_10_at : (StableHlo.after hostOps4_6 V (Proc.devRef .tc main_c_10) : S_.Idx → BitVec 32) ix0 = 255#32 := by
  after_reads_at

/-- The column, held between the bounds. -/
theorem v67_at (b : Fin 2) (k : Fin 9) (p : Fin 65536) : (StableHlo.after hostOps4_7 V (Proc.devRef .tc main_v67) : S2x9x65536.Idx → BitVec 32) (ix3 b k p)
    = IntOp.minsi (word ((V (Proc.devRef .tc main_c_10) : S_.Idx → BitVec 32) ix0)) (IntOp.maxsi (word ((V (Proc.devRef .tc main_c_9) : S_.Idx → BitVec 32) ix0))
      (word ((V (Proc.devRef .tc main_v63) : S2x9x65536.Idx → BitVec 32) (ix3 b k p)))) := by
  after_reads_at <;> rfl

/-- The kernel's gather, at an index. -/
theorem gather_at (x : S2x258x258x64.Idx → EReal) (idx : S2x589824x2.Idx → BitVec 32) (b : Fin 2) (n : Fin 589824) (dy dx : Fin 2) (o : Fin 64) :
    Host.gather gather_S2x258x258x64_S2x589824x2_S2x589824x2x2x64_234_n_0_0_12_2_12264 x idx (ix5 b n dy dx o)
      = x (ix4 b ⟨min (idx (ix3 b n 0)).toInt.toNat 256 + dy.val, by omega⟩ ⟨min (idx (ix3 b n 1)).toInt.toNat 256 + dx.val, by omega⟩ o) :=
  gather_patch (H := 256) _ x idx b n dy dx o

/-- The gathered patches. -/
theorem v75_at (b : Fin 2) (n : Fin 589824) (dy dx : Fin 2) (o : Fin 64) :
    (StableHlo.after hostOps4_8 V (Proc.devRef .tc main_v75) : S2x589824x2x2x64.Idx → EReal) (ix5 b n dy dx o)
      = (V (Proc.devRef .tc main_v1) : S2x258x258x64.Idx → EReal)
          (ix4 b ⟨min ((V (Proc.devRef .tc main_v66) : S2x9x65536.Idx → BitVec 32) (ix3 b ⟨n.val / 65536, by omega⟩ ⟨n.val % 65536, by omega⟩)).toInt.toNat 256 + dy.val, by omega⟩
            ⟨min (IntOp.addi ((V (Proc.devRef .tc main_v67) : S2x9x65536.Idx → BitVec 32) (ix3 b ⟨n.val / 65536, by omega⟩ ⟨n.val % 65536, by omega⟩)) 1#32).toInt.toNat 256 + dx.val,
              by omega⟩ o) := by
  after_reads_at
  refine (gather_at _ _ b n dy dx o).trans ?_
  after_reads_at
  done

/-- The sum starts at zero. -/
theorem v76_at (b : Fin 2) (n : Fin 589824) (o : Fin 64) :
    (StableHlo.after hostOps4_8 V (Proc.devRef .tc main_v76) : S2x589824x64.Idx → EReal) (ix3 b n o) = (0 : EReal) := by
  after_reads_at

/-- Whether the upper left corner lies in the image. -/
theorem v91_at (b : Fin 2) (k : Fin 9) (p : Fin 65536) : (StableHlo.after hostOps4_8 V (Proc.devRef .tc main_v91) : S2x9x65536.Idx → BitVec 1) (ix3 b k p)
    = if inside (word ((V (Proc.devRef .tc main_v62) : S2x9x65536.Idx → BitVec 32) (ix3 b k p)) + 0#32) ∧
      inside (word ((V (Proc.devRef .tc main_v63) : S2x9x65536.Idx → BitVec 32) (ix3 b k p)) + 0#32) then 1#1 else 0#1 := by
  after_reads_at
  exact kernel_bit _ _

/-- The upper left corner's weight. -/
theorem v96_at (b : Fin 2) (k : Fin 9) (p : Fin 65536) : (StableHlo.after hostOps4_8 V (Proc.devRef .tc main_v96) : S2x9x65536.Idx → EReal) (ix3 b k p)
    = (1 - num ((V (Proc.devRef .tc main_v60) : S2x9x65536.Idx → EReal) (ix3 b k p))) * (1 - num ((V (Proc.devRef .tc main_v61) : S2x9x65536.Idx → EReal) (ix3 b k p))) := by
  after_reads_at <;> rfl

/-- The value outside the image. -/
theorem cst_21_at : (StableHlo.after hostOps4_8 V (Proc.devRef .tc main_cst_21) : S_.Idx → EReal) ix0 = (0 : EReal) := by
  after_reads_at

/-- The upper left corner's weight, zero outside the image. -/
theorem v97_at (b : Fin 2) (k : Fin 9) (p : Fin 65536) : (StableHlo.after hostOps4_9 V (Proc.devRef .tc main_v97) : S2x9x65536.Idx → EReal) (ix3 b k p)
    = Scalar.select (word ((V (Proc.devRef .tc main_v91) : S2x9x65536.Idx → BitVec 1) (ix3 b k p))) (num ((V (Proc.devRef .tc main_v96) : S2x9x65536.Idx → EReal) (ix3 b k p)))
      (num ((V (Proc.devRef .tc main_cst_21) : S_.Idx → EReal) ix0)) := by
  after_reads_at <;> rfl

/-- Whether the upper right corner lies in the image. -/
theorem v120_at (b : Fin 2) (k : Fin 9) (p : Fin 65536) : (StableHlo.after hostOps4_10 V (Proc.devRef .tc main_v120) : S2x9x65536.Idx → BitVec 1) (ix3 b k p)
    = if inside (word ((V (Proc.devRef .tc main_v62) : S2x9x65536.Idx → BitVec 32) (ix3 b k p)) + 0#32) ∧
      inside (word ((V (Proc.devRef .tc main_v63) : S2x9x65536.Idx → BitVec 32) (ix3 b k p)) + 1#32) then 1#1 else 0#1 := by
  after_reads_at
  exact kernel_bit _ _

/-- The upper right corner's weight. -/
theorem v123_at (b : Fin 2) (k : Fin 9) (p : Fin 65536) : (StableHlo.after hostOps4_10 V (Proc.devRef .tc main_v123) : S2x9x65536.Idx → EReal) (ix3 b k p)
    = (1 - num ((V (Proc.devRef .tc main_v60) : S2x9x65536.Idx → EReal) (ix3 b k p))) * num ((V (Proc.devRef .tc main_v61) : S2x9x65536.Idx → EReal) (ix3 b k p)) := by
  after_reads_at <;> rfl

/-- The value outside the image. -/
theorem cst_29_at : (StableHlo.after hostOps4_10 V (Proc.devRef .tc main_cst_29) : S_.Idx → EReal) ix0 = (0 : EReal) := by
  after_reads_at

/-- The upper right corner's weight, zero outside the image. -/
theorem v124_at (b : Fin 2) (k : Fin 9) (p : Fin 65536) : (StableHlo.after hostOps4_11 V (Proc.devRef .tc main_v124) : S2x9x65536.Idx → EReal) (ix3 b k p)
    = Scalar.select (word ((V (Proc.devRef .tc main_v120) : S2x9x65536.Idx → BitVec 1) (ix3 b k p))) (num ((V (Proc.devRef .tc main_v123) : S2x9x65536.Idx → EReal) (ix3 b k p)))
      (num ((V (Proc.devRef .tc main_cst_29) : S_.Idx → EReal) ix0)) := by
  after_reads_at <;> rfl

/-- Whether the lower left corner lies in the image. -/
theorem v147_at (b : Fin 2) (k : Fin 9) (p : Fin 65536) : (StableHlo.after hostOps4_12 V (Proc.devRef .tc main_v147) : S2x9x65536.Idx → BitVec 1) (ix3 b k p)
    = if inside (word ((V (Proc.devRef .tc main_v62) : S2x9x65536.Idx → BitVec 32) (ix3 b k p)) + 1#32) ∧
      inside (word ((V (Proc.devRef .tc main_v63) : S2x9x65536.Idx → BitVec 32) (ix3 b k p)) + 0#32) then 1#1 else 0#1 := by
  after_reads_at
  exact kernel_bit _ _

/-- The lower left corner's weight. -/
theorem v150_at (b : Fin 2) (k : Fin 9) (p : Fin 65536) : (StableHlo.after hostOps4_12 V (Proc.devRef .tc main_v150) : S2x9x65536.Idx → EReal) (ix3 b k p)
    = num ((V (Proc.devRef .tc main_v60) : S2x9x65536.Idx → EReal) (ix3 b k p)) * (1 - num ((V (Proc.devRef .tc main_v61) : S2x9x65536.Idx → EReal) (ix3 b k p))) := by
  after_reads_at <;> rfl

/-- The value outside the image. -/
theorem cst_37_at : (StableHlo.after hostOps4_12 V (Proc.devRef .tc main_cst_37) : S_.Idx → EReal) ix0 = (0 : EReal) := by
  after_reads_at

/-- The lower left corner's weight, zero outside the image. -/
theorem v151_at (b : Fin 2) (k : Fin 9) (p : Fin 65536) : (StableHlo.after hostOps4_13 V (Proc.devRef .tc main_v151) : S2x9x65536.Idx → EReal) (ix3 b k p)
    = Scalar.select (word ((V (Proc.devRef .tc main_v147) : S2x9x65536.Idx → BitVec 1) (ix3 b k p))) (num ((V (Proc.devRef .tc main_v150) : S2x9x65536.Idx → EReal) (ix3 b k p)))
      (num ((V (Proc.devRef .tc main_cst_37) : S_.Idx → EReal) ix0)) := by
  after_reads_at <;> rfl

/-- Whether the lower right corner lies in the image. -/
theorem v174_at (b : Fin 2) (k : Fin 9) (p : Fin 65536) : (StableHlo.after hostOps4_14 V (Proc.devRef .tc main_v174) : S2x9x65536.Idx → BitVec 1) (ix3 b k p)
    = if inside (word ((V (Proc.devRef .tc main_v62) : S2x9x65536.Idx → BitVec 32) (ix3 b k p)) + 1#32) ∧
      inside (word ((V (Proc.devRef .tc main_v63) : S2x9x65536.Idx → BitVec 32) (ix3 b k p)) + 1#32) then 1#1 else 0#1 := by
  after_reads_at
  exact kernel_bit _ _

/-- The lower right corner's weight. -/
theorem v175_at (b : Fin 2) (k : Fin 9) (p : Fin 65536) : (StableHlo.after hostOps4_14 V (Proc.devRef .tc main_v175) : S2x9x65536.Idx → EReal) (ix3 b k p)
    = num ((V (Proc.devRef .tc main_v60) : S2x9x65536.Idx → EReal) (ix3 b k p)) * num ((V (Proc.devRef .tc main_v61) : S2x9x65536.Idx → EReal) (ix3 b k p)) := by
  after_reads_at <;> rfl

/-- The value outside the image. -/
theorem cst_44_at : (StableHlo.after hostOps4_14 V (Proc.devRef .tc main_cst_44) : S_.Idx → EReal) ix0 = (0 : EReal) := by
  after_reads_at

/-- The lower right corner's weight, zero outside the image. -/
theorem v176_at (b : Fin 2) (k : Fin 9) (p : Fin 65536) : (StableHlo.after hostOps4_15 V (Proc.devRef .tc main_v176) : S2x9x65536.Idx → EReal) (ix3 b k p)
    = Scalar.select (word ((V (Proc.devRef .tc main_v174) : S2x9x65536.Idx → BitVec 1) (ix3 b k p))) (num ((V (Proc.devRef .tc main_v175) : S2x9x65536.Idx → EReal) (ix3 b k p)))
      (num ((V (Proc.devRef .tc main_cst_44) : S_.Idx → EReal) ix0)) := by
  after_reads_at <;> rfl

/-- The sum so far and the upper left corner's share. -/
theorem v105_at (b : Fin 2) (n : Fin 589824) (o : Fin 64) : (StableHlo.after hostOps4_10 V (Proc.devRef .tc main_v105) : S2x589824x64.Idx → EReal) (ix3 b n o)
    = num ((V (Proc.devRef .tc main_v76) : S2x589824x64.Idx → EReal) (ix3 b n o)) + num ((V (Proc.devRef .tc main_v75) : S2x589824x2x2x64.Idx → EReal) (ix5 b n 0 0 o))
      * (num ((V (Proc.devRef .tc main_v97) : S2x9x65536.Idx → EReal) (ix3 b ⟨n.val / 65536, by omega⟩ ⟨n.val % 65536, by omega⟩)) * num ((V (Proc.devRef .tc main_v26) : S2x9x65536.Idx → EReal) (ix3 b ⟨n.val / 65536, by omega⟩ ⟨n.val % 65536, by omega⟩))) := by
  after_reads_at <;> rfl

/-- The sum so far and the upper right corner's share. -/
theorem v132_at (b : Fin 2) (n : Fin 589824) (o : Fin 64) : (StableHlo.after hostOps4_12 V (Proc.devRef .tc main_v132) : S2x589824x64.Idx → EReal) (ix3 b n o)
    = num ((V (Proc.devRef .tc main_v105) : S2x589824x64.Idx → EReal) (ix3 b n o)) + num ((V (Proc.devRef .tc main_v75) : S2x589824x2x2x64.Idx → EReal) (ix5 b n 0 1 o))
      * (num ((V (Proc.devRef .tc main_v124) : S2x9x65536.Idx → EReal) (ix3 b ⟨n.val / 65536, by omega⟩ ⟨n.val % 65536, by omega⟩)) * num ((V (Proc.devRef .tc main_v26) : S2x9x65536.Idx → EReal) (ix3 b ⟨n.val / 65536, by omega⟩ ⟨n.val % 65536, by omega⟩))) := by
  after_reads_at <;> rfl

/-- The sum so far and the lower left corner's share. -/
theorem v159_at (b : Fin 2) (n : Fin 589824) (o : Fin 64) : (StableHlo.after hostOps4_14 V (Proc.devRef .tc main_v159) : S2x589824x64.Idx → EReal) (ix3 b n o)
    = num ((V (Proc.devRef .tc main_v132) : S2x589824x64.Idx → EReal) (ix3 b n o)) + num ((V (Proc.devRef .tc main_v75) : S2x589824x2x2x64.Idx → EReal) (ix5 b n 1 0 o))
      * (num ((V (Proc.devRef .tc main_v151) : S2x9x65536.Idx → EReal) (ix3 b ⟨n.val / 65536, by omega⟩ ⟨n.val % 65536, by omega⟩)) * num ((V (Proc.devRef .tc main_v26) : S2x9x65536.Idx → EReal) (ix3 b ⟨n.val / 65536, by omega⟩ ⟨n.val % 65536, by omega⟩))) := by
  after_reads_at <;> rfl

/-- The sum so far and the lower right corner's share. -/
theorem v184_at (b : Fin 2) (n : Fin 589824) (o : Fin 64) : (StableHlo.after hostOps4_16 V (Proc.devRef .tc main_v184) : S2x589824x64.Idx → EReal) (ix3 b n o)
    = num ((V (Proc.devRef .tc main_v159) : S2x589824x64.Idx → EReal) (ix3 b n o)) + num ((V (Proc.devRef .tc main_v75) : S2x589824x2x2x64.Idx → EReal) (ix5 b n 1 1 o))
      * (num ((V (Proc.devRef .tc main_v176) : S2x9x65536.Idx → EReal) (ix3 b ⟨n.val / 65536, by omega⟩ ⟨n.val % 65536, by omega⟩)) * num ((V (Proc.devRef .tc main_v26) : S2x9x65536.Idx → EReal) (ix3 b ⟨n.val / 65536, by omega⟩ ⟨n.val % 65536, by omega⟩))) := by
  after_reads_at <;> rfl

end Stretch

end Cert.KernelIdeal.Host

end
-- ==== Proof.KSampled.lean ====
/- The kernel's sampled columns: each tap's sample of the image times its gate. -/
module

public import proofs.«01_k».proof.Proof.KSample

@[expose] public section

set_option maxRecDepth 16384

noncomputable section

namespace Cert.KernelIdeal.Host

open Idealize.ShloMosaic Idealize.ShloMosaic.TcCoe Cert.KernelIdeal Cert.KernelIdeal.Gen Cert.Spec

/-- The reshaped sums are the sums at the flat index. -/
theorem v185_at (V : Valuation τ sig (Elt Ideal)) (b : Fin 2) (k : Fin 9) (p : Fin 65536) (o : Fin 64) :
    (StableHlo.after hostOps4_16 V (Proc.devRef .tc main_v185) : S2x9x65536x64.Idx → EReal) (ix4 b k p o)
      = (StableHlo.after hostOps4_16 V (Proc.devRef .tc main_v184) : S2x589824x64.Idx → EReal) (ix3 b ⟨k.val * 65536 + p.val, by omega⟩ o) := by
  after_reads_at

/-- A selection of equal parts. -/
theorem select_congr {a a' : BitVec 1} {x x' z z' : EReal} (h : a = a') (hx : x = x') (hz : z = z') :
    Scalar.select a x z = Scalar.select a' x' z' := by subst h hx hz; rfl

variable (m : (ℓ : Loc nD τ sig) → Buf (Elt Ideal) ℓ) (ρ : Dev nD → PrngReg) (c : Dev nD)

/-- The image. -/
abbrev img : S2x64x256x256.Idx → EReal := m ((c : Thread nD τ).loc main_arg0)

/-- A tap's vertical position. -/
def py (b k p : ℕ) : EReal := pos (p / 256) (k / 3) (om m ρ c b p k)

/-- A tap's horizontal position. -/
def px (b k p : ℕ) : EReal := pos (p % 256) (k % 3) (om m ρ c b p (9 + k))

/-- A tap's gate. -/
def gt (b k p : ℕ) : EReal := gate (om m ρ c b p (18 + k))

/-- The padded image, at an index. -/
theorem pad1 (b : Fin 2) (r q : Fin 258) (k : Fin 64) :
    (W2 m ρ c (Proc.devRef .tc main_v1) : S2x258x258x64.Idx → EReal) (ix4 b r q k)
      = if (1 ≤ r.val ∧ r.val - 1 < 256) ∧ 1 ≤ q.val ∧ q.val - 1 < 256 then at4 (img m c) b k (r.val - 1) (q.val - 1) else 0 := by
  refine (v1_at (W1 m ρ c) b r q k).trans ?_
  by_cases h : (1 ≤ r.val ∧ r.val - 1 < 256) ∧ 1 ≤ q.val ∧ q.val - 1 < 256
  · rw [dif_pos h, if_pos h]
    exact (v0_at (W0 m ρ c) b _ _ k).trans (ix4_at _ _ _ _ _ rfl rfl rfl rfl)
  · rw [dif_neg h, if_neg h]
    refine (congrArg (FloatOps.sitofp (F := Ideal) .f32) (congrFun (c_at (W0 m ρ c)) _)).trans ?_
    show (((0#32 : BitVec 32).toInt : ℝ) : EReal) = 0
    simp

/-- The image inside its padding. -/
theorem pad1_in (b : Fin 2) (o : Fin 64) (r q : ℕ) (hr : r < 256) (hq : q < 256) :
    at4 (W2 m ρ c (Proc.devRef .tc main_v1) : S2x258x258x64.Idx → EReal) b (r + 1) (q + 1) o = at4 (img m c) b o r q := by
  rw [← ix4_at (W2 m ρ c (Proc.devRef .tc main_v1) : S2x258x258x64.Idx → EReal) b ⟨r + 1, by omega⟩ ⟨q + 1, by omega⟩ o rfl rfl rfl rfl, pad1,
    if_pos ⟨⟨by dsimp only; omega, by dsimp only; omega⟩, by dsimp only; omega, by dsimp only; omega⟩]
  rfl

/-- What the stretches between leave as it was. -/
theorem hold14 (r : Ref sig .tc) (h : r ∉ hostOps4_1_W ∧ r ∉ hostOps4_2_W ∧ r ∉ hostOps4_3_W) : W14 m ρ c (Proc.devRef .tc r) = W11 m ρ c (Proc.devRef .tc r) :=
  (W14_of m ρ c r h.2.2).trans ((W13_of m ρ c r h.2.1).trans (W12_of m ρ c r h.1))

/-- What the stretches between leave as it was. -/
theorem hold15 (r : Ref sig .tc) (h : r ∉ hostOps4_4_W) : W15 m ρ c (Proc.devRef .tc r) = W14 m ρ c (Proc.devRef .tc r) :=
  W15_of m ρ c r h

/-- What the stretches between leave as it was. -/
theorem hold18 (r : Ref sig .tc) (h : r ∉ hostOps4_5_W ∧ r ∉ hostOps4_6_W ∧ r ∉ hostOps4_7_W) : W18 m ρ c (Proc.devRef .tc r) = W15 m ρ c (Proc.devRef .tc r) :=
  (W18_of m ρ c r h.2.2).trans ((W17_of m ρ c r h.2.1).trans (W16_of m ρ c r h.1))

/-- What the stretches between leave as it was. -/
theorem hold20 (r : Ref sig .tc) (h : r ∉ hostOps4_8_W ∧ r ∉ hostOps4_9_W) : W20 m ρ c (Proc.devRef .tc r) = W18 m ρ c (Proc.devRef .tc r) :=
  (W20_of m ρ c r h.2).trans (W19_of m ρ c r h.1)

/-- What the stretches between leave as it was. -/
theorem hold22 (r : Ref sig .tc) (h : r ∉ hostOps4_10_W ∧ r ∉ hostOps4_11_W) : W22 m ρ c (Proc.devRef .tc r) = W20 m ρ c (Proc.devRef .tc r) :=
  (W22_of m ρ c r h.2).trans (W21_of m ρ c r h.1)

/-- What the stretches between leave as it was. -/
theorem hold24 (r : Ref sig .tc) (h : r ∉ hostOps4_12_W ∧ r ∉ hostOps4_13_W) : W24 m ρ c (Proc.devRef .tc r) = W22 m ρ c (Proc.devRef .tc r) :=
  (W24_of m ρ c r h.2).trans (W23_of m ρ c r h.1)

/-- What the stretches between leave as it was. -/
theorem hold26 (r : Ref sig .tc) (h : r ∉ hostOps4_14_W ∧ r ∉ hostOps4_15_W) : W26 m ρ c (Proc.devRef .tc r) = W24 m ρ c (Proc.devRef .tc r) :=
  (W26_of m ρ c r h.2).trans (W25_of m ρ c r h.1)

/-- The row as a number. -/
theorem row_at (p : Fin 65536) : num ((W14 m ρ c (Proc.devRef .tc main_v40) : S65536.Idx → EReal) (ix1 p))
    = FloatOps.sitofp (F := Ideal) .f32 (BitVec.ofNat 32 (p.val / 256)) :=
  (congrFun (W14_of m ρ c main_v40 (by decide)) _).trans ((v40_at (W12 m ρ c) p).trans (congrArg (FloatOps.sitofp (F := Ideal) .f32)
    (v39_at (W11 m ρ c) (c4_at (W10 m ρ c)) p (v38_at (W10 m ρ c) p))))

/-- The column. -/
theorem col_at (p : Fin 65536) : word ((W14 m ρ c (Proc.devRef .tc main_v42) : S65536.Idx → BitVec 32) (ix1 p)) = BitVec.ofNat 32 (p.val % 256) :=
  v42_at (W13 m ρ c) (c5_at (W12 m ρ c)) p (v41_at (W12 m ρ c) p)

/-- The vertical position, put together. -/
theorem py_at (b : Fin 2) (k : Fin 9) (p : Fin 65536) :
    num ((W14 m ρ c (Proc.devRef .tc main_v40) : S65536.Idx → EReal) (ix1 p)) + num ((W14 m ρ c (Proc.devRef .tc main_v31) : S9.Idx → EReal) (ix1 k))
      + num ((W14 m ρ c (Proc.devRef .tc main_v16) : S2x9x65536.Idx → EReal) (ix3 b k p)) = py m ρ c b k p :=
  congrArg₂ (· + ·) (congrArg₂ (· + ·) (row_at m ρ c p) ((congrFun (hold14 m ρ c main_v31 (by decide)) _).trans (v31_at (W10 m ρ c) k)))
    ((congrFun (hold14 m ρ c main_v16 (by decide)) _).trans (v16_at (W10 m ρ c) (om m ρ c) (om7 m ρ c) (om9 m ρ c) (om11 m ρ c) (om13 m ρ c) b k p))

/-- The horizontal position, put together. -/
theorem px_at (b : Fin 2) (k : Fin 9) (p : Fin 65536) :
    FloatOps.sitofp (F := Ideal) .f32 (word ((W14 m ρ c (Proc.devRef .tc main_v42) : S65536.Idx → BitVec 32) (ix1 p)))
      + num ((W14 m ρ c (Proc.devRef .tc main_v37) : S9.Idx → EReal) (ix1 k))
      + num ((W14 m ρ c (Proc.devRef .tc main_v18) : S2x9x65536.Idx → EReal) (ix3 b k p)) = px m ρ c b k p :=
  congrArg₂ (· + ·) (congrArg₂ (· + ·) (congrArg _ (col_at m ρ c p)) ((congrFun (hold14 m ρ c main_v37 (by decide)) _).trans (v37_at (W10 m ρ c) k)))
    ((congrFun (hold14 m ρ c main_v18 (by decide)) _).trans (v18_at (W10 m ρ c) (om m ρ c) (om7 m ρ c) (om9 m ρ c) (om11 m ρ c) (om13 m ρ c) b k p))

/-- What the corners read: the corner's row and column, the two fractions and the gate. -/
structure Held (V : Valuation τ sig (Elt Ideal)) : Prop where
  y : ∀ (b : Fin 2) (k : Fin 9) (p : Fin 65536), word ((V (Proc.devRef .tc main_v62) : S2x9x65536.Idx → BitVec 32) (ix3 b k p)) = below (py m ρ c b k p)
  x : ∀ (b : Fin 2) (k : Fin 9) (p : Fin 65536), word ((V (Proc.devRef .tc main_v63) : S2x9x65536.Idx → BitVec 32) (ix3 b k p)) = below (px m ρ c b k p)
  fy : ∀ (b : Fin 2) (k : Fin 9) (p : Fin 65536), num ((V (Proc.devRef .tc main_v60) : S2x9x65536.Idx → EReal) (ix3 b k p)) = frac (py m ρ c b k p)
  fx : ∀ (b : Fin 2) (k : Fin 9) (p : Fin 65536), num ((V (Proc.devRef .tc main_v61) : S2x9x65536.Idx → EReal) (ix3 b k p)) = frac (px m ρ c b k p)
  g : ∀ (b : Fin 2) (k : Fin 9) (p : Fin 65536), num ((V (Proc.devRef .tc main_v26) : S2x9x65536.Idx → EReal) (ix3 b k p)) = gt m ρ c b k p

/-- A later valuation that keeps the five buffers holds them too. -/
theorem Held.keep {V V' : Valuation τ sig (Elt Ideal)} (h : Held m ρ c V) (e62 : V' (Proc.devRef .tc main_v62) = V (Proc.devRef .tc main_v62))
    (e63 : V' (Proc.devRef .tc main_v63) = V (Proc.devRef .tc main_v63)) (e60 : V' (Proc.devRef .tc main_v60) = V (Proc.devRef .tc main_v60))
    (e61 : V' (Proc.devRef .tc main_v61) = V (Proc.devRef .tc main_v61)) (e26 : V' (Proc.devRef .tc main_v26) = V (Proc.devRef .tc main_v26)) :
    Held m ρ c V' where
  y b k p := (congrFun e62 _).trans (h.y b k p)
  x b k p := (congrFun e63 _).trans (h.x b k p)
  fy b k p := (congrFun e60 _).trans (h.fy b k p)
  fx b k p := (congrFun e61 _).trans (h.fx b k p)
  g b k p := (congrFun e26 _).trans (h.g b k p)

/-- The buffers are held where they are first complete. -/
theorem held15 : Held m ρ c (W15 m ρ c) where
  y b k p := (v62_at (W14 m ρ c) b k p).trans (congrArg below (py_at m ρ c b k p))
  x b k p := (v63_at (W14 m ρ c) b k p).trans (congrArg below (px_at m ρ c b k p))
  fy b k p := (v60_at (W14 m ρ c) b k p).trans (congrArg frac (py_at m ρ c b k p))
  fx b k p := (v61_at (W14 m ρ c) b k p).trans (congrArg frac (px_at m ρ c b k p))
  g b k p := (congrFun ((hold15 m ρ c main_v26 (by decide)).trans (hold14 m ρ c main_v26 (by decide))) _).trans
    (v26_at (W10 m ρ c) (om m ρ c) (om7 m ρ c) (om9 m ρ c) (om11 m ρ c) (om13 m ρ c) b k p)

/-- They are held before the second corner. -/
theorem held18 : Held m ρ c (W18 m ρ c) :=
  (held15 m ρ c).keep m ρ c (hold18 m ρ c main_v62 (by decide)) (hold18 m ρ c main_v63 (by decide)) (hold18 m ρ c main_v60 (by decide)) (hold18 m ρ c main_v61 (by decide)) (hold18 m ρ c main_v26 (by decide))

/-- They are held in the second corner. -/
theorem held20 : Held m ρ c (W20 m ρ c) :=
  (held18 m ρ c).keep m ρ c (hold20 m ρ c main_v62 (by decide)) (hold20 m ρ c main_v63 (by decide)) (hold20 m ρ c main_v60 (by decide)) (hold20 m ρ c main_v61 (by decide)) (hold20 m ρ c main_v26 (by decide))

/-- They are held in the third corner. -/
theorem held22 : Held m ρ c (W22 m ρ c) :=
  (held20 m ρ c).keep m ρ c (hold22 m ρ c main_v62 (by decide)) (hold22 m ρ c main_v63 (by decide)) (hold22 m ρ c main_v60 (by decide)) (hold22 m ρ c main_v61 (by decide)) (hold22 m ρ c main_v26 (by decide))

/-- They are held in the fourth corner. -/
theorem held24 : Held m ρ c (W24 m ρ c) :=
  (held22 m ρ c).keep m ρ c (hold24 m ρ c main_v62 (by decide)) (hold24 m ρ c main_v63 (by decide)) (hold24 m ρ c main_v60 (by decide)) (hold24 m ρ c main_v61 (by decide)) (hold24 m ρ c main_v26 (by decide))

/-- They are held before the contraction. -/
theorem held26 : Held m ρ c (W26 m ρ c) :=
  (held24 m ρ c).keep m ρ c (hold26 m ρ c main_v62 (by decide)) (hold26 m ρ c main_v63 (by decide)) (hold26 m ρ c main_v60 (by decide)) (hold26 m ρ c main_v61 (by decide)) (hold26 m ρ c main_v26 (by decide))

/-- Where the patch starts, before it is held to the padded image. -/
def start (z : BitVec 32) : BitVec 32 := IntOp.addi (IntOp.minsi 255#32 (IntOp.maxsi 4294967295#32 z)) 1#32

/-- The row a patch starts at. -/
theorem sy_at (b : Fin 2) (k : Fin 9) (p : Fin 65536) :
    (W18 m ρ c (Proc.devRef .tc main_v66) : S2x9x65536.Idx → BitVec 32) (ix3 b k p) = start (below (py m ρ c b k p)) := by
  refine (congrFun (W18_of m ρ c main_v66 (by decide)) _).trans ((v66_at (W16 m ρ c) b k p).trans ?_)
  refine congrArg (IntOp.addi · 1#32) ((v64_at (W15 m ρ c) b k p).trans ?_)
  exact congrArg₂ IntOp.minsi (c_7_at (W14 m ρ c)) (congrArg₂ IntOp.maxsi (c_6_at (W14 m ρ c)) ((held15 m ρ c).y b k p))

/-- The column a patch starts at. -/
theorem sx_at (b : Fin 2) (k : Fin 9) (p : Fin 65536) :
    IntOp.addi ((W18 m ρ c (Proc.devRef .tc main_v67) : S2x9x65536.Idx → BitVec 32) (ix3 b k p)) 1#32 = start (below (px m ρ c b k p)) := by
  refine congrArg (IntOp.addi · 1#32) ((v67_at (W17 m ρ c) b k p).trans ?_)
  refine congrArg₂ IntOp.minsi (c_10_at (W16 m ρ c)) (congrArg₂ IntOp.maxsi (c_9_at (W16 m ρ c)) ?_)
  exact (congrFun (W17_of m ρ c main_v63 (by decide)) _).trans ((congrFun (W16_of m ρ c main_v63 (by decide)) _).trans ((held15 m ρ c).x b k p))

/-- The padded image is as it was when the patches are gathered. -/
theorem v1_18 : W18 m ρ c (Proc.devRef .tc main_v1) = W2 m ρ c (Proc.devRef .tc main_v1) :=
  (hold18 m ρ c main_v1 (by decide)).trans ((hold15 m ρ c main_v1 (by decide)).trans ((hold14 m ρ c main_v1 (by decide)).trans
    ((W11_of m ρ c main_v1 (by decide)).trans ((W10_of m ρ c main_v1 (by decide)).trans ((keep9 m ρ c main_v1 (by decide)).trans
      ((keep7 m ρ c main_v1 (by decide)).trans ((keep5 m ρ c main_v1 (by decide)).trans (W3_of m ρ c main_v1 (by decide)))))))))

/-- A patch's elements. -/
theorem patch_at (b : Fin 2) (n : Fin 589824) (dy dx : Fin 2) (o : Fin 64) :
    (W19 m ρ c (Proc.devRef .tc main_v75) : S2x589824x2x2x64.Idx → EReal) (ix5 b n dy dx o)
      = (W2 m ρ c (Proc.devRef .tc main_v1) : S2x258x258x64.Idx → EReal)
          (ix4 b ⟨min (start (below (py m ρ c b (n.val / 65536) (n.val % 65536)))).toInt.toNat 256 + dy.val, by omega⟩
            ⟨min (start (below (px m ρ c b (n.val / 65536) (n.val % 65536)))).toInt.toNat 256 + dx.val, by omega⟩ o) := by
  refine (v75_at (W18 m ρ c) b n dy dx o).trans ((congrFun (v1_18 m ρ c) _).trans ?_)
  refine congrArg₂ (fun r q => (W2 m ρ c (Proc.devRef .tc main_v1) : S2x258x258x64.Idx → EReal) (ix4 b r q o)) (Fin.ext ?_) (Fin.ext ?_)
  · exact congrArg (fun z : BitVec 32 => min z.toInt.toNat 256 + dy.val) (sy_at m ρ c b _ _)
  · exact congrArg (fun z : BitVec 32 => min z.toInt.toNat 256 + dx.val) (sx_at m ρ c b _ _)

/-- One corner's share of a sample. -/
def part (dy dx : ℕ) (w : EReal) (b k p o : ℕ) : EReal :=
  corner (at4 (img m c) b o) (below (py m ρ c b k p) + BitVec.ofNat 32 dy) (below (px m ρ c b k p) + BitVec.ofNat 32 dx) w

/-- A patch's element times its weight and gate: the corner's share times the gate. -/
theorem part_at (b : Fin 2) (n : Fin 589824) (dy dx : Fin 2) (o : Fin 64) {P S G w : EReal}
    (hP : P = (W19 m ρ c (Proc.devRef .tc main_v75) : S2x589824x2x2x64.Idx → EReal) (ix5 b n dy dx o))
    (hS : S = Scalar.select (if inside (below (py m ρ c b (n.val / 65536) (n.val % 65536)) + BitVec.ofNat 32 dy.val) ∧
      inside (below (px m ρ c b (n.val / 65536) (n.val % 65536)) + BitVec.ofNat 32 dx.val) then 1#1 else 0#1) w 0)
    (hG : G = gt m ρ c b (n.val / 65536) (n.val % 65536)) :
    P * (S * G) = part m ρ c dy dx w b (n.val / 65536) (n.val % 65536) o * gt m ρ c b (n.val / 65536) (n.val % 65536) := by
  rw [hP, hS, hG, patch_at]
  exact kernel_corner _ (at4 (img m c) b o) b o _ _ dy dx w _ (pad1_in m ρ c b o)

/-- The upper left corner's weight, zero outside the image. -/
theorem s97_at (b : Fin 2) (k : Fin 9) (p : Fin 65536) :
    num ((W20 m ρ c (Proc.devRef .tc main_v97) : S2x9x65536.Idx → EReal) (ix3 b k p))
      = Scalar.select (if inside (below (py m ρ c b k p) + 0#32) ∧ inside (below (px m ρ c b k p) + 0#32) then 1#1 else 0#1)
        ((1 - frac (py m ρ c b k p)) * (1 - frac (px m ρ c b k p))) 0 := by
  refine (v97_at (W19 m ρ c) b k p).trans (select_congr ((v91_at (W18 m ρ c) b k p).trans ?_)
    ((v96_at (W18 m ρ c) b k p).trans ?_) (cst_21_at (W18 m ρ c)))
  · rw [(held18 m ρ c).y, (held18 m ρ c).x]
  · rw [(held18 m ρ c).fy, (held18 m ρ c).fx]

/-- The upper right corner's weight, zero outside the image. -/
theorem s124_at (b : Fin 2) (k : Fin 9) (p : Fin 65536) :
    num ((W22 m ρ c (Proc.devRef .tc main_v124) : S2x9x65536.Idx → EReal) (ix3 b k p))
      = Scalar.select (if inside (below (py m ρ c b k p) + 0#32) ∧ inside (below (px m ρ c b k p) + 1#32) then 1#1 else 0#1)
        ((1 - frac (py m ρ c b k p)) * frac (px m ρ c b k p)) 0 := by
  refine (v124_at (W21 m ρ c) b k p).trans (select_congr ((v120_at (W20 m ρ c) b k p).trans ?_)
    ((v123_at (W20 m ρ c) b k p).trans ?_) (cst_29_at (W20 m ρ c)))
  · rw [(held20 m ρ c).y, (held20 m ρ c).x]
  · rw [(held20 m ρ c).fy, (held20 m ρ c).fx]

/-- The lower left corner's weight, zero outside the image. -/
theorem s151_at (b : Fin 2) (k : Fin 9) (p : Fin 65536) :
    num ((W24 m ρ c (Proc.devRef .tc main_v151) : S2x9x65536.Idx → EReal) (ix3 b k p))
      = Scalar.select (if inside (below (py m ρ c b k p) + 1#32) ∧ inside (below (px m ρ c b k p) + 0#32) then 1#1 else 0#1)
        (frac (py m ρ c b k p) * (1 - frac (px m ρ c b k p))) 0 := by
  refine (v151_at (W23 m ρ c) b k p).trans (select_congr ((v147_at (W22 m ρ c) b k p).trans ?_)
    ((v150_at (W22 m ρ c) b k p).trans ?_) (cst_37_at (W22 m ρ c)))
  · rw [(held22 m ρ c).y, (held22 m ρ c).x]
  · rw [(held22 m ρ c).fy, (held22 m ρ c).fx]

/-- The lower right corner's weight, zero outside the image. -/
theorem s176_at (b : Fin 2) (k : Fin 9) (p : Fin 65536) :
    num ((W26 m ρ c (Proc.devRef .tc main_v176) : S2x9x65536.Idx → EReal) (ix3 b k p))
      = Scalar.select (if inside (below (py m ρ c b k p) + 1#32) ∧ inside (below (px m ρ c b k p) + 1#32) then 1#1 else 0#1)
        (frac (py m ρ c b k p) * frac (px m ρ c b k p)) 0 := by
  refine (v176_at (W25 m ρ c) b k p).trans (select_congr ((v174_at (W24 m ρ c) b k p).trans ?_)
    ((v175_at (W24 m ρ c) b k p).trans ?_) (cst_44_at (W24 m ρ c)))
  · rw [(held24 m ρ c).y, (held24 m ρ c).x]
  · rw [(held24 m ρ c).fy, (held24 m ρ c).fx]

/-- The sum up to the upper left corner. -/
theorem a105_at (b : Fin 2) (n : Fin 589824) (o : Fin 64) :
    num ((W21 m ρ c (Proc.devRef .tc main_v105) : S2x589824x64.Idx → EReal) (ix3 b n o)) = 0
      + part m ρ c 0 0 ((1 - frac (py m ρ c b (n.val / 65536) (n.val % 65536))) * (1 - frac (px m ρ c b (n.val / 65536) (n.val % 65536)))) b (n.val / 65536) (n.val % 65536) o
        * gt m ρ c b (n.val / 65536) (n.val % 65536) :=
  (v105_at (W20 m ρ c) b n o).trans (congrArg₂ (· + ·) ((congrFun (W20_of m ρ c main_v76 (by decide)) _).trans (v76_at (W18 m ρ c) b n o))
    (part_at m ρ c b n 0 0 o (congrFun (W20_of m ρ c main_v75 (by decide)) _)
      (s97_at m ρ c b _ _) ((held20 m ρ c).g b _ _)))

/-- The sum up to the upper right corner. -/
theorem a132_at (b : Fin 2) (n : Fin 589824) (o : Fin 64) :
    num ((W23 m ρ c (Proc.devRef .tc main_v132) : S2x589824x64.Idx → EReal) (ix3 b n o)) = 0
      + part m ρ c 0 0 ((1 - frac (py m ρ c b (n.val / 65536) (n.val % 65536))) * (1 - frac (px m ρ c b (n.val / 65536) (n.val % 65536)))) b (n.val / 65536) (n.val % 65536) o
        * gt m ρ c b (n.val / 65536) (n.val % 65536)
      + part m ρ c 0 1 ((1 - frac (py m ρ c b (n.val / 65536) (n.val % 65536))) * frac (px m ρ c b (n.val / 65536) (n.val % 65536))) b (n.val / 65536) (n.val % 65536) o
        * gt m ρ c b (n.val / 65536) (n.val % 65536) :=
  (v132_at (W22 m ρ c) b n o).trans (congrArg₂ (· + ·) ((congrFun (W22_of m ρ c main_v105 (by decide)) _).trans (a105_at m ρ c b n o))
    (part_at m ρ c b n 0 1 o ((congrFun (hold22 m ρ c main_v75 (by decide)) _).trans (congrFun (W20_of m ρ c main_v75 (by decide)) _))
      (s124_at m ρ c b _ _) ((held22 m ρ c).g b _ _)))

/-- The sum up to the lower left corner. -/
theorem a159_at (b : Fin 2) (n : Fin 589824) (o : Fin 64) :
    num ((W25 m ρ c (Proc.devRef .tc main_v159) : S2x589824x64.Idx → EReal) (ix3 b n o)) = 0
      + part m ρ c 0 0 ((1 - frac (py m ρ c b (n.val / 65536) (n.val % 65536))) * (1 - frac (px m ρ c b (n.val / 65536) (n.val % 65536)))) b (n.val / 65536) (n.val % 65536) o
        * gt m ρ c b (n.val / 65536) (n.val % 65536)
      + part m ρ c 0 1 ((1 - frac (py m ρ c b (n.val / 65536) (n.val % 65536))) * frac (px m ρ c b (n.val / 65536) (n.val % 65536))) b (n.val / 65536) (n.val % 65536) o
        * gt m ρ c b (n.val / 65536) (n.val % 65536)
      + part m ρ c 1 0 (frac (py m ρ c b (n.val / 65536) (n.val % 65536)) * (1 - frac (px m ρ c b (n.val / 65536) (n.val % 65536)))) b (n.val / 65536) (n.val % 65536) o
        * gt m ρ c b (n.val / 65536) (n.val % 65536) :=
  (v159_at (W24 m ρ c) b n o).trans (congrArg₂ (· + ·) ((congrFun (W24_of m ρ c main_v132 (by decide)) _).trans (a132_at m ρ c b n o))
    (part_at m ρ c b n 1 0 o ((congrFun (hold24 m ρ c main_v75 (by decide)) _).trans ((congrFun (hold22 m ρ c main_v75 (by decide)) _).trans (congrFun (W20_of m ρ c main_v75 (by decide)) _)))
      (s151_at m ρ c b _ _) ((held24 m ρ c).g b _ _)))

/-- The sum up to the lower right corner. -/
theorem a184_at (b : Fin 2) (n : Fin 589824) (o : Fin 64) :
    num ((W27 m ρ c (Proc.devRef .tc main_v184) : S2x589824x64.Idx → EReal) (ix3 b n o)) = 0
      + part m ρ c 0 0 ((1 - frac (py m ρ c b (n.val / 65536) (n.val % 65536))) * (1 - frac (px m ρ c b (n.val / 65536) (n.val % 65536)))) b (n.val / 65536) (n.val % 65536) o
        * gt m ρ c b (n.val / 65536) (n.val % 65536)
      + part m ρ c 0 1 ((1 - frac (py m ρ c b (n.val / 65536) (n.val % 65536))) * frac (px m ρ c b (n.val / 65536) (n.val % 65536))) b (n.val / 65536) (n.val % 65536) o
        * gt m ρ c b (n.val / 65536) (n.val % 65536)
      + part m ρ c 1 0 (frac (py m ρ c b (n.val / 65536) (n.val % 65536)) * (1 - frac (px m ρ c b (n.val / 65536) (n.val % 65536)))) b (n.val / 65536) (n.val % 65536) o
        * gt m ρ c b (n.val / 65536) (n.val % 65536)
      + part m ρ c 1 1 (frac (py m ρ c b (n.val / 65536) (n.val % 65536)) * frac (px m ρ c b (n.val / 65536) (n.val % 65536))) b (n.val / 65536) (n.val % 65536) o
        * gt m ρ c b (n.val / 65536) (n.val % 65536) :=
  (v184_at (W26 m ρ c) b n o).trans (congrArg₂ (· + ·) ((congrFun (W26_of m ρ c main_v159 (by decide)) _).trans (a159_at m ρ c b n o))
    (part_at m ρ c b n 1 1 o ((congrFun (hold26 m ρ c main_v75 (by decide)) _).trans ((congrFun (hold24 m ρ c main_v75 (by decide)) _).trans ((congrFun (hold22 m ρ c main_v75 (by decide)) _).trans (congrFun (W20_of m ρ c main_v75 (by decide)) _))))
      (s176_at m ρ c b _ _) ((held26 m ρ c).g b _ _)))

/-- A sampled column: the bilinear sample at the tap's position times the tap's gate. -/
theorem cols_at (b : Fin 2) (k : Fin 9) (p : Fin 65536) (o : Fin 64) :
    (W27 m ρ c (Proc.devRef .tc main_v185) : S2x9x65536x64.Idx → EReal) (ix4 b k p o)
      = sample (at4 (img m c) b o) (py m ρ c b k p) (px m ρ c b k p) * gt m ρ c b k p := by
  refine (v185_at (W26 m ρ c) b k p o).trans ((a184_at m ρ c b _ o).trans ?_)
  dsimp only
  rw [show (k.val * 65536 + p.val) / 65536 = k.val by omega, show (k.val * 65536 + p.val) % 65536 = p.val by omega]
  unfold gt
  rw [sum_gate]
  unfold sample part
  rw [show BitVec.ofNat 32 0 = 0#32 from rfl, BitVec.add_zero, BitVec.add_zero]

end Cert.KernelIdeal.Host

end
-- ==== Proof.KHost.lean ====
/- The kernel's host arithmetic around its convolutions: weights, scales and shifts, paddings and the last layout. -/
module

public import proofs.«01_k».proof.Proof.KSampled

@[expose] public section

set_option maxRecDepth 16384

noncomputable section

namespace Cert.KernelIdeal.Host

open Idealize.ShloMosaic Idealize.ShloMosaic.TcCoe Cert.KernelIdeal Cert.KernelIdeal.Gen Cert.Spec

/-- The word zero as a number. -/
theorem zero_word {x : BitVec 32} (h : x = 0#32) : FloatOps.sitofp (F := Ideal) .f32 x = (0 : EReal) := by
  subst h
  show (((0#32 : BitVec 32).toInt : ℝ) : EReal) = 0
  simp

variable (V : Valuation τ sig (Elt Ideal))

/-- The offset and mask convolution's weights, tap by tap. -/
theorem v3_at (k : Fin 9) (c : Fin 64) (o : Fin 27) : (StableHlo.after hostOps0_2 V (Proc.devRef .tc main_v3) : S9x64x27.Idx → EReal) (ix3 k c o)
    = num ((V (Proc.devRef .tc main_arg1) : S27x64x3x3.Idx → EReal) (ix4 o c ⟨k.val / 3, by omega⟩ ⟨k.val % 3, by omega⟩)) := by
  after_reads_at <;> rfl

/-- Its scale is one. -/
theorem v4_at (o : Fin 27) : (StableHlo.after hostOps0_2 V (Proc.devRef .tc main_v4) : S1x27.Idx → EReal) (ix2 0 o)
    = (1 : EReal) := by
  after_reads_at <;> rfl

/-- Its shift is its bias. -/
theorem v5_at (o : Fin 27) : (StableHlo.after hostOps0_2 V (Proc.devRef .tc main_v5) : S1x27.Idx → EReal) (ix2 0 o)
    = num ((V (Proc.devRef .tc main_arg2) : S27.Idx → EReal) (ix1 o)) := by
  after_reads_at <;> rfl

/-- The sampled convolution's weights, tap by tap. -/
theorem v194_at (k : Fin 9) (c : Fin 64) (o : Fin 64) : (StableHlo.after hostOps4_16 V (Proc.devRef .tc main_v194) : S9x64x64.Idx → EReal) (ix3 k c o)
    = num ((V (Proc.devRef .tc main_arg3) : S64x64x3x3.Idx → EReal) (ix4 o c ⟨k.val / 3, by omega⟩ ⟨k.val % 3, by omega⟩)) := by
  after_reads_at <;> rfl

/-- Its scale. -/
theorem v195_at (o : Fin 64) : (StableHlo.after hostOps4_16 V (Proc.devRef .tc main_v195) : S1x64.Idx → EReal) (ix2 0 o)
    = num ((V (Proc.devRef .tc main_arg5) : S64.Idx → EReal) (ix1 o)) * Ideal.rsqrt (num ((V (Proc.devRef .tc main_arg8) : S64.Idx → EReal) (ix1 o)) + Ideal.ofBits .f32 0x3727C5AC#32) := by
  after_reads_at <;> rfl

/-- Its shift. -/
theorem v196_at (o : Fin 64) : (StableHlo.after hostOps4_16 V (Proc.devRef .tc main_v196) : S1x64.Idx → EReal) (ix2 0 o)
    = (num ((V (Proc.devRef .tc main_arg4) : S64.Idx → EReal) (ix1 o)) - num ((V (Proc.devRef .tc main_arg7) : S64.Idx → EReal) (ix1 o)))
      * (num ((V (Proc.devRef .tc main_arg5) : S64.Idx → EReal) (ix1 o)) * Ideal.rsqrt (num ((V (Proc.devRef .tc main_arg8) : S64.Idx → EReal) (ix1 o)) + Ideal.ofBits .f32 0x3727C5AC#32)) + num ((V (Proc.devRef .tc main_arg6) : S64.Idx → EReal) (ix1 o)) := by
  after_reads_at <;> rfl

/-- The first dilated convolution's scale. -/
theorem v201_at (o : Fin 64) : (StableHlo.after hostOps5 V (Proc.devRef .tc main_v201) : S64.Idx → EReal) (ix1 o)
    = num ((V (Proc.devRef .tc main_arg11) : S64.Idx → EReal) (ix1 o)) * Ideal.rsqrt (num ((V (Proc.devRef .tc main_arg14) : S64.Idx → EReal) (ix1 o)) + Ideal.ofBits .f32 0x3727C5AC#32) := by
  after_reads_at <;> rfl

/-- Its shift. -/
theorem v204_at (o : Fin 64) : (StableHlo.after hostOps5 V (Proc.devRef .tc main_v204) : S64.Idx → EReal) (ix1 o)
    = (num ((V (Proc.devRef .tc main_arg10) : S64.Idx → EReal) (ix1 o)) - num ((V (Proc.devRef .tc main_arg13) : S64.Idx → EReal) (ix1 o)))
      * (num ((V (Proc.devRef .tc main_arg11) : S64.Idx → EReal) (ix1 o)) * Ideal.rsqrt (num ((V (Proc.devRef .tc main_arg14) : S64.Idx → EReal) (ix1 o)) + Ideal.ofBits .f32 0x3727C5AC#32)) + num ((V (Proc.devRef .tc main_arg12) : S64.Idx → EReal) (ix1 o)) := by
  after_reads_at <;> rfl

/-- The rows laid out as an image. -/
theorem v205_at (b : Fin 2) (h q : Fin 256) (k : Fin 64) : (StableHlo.after hostOps5 V (Proc.devRef .tc main_v205) : S2x256x256x64.Idx → EReal) (ix4 b h q k)
    = num ((V (Proc.devRef .tc main_v197) : S2x65536x64.Idx → EReal) (ix3 b ⟨h.val * 256 + q.val, by omega⟩ k)) := by
  after_reads_at <;> rfl

/-- The word the padding takes. -/
theorem c_47_at : (StableHlo.after hostOps5 V (Proc.devRef .tc main_c_47) : S_.Idx → BitVec 32) = fun _ => 0#32 := by
  funext i; after_reads_at

/-- The padded image. -/
theorem v206_at (hc : (V (Proc.devRef .tc main_c_47) : S_.Idx → BitVec 32) = fun _ => 0#32) (b : Fin 2) (r q : Fin 260) (k : Fin 64) :
    (StableHlo.after hostOps5_1 V (Proc.devRef .tc main_v206) : S2x260x260x64.Idx → EReal) (ix4 b r q k)
      = if h : (2 ≤ r.val ∧ r.val - 2 < 256) ∧ 2 ≤ q.val ∧ q.val - 2 < 256 then
          num ((V (Proc.devRef .tc main_v205) : S2x256x256x64.Idx → EReal) (ix4 b ⟨r.val - 2, h.1.2⟩ ⟨q.val - 2, h.2.2⟩ k)) else (0 : EReal) := by
  have hz := zero_word (congrFun hc (Shape.Idx.first h_S_))
  clean_types
  after_reads_at
  by_cases h : (2 ≤ r.val ∧ r.val - 2 < 256) ∧ 2 ≤ q.val ∧ q.val - 2 < 256
  · rw [dif_pos h, dif_pos h]
  · rw [dif_neg h, dif_neg h]; exact hz

/-- Its weights, tap by tap. -/
theorem v208_at (k : Fin 9) (c : Fin 64) (o : Fin 64) : (StableHlo.after hostOps5_2 V (Proc.devRef .tc main_v208) : S9x64x64.Idx → EReal) (ix3 k c o)
    = num ((V (Proc.devRef .tc main_arg9) : S64x64x3x3.Idx → EReal) (ix4 o c ⟨k.val / 3, by omega⟩ ⟨k.val % 3, by omega⟩)) := by
  after_reads_at <;> rfl

/-- Its scale as a row. -/
theorem v209_at (o : Fin 64) : (StableHlo.after hostOps5_2 V (Proc.devRef .tc main_v209) : S1x64.Idx → EReal) (ix2 0 o)
    = num ((V (Proc.devRef .tc main_v201) : S64.Idx → EReal) (ix1 o)) := by
  after_reads_at <;> rfl

/-- Its shift as a row. -/
theorem v210_at (o : Fin 64) : (StableHlo.after hostOps5_2 V (Proc.devRef .tc main_v210) : S1x64.Idx → EReal) (ix2 0 o)
    = num ((V (Proc.devRef .tc main_v204) : S64.Idx → EReal) (ix1 o)) := by
  after_reads_at <;> rfl

/-- The second dilated convolution's scale. -/
theorem v223_at (o : Fin 64) : (StableHlo.after hostOps9 V (Proc.devRef .tc main_v223) : S64.Idx → EReal) (ix1 o)
    = num ((V (Proc.devRef .tc main_arg17) : S64.Idx → EReal) (ix1 o)) * Ideal.rsqrt (num ((V (Proc.devRef .tc main_arg20) : S64.Idx → EReal) (ix1 o)) + Ideal.ofBits .f32 0x3727C5AC#32) := by
  after_reads_at <;> rfl

/-- Its shift. -/
theorem v226_at (o : Fin 64) : (StableHlo.after hostOps9 V (Proc.devRef .tc main_v226) : S64.Idx → EReal) (ix1 o)
    = (num ((V (Proc.devRef .tc main_arg16) : S64.Idx → EReal) (ix1 o)) - num ((V (Proc.devRef .tc main_arg19) : S64.Idx → EReal) (ix1 o)))
      * (num ((V (Proc.devRef .tc main_arg17) : S64.Idx → EReal) (ix1 o)) * Ideal.rsqrt (num ((V (Proc.devRef .tc main_arg20) : S64.Idx → EReal) (ix1 o)) + Ideal.ofBits .f32 0x3727C5AC#32)) + num ((V (Proc.devRef .tc main_arg18) : S64.Idx → EReal) (ix1 o)) := by
  after_reads_at <;> rfl

/-- The four bands put together, laid out as an image. -/
theorem v227_at (g : ℕ → ℕ → ℕ → EReal)
    (h0 : ∀ (b : Fin 2) (p : Fin 16384) (o : Fin 64), (V (Proc.devRef .tc main_v212) : S2x16384x64.Idx → EReal) (ix3 b p o) = g b (p.val + 16384 * 0) o)
    (h1 : ∀ (b : Fin 2) (p : Fin 16384) (o : Fin 64), (V (Proc.devRef .tc main_v214) : S2x16384x64.Idx → EReal) (ix3 b p o) = g b (p.val + 16384 * 1) o)
    (h2 : ∀ (b : Fin 2) (p : Fin 16384) (o : Fin 64), (V (Proc.devRef .tc main_v216) : S2x16384x64.Idx → EReal) (ix3 b p o) = g b (p.val + 16384 * 2) o)
    (h3 : ∀ (b : Fin 2) (p : Fin 16384) (o : Fin 64), (V (Proc.devRef .tc main_v218) : S2x16384x64.Idx → EReal) (ix3 b p o) = g b (p.val + 16384 * 3) o)
    (b : Fin 2) (h q : Fin 256) (k : Fin 64) : (StableHlo.after hostOps9 V (Proc.devRef .tc main_v227) : S2x256x256x64.Idx → EReal) (ix4 b h q k)
    = g b (h.val * 256 + q.val) k := by
  after_reads_at
  exact bands4 g h0 h1 h2 h3 b ⟨h.val * 256 + q.val, by omega⟩ k

/-- The word the padding takes. -/
theorem c_49_at : (StableHlo.after hostOps9 V (Proc.devRef .tc main_c_49) : S_.Idx → BitVec 32) = fun _ => 0#32 := by
  funext i; after_reads_at

/-- The padded image. -/
theorem v228_at (hc : (V (Proc.devRef .tc main_c_49) : S_.Idx → BitVec 32) = fun _ => 0#32) (b : Fin 2) (r q : Fin 260) (k : Fin 64) :
    (StableHlo.after hostOps9_1 V (Proc.devRef .tc main_v228) : S2x260x260x64.Idx → EReal) (ix4 b r q k)
      = if h : (2 ≤ r.val ∧ r.val - 2 < 256) ∧ 2 ≤ q.val ∧ q.val - 2 < 256 then
          num ((V (Proc.devRef .tc main_v227) : S2x256x256x64.Idx → EReal) (ix4 b ⟨r.val - 2, h.1.2⟩ ⟨q.val - 2, h.2.2⟩ k)) else (0 : EReal) := by
  have hz := zero_word (congrFun hc (Shape.Idx.first h_S_))
  clean_types
  after_reads_at
  by_cases h : (2 ≤ r.val ∧ r.val - 2 < 256) ∧ 2 ≤ q.val ∧ q.val - 2 < 256
  · rw [dif_pos h, dif_pos h]
  · rw [dif_neg h, dif_neg h]; exact hz

/-- Its weights, tap by tap. -/
theorem v230_at (k : Fin 9) (c : Fin 64) (o : Fin 64) : (StableHlo.after hostOps9_2 V (Proc.devRef .tc main_v230) : S9x64x64.Idx → EReal) (ix3 k c o)
    = num ((V (Proc.devRef .tc main_arg15) : S64x64x3x3.Idx → EReal) (ix4 o c ⟨k.val / 3, by omega⟩ ⟨k.val % 3, by omega⟩)) := by
  after_reads_at <;> rfl

/-- Its scale as a row. -/
theorem v231_at (o : Fin 64) : (StableHlo.after hostOps9_2 V (Proc.devRef .tc main_v231) : S1x64.Idx → EReal) (ix2 0 o)
    = num ((V (Proc.devRef .tc main_v223) : S64.Idx → EReal) (ix1 o)) := by
  after_reads_at <;> rfl

/-- Its shift as a row. -/
theorem v232_at (o : Fin 64) : (StableHlo.after hostOps9_2 V (Proc.devRef .tc main_v232) : S1x64.Idx → EReal) (ix2 0 o)
    = num ((V (Proc.devRef .tc main_v226) : S64.Idx → EReal) (ix1 o)) := by
  after_reads_at <;> rfl

/-- The four bands put together, laid out as an image. -/
theorem v242_at (g : ℕ → ℕ → ℕ → EReal)
    (h0 : ∀ (b : Fin 2) (p : Fin 16384) (o : Fin 64), (V (Proc.devRef .tc main_v234) : S2x16384x64.Idx → EReal) (ix3 b p o) = g b (p.val + 16384 * 0) o)
    (h1 : ∀ (b : Fin 2) (p : Fin 16384) (o : Fin 64), (V (Proc.devRef .tc main_v236) : S2x16384x64.Idx → EReal) (ix3 b p o) = g b (p.val + 16384 * 1) o)
    (h2 : ∀ (b : Fin 2) (p : Fin 16384) (o : Fin 64), (V (Proc.devRef .tc main_v238) : S2x16384x64.Idx → EReal) (ix3 b p o) = g b (p.val + 16384 * 2) o)
    (h3 : ∀ (b : Fin 2) (p : Fin 16384) (o : Fin 64), (V (Proc.devRef .tc main_v240) : S2x16384x64.Idx → EReal) (ix3 b p o) = g b (p.val + 16384 * 3) o)
    (b : Fin 2) (h q : Fin 256) (k : Fin 64) : (StableHlo.after hostOps13 V (Proc.devRef .tc main_v242) : S2x256x256x64.Idx → EReal) (ix4 b h q k)
    = g b (h.val * 256 + q.val) k := by
  after_reads_at
  exact bands4 g h0 h1 h2 h3 b ⟨h.val * 256 + q.val, by omega⟩ k

/-- The word the padding takes. -/
theorem c_50_at : (StableHlo.after hostOps13 V (Proc.devRef .tc main_c_50) : S_.Idx → BitVec 32) = fun _ => 0#32 := by
  funext i; after_reads_at

/-- The padded image. -/
theorem v243_at (hc : (V (Proc.devRef .tc main_c_50) : S_.Idx → BitVec 32) = fun _ => 0#32) (b : Fin 2) (r q : Fin 258) (k : Fin 64) :
    (StableHlo.after hostOps13_1 V (Proc.devRef .tc main_v243) : S2x258x258x64.Idx → EReal) (ix4 b r q k)
      = if h : (1 ≤ r.val ∧ r.val - 1 < 256) ∧ 1 ≤ q.val ∧ q.val - 1 < 256 then
          num ((V (Proc.devRef .tc main_v242) : S2x256x256x64.Idx → EReal) (ix4 b ⟨r.val - 1, h.1.2⟩ ⟨q.val - 1, h.2.2⟩ k)) else (0 : EReal) := by
  have hz := zero_word (congrFun hc (Shape.Idx.first h_S_))
  clean_types
  after_reads_at
  by_cases h : (1 ≤ r.val ∧ r.val - 1 < 256) ∧ 1 ≤ q.val ∧ q.val - 1 < 256
  · rw [dif_pos h, dif_pos h]
  · rw [dif_neg h, dif_neg h]; exact hz

/-- The last convolution's weights, tap by tap. -/
theorem v245_at (k : Fin 9) (c : Fin 64) (o : Fin 1) : (StableHlo.after hostOps13_2 V (Proc.devRef .tc main_v245) : S9x64x1.Idx → EReal) (ix3 k c o)
    = num ((V (Proc.devRef .tc main_arg21) : S1x64x3x3.Idx → EReal) (ix4 o c ⟨k.val / 3, by omega⟩ ⟨k.val % 3, by omega⟩)) := by
  obtain rfl : o = 0 := Subsingleton.elim _ _
  after_reads_at <;> rfl

/-- Its scale is one. -/
theorem v246_at (o : Fin 1) : (StableHlo.after hostOps13_2 V (Proc.devRef .tc main_v246) : S1x1.Idx → EReal) (ix2 0 o)
    = (1 : EReal) := by
  after_reads_at <;> rfl

/-- Its shift is its bias. -/
theorem v247_at (o : Fin 1) : (StableHlo.after hostOps13_2 V (Proc.devRef .tc main_v247) : S1x1.Idx → EReal) (ix2 0 o)
    = num ((V (Proc.devRef .tc main_arg22) : S1.Idx → EReal) (ix1 o)) := by
  obtain rfl : o = 0 := Subsingleton.elim _ _
  after_reads_at <;> rfl

/-- The result: the four bands put together, laid out as an image. -/
theorem v258_at (g : ℕ → ℕ → ℕ → EReal)
    (h0 : ∀ (b : Fin 2) (p : Fin 16384) (o : Fin 1), (V (Proc.devRef .tc main_v249) : S2x16384x1.Idx → EReal) (ix3 b p o) = g b (p.val + 16384 * 0) o)
    (h1 : ∀ (b : Fin 2) (p : Fin 16384) (o : Fin 1), (V (Proc.devRef .tc main_v251) : S2x16384x1.Idx → EReal) (ix3 b p o) = g b (p.val + 16384 * 1) o)
    (h2 : ∀ (b : Fin 2) (p : Fin 16384) (o : Fin 1), (V (Proc.devRef .tc main_v253) : S2x16384x1.Idx → EReal) (ix3 b p o) = g b (p.val + 16384 * 2) o)
    (h3 : ∀ (b : Fin 2) (p : Fin 16384) (o : Fin 1), (V (Proc.devRef .tc main_v255) : S2x16384x1.Idx → EReal) (ix3 b p o) = g b (p.val + 16384 * 3) o)
    (b : Fin 2) (h q : Fin 256) : (StableHlo.after hostOps17 V (Proc.devRef .tc main_v258) : S2x1x256x256.Idx → EReal) (ix4 b 0 h q)
    = g b (h.val * 256 + q.val) 0 := by
  after_reads_at
  exact bands4 g h0 h1 h2 h3 b ⟨h.val * 256 + q.val, by omega⟩ 0

end Cert.KernelIdeal.Host

end
-- ==== Proof.RefConv.lean ====
/- The reference's convolutions read at an index: one contraction over the window's 576 channels. -/
module

public import proofs.«01_k».proof.Proof.Spec
public import proofs.«01_k».proof.Proof.Gen.ReferenceIdeal.Run

@[expose] public section

set_option maxRecDepth 16384

noncomputable section

namespace Cert.Spec

open Idealize.ShloMosaic

/-- A 3×3 convolution of a padded channels-first array at dilation `d`: one sum over column tap, row tap and channel. -/
def win {n0 n1 n2 n3 m0 m1 m2 m3 : ℕ} (d : ℕ) (w : (⟨4, ![m0, m1, m2, m3]⟩ : Shape).Idx → EReal)
    (x : (⟨4, ![n0, n1, n2, n3]⟩ : Shape).Idx → EReal) (b o h q : ℕ) : EReal :=
  ∑ k : Fin 576, at4 w o (k.val % 64) (k.val / 64 % 3) (k.val / 192)
    * at4 x b (k.val % 64) (h + d * (k.val / 64 % 3)) (q + d * (k.val / 192))

/-- A value with its bias added, normalised and clamped below at zero, in the order the reference does it. -/
def norm (y bias g be mu va : EReal) : EReal :=
  max ((y + bias - mu) * (g * Ideal.rsqrt (va + Ideal.ofBits .f32 0x3727C5AC#32)) + be) 0

end Cert.Spec

namespace Cert.ReferenceIdeal.Conv

open Idealize.ShloMosaic Idealize.ShloMosaic.TcCoe Cert.ReferenceIdeal Cert.ReferenceIdeal.Gen Cert.ReferenceIdeal.Value Cert.Spec

/-- The reference's offset-and-mask convolution, at an index. -/
theorem om_at (V0 : Valuation τ sig (Elt Ideal)) (b : Fin 2) (o : Fin 27) (h q : Fin 256) :
    (res_main_v14 V0 : S2x27x256x256.Idx → EReal) (ix4 b o h q)
      = win 1 (V0 (Proc.devRef .tc main_arg1) : S27x64x3x3.Idx → EReal) (res_main_v0 V0 : S2x64x258x258.Idx → EReal) b o h q
        + (V0 (Proc.devRef .tc main_arg2) : S27.Idx → EReal) (ix1 o) := by
  unfold res_main_v14 res_main_v4
  pointwise []
  refine congrArg (· + _) (Finset.sum_congr rfl fun k _ => congrArg₂ (· * ·) (ix4_at _ _ _ _ _ ?_ ?_ ?_ ?_) ?_)
  iterate 4 first | rfl | omega | (dsimp only; omega)
  split_ifs <;> refine ix4_at _ _ _ _ _ ?_ ?_ ?_ ?_ <;> first | rfl | omega | (dsimp only; omega)

/-- The reference's first dilated convolution with its normalisation, clamped and padded, at an index. -/
theorem h2_at (V0 : Valuation τ sig (Elt Ideal)) (b : Fin 2) (o : Fin 64) (h q : Fin 260) :
    (res_main_v144 V0 : S2x64x260x260.Idx → EReal) (ix4 b o h q)
      = if (2 ≤ h.val ∧ h.val - 2 < 256) ∧ 2 ≤ q.val ∧ q.val - 2 < 256 then
          norm (win 2 (V0 (Proc.devRef .tc main_arg9) : S64x64x3x3.Idx → EReal) (res_main_v117 V0 : S2x64x260x260.Idx → EReal)
            b o (h - 2) (q - 2)) ((V0 (Proc.devRef .tc main_arg10) : S64.Idx → EReal) (ix1 o))
            ((V0 (Proc.devRef .tc main_arg11) : S64.Idx → EReal) (ix1 o)) ((V0 (Proc.devRef .tc main_arg12) : S64.Idx → EReal) (ix1 o))
            ((V0 (Proc.devRef .tc main_arg13) : S64.Idx → EReal) (ix1 o)) ((V0 (Proc.devRef .tc main_arg14) : S64.Idx → EReal) (ix1 o))
        else 0 := by
  unfold res_main_v144 res_main_v121
  pointwise []
  split
  · refine congrArg (norm · _ _ _ _ _) (Finset.sum_congr rfl fun k _ => congrArg₂ (· * ·) (ix4_at _ _ _ _ _ ?_ ?_ ?_ ?_) ?_)
    iterate 4 first | rfl | omega | (dsimp only; omega)
    split_ifs <;> refine ix4_at _ _ _ _ _ ?_ ?_ ?_ ?_ <;> first | rfl | omega | (dsimp only; omega)
  · rfl

/-- The reference's second dilated convolution with its normalisation, clamped and padded, at an index. -/
theorem h3_at (V0 : Valuation τ sig (Elt Ideal)) (b : Fin 2) (o : Fin 64) (h q : Fin 258) :
    (res_main_v171 V0 : S2x64x258x258.Idx → EReal) (ix4 b o h q)
      = if (1 ≤ h.val ∧ h.val - 1 < 256) ∧ 1 ≤ q.val ∧ q.val - 1 < 256 then
          norm (win 2 (V0 (Proc.devRef .tc main_arg15) : S64x64x3x3.Idx → EReal) (res_main_v144 V0 : S2x64x260x260.Idx → EReal)
            b o (h - 1) (q - 1)) ((V0 (Proc.devRef .tc main_arg16) : S64.Idx → EReal) (ix1 o))
            ((V0 (Proc.devRef .tc main_arg17) : S64.Idx → EReal) (ix1 o)) ((V0 (Proc.devRef .tc main_arg18) : S64.Idx → EReal) (ix1 o))
            ((V0 (Proc.devRef .tc main_arg19) : S64.Idx → EReal) (ix1 o)) ((V0 (Proc.devRef .tc main_arg20) : S64.Idx → EReal) (ix1 o))
        else 0 := by
  unfold res_main_v171 res_main_v148
  pointwise []
  split
  · refine congrArg (norm · _ _ _ _ _) (Finset.sum_congr rfl fun k _ => congrArg₂ (· * ·) (ix4_at _ _ _ _ _ ?_ ?_ ?_ ?_) ?_)
    iterate 4 first | rfl | omega | (dsimp only; omega)
    split_ifs <;> refine ix4_at _ _ _ _ _ ?_ ?_ ?_ ?_ <;> first | rfl | omega | (dsimp only; omega)
  · rfl

/-- The reference's result, at an index: the last convolution through the clipped logistic function. -/
theorem head_at (V0 : Valuation τ sig (Elt Ideal)) (b : Fin 2) (h q : Fin 256) :
    (val4 V0 (Proc.devRef .tc main_v192) : S2x1x256x256.Idx → EReal) (ix4 b 0 h q)
      = squash (win 1 (V0 (Proc.devRef .tc main_arg21) : S1x64x3x3.Idx → EReal) (res_main_v171 V0 : S2x64x258x258.Idx → EReal) b 0 h q
        + (V0 (Proc.devRef .tc main_arg22) : S1.Idx → EReal) (ix1 0)) := by
  rw [val4_main_v192]
  unfold res_main_v175
  pointwise []
  refine congrArg squash (congrArg (· + _) (Finset.sum_congr rfl fun k _ => congrArg₂ (· * ·) (ix4_at _ _ _ _ _ ?_ ?_ ?_ ?_) ?_))
  iterate 4 first | rfl | omega | (dsimp only; omega)
  split_ifs <;> refine ix4_at _ _ _ _ _ ?_ ?_ ?_ ?_ <;> first | rfl | omega | (dsimp only; omega)

end Cert.ReferenceIdeal.Conv

end
-- ==== Proof.Fold.lean ====
/- The kernel's nine taps against the reference's window, and a normalization folded into a scale and a shift. -/
module

public import proofs.«01_k».proof.Proof.RefConv

@[expose] public section

set_option maxRecDepth 16384

noncomputable section

namespace Cert.Spec

open Idealize.ShloMosaic

/-- A sum over a window's 576 products, tap by tap, column-major. -/
theorem sum_window (f : ℕ → EReal) : ∑ k : Fin 576, f k = ∑ i : Fin 9, ∑ c : Fin 64, f (c.val + 64 * i.val) := by
  rw [← Fintype.sum_prod_type']
  exact ((finProdFinEquiv (m := 9) (n := 64)).sum_comp fun k : Fin 576 => f k.val).symm

/-- The kernel's nine taps over an array with its channels last are the reference's window over the array with its channels first. -/
theorem taps_win {N C : ℕ} (d : ℕ) {PK : (⟨4, ![2, N, N, 64]⟩ : Shape).Idx → EReal} {P : (⟨4, ![2, 64, N, N]⟩ : Shape).Idx → EReal}
    {W : (⟨3, ![9, 64, C]⟩ : Shape).Idx → EReal} {w : (⟨4, ![C, 64, 3, 3]⟩ : Shape).Idx → EReal}
    (hP : ∀ (b : Fin 2) (r q : Fin N) (k : Fin 64), PK (ix4 b r q k) = P (ix4 b k r q))
    (hW : ∀ (k : Fin 9) (c : Fin 64) (o : Fin C), W (ix3 k c o) = w (ix4 o c ⟨k.val / 3, by omega⟩ ⟨k.val % 3, by omega⟩))
    (b h q o : ℕ) : taps d PK W b h q o = win d w P b o h q := by
  have hp : ∀ r s k : ℕ, at4 PK b r s k = at4 P b k r s := by
    intro r s k
    unfold at4
    by_cases hh : b < 2 ∧ r < N ∧ s < N ∧ k < 64
    · rw [dif_pos hh, dif_pos ⟨hh.1, hh.2.2.2, hh.2.1, hh.2.2.1⟩, hP]
    · rw [dif_neg hh, dif_neg fun e => hh ⟨e.1, e.2.2.1, e.2.2.2, e.2.1⟩]
  have hw : ∀ (k : Fin 9) (c : Fin 64), at3 W k c o = at4 w o c (k.val / 3) (k.val % 3) := by
    intro k c
    unfold at3 at4
    by_cases hh : o < C
    · rw [dif_pos ⟨k.2, c.2, hh⟩, dif_pos ⟨hh, c.2, by omega, by omega⟩]
      exact hW k c ⟨o, hh⟩
    · rw [dif_neg fun e => hh e.2.2, dif_neg fun e => hh e.1]
  have ht : ∀ (k : Fin 9) (r s : ℕ), tap 64 PK W b r s k o = ∑ c : Fin 64, at4 w o c (k.val / 3) (k.val % 3) * at4 P b c r s := by
    intro k r s
    unfold tap
    exact Finset.sum_congr rfl fun c _ => by rw [hp, hw, mul_comm]
  have hs : win d w P b o h q = ∑ i : Fin 9, ∑ c : Fin 64, at4 w o c (i.val % 3) (i.val / 3) * at4 P b c (h + d * (i.val % 3)) (q + d * (i.val / 3)) := by
    refine (sum_window fun k => at4 w o (k % 64) (k / 64 % 3) (k / 192) * at4 P b (k % 64) (h + d * (k / 64 % 3)) (q + d * (k / 192))).trans ?_
    refine Finset.sum_congr rfl fun i _ => Finset.sum_congr rfl fun c _ => ?_
    rw [show (c.val + 64 * i.val) % 64 = c.val by omega, show (c.val + 64 * i.val) / 64 % 3 = i.val % 3 by omega,
      show (c.val + 64 * i.val) / 192 = i.val / 3 by omega]
  rw [hs, Fin.sum_univ_succ, Fin.sum_univ_eight]
  have h0 := ht 0 h q
  have h1 := ht 1 h (q + d)
  have h2 := ht 2 h (q + 2 * d)
  have h3 := ht 3 (h + d) q
  have h4 := ht 4 (h + d) (q + d)
  have h5 := ht 5 (h + d) (q + 2 * d)
  have h6 := ht 6 (h + 2 * d) q
  have h7 := ht 7 (h + 2 * d) (q + d)
  have h8 := ht 8 (h + 2 * d) (q + 2 * d)
  unfold taps
  refine (add9 h0 h1 h2 h3 h4 h5 h6 h7 h8).trans ?_
  simp only [show ((0 : Fin 9) : ℕ) = 0 from rfl, show ((1 : Fin 9) : ℕ) = 1 from rfl, show ((2 : Fin 9) : ℕ) = 2 from rfl,
    show ((3 : Fin 9) : ℕ) = 3 from rfl, show ((4 : Fin 9) : ℕ) = 4 from rfl, show ((5 : Fin 9) : ℕ) = 5 from rfl,
    show ((6 : Fin 9) : ℕ) = 6 from rfl, show ((7 : Fin 9) : ℕ) = 7 from rfl, show ((8 : Fin 9) : ℕ) = 8 from rfl,
    show ((Fin.succ (0 : Fin 8) : Fin 9) : ℕ) = 1 from rfl, show ((Fin.succ (1 : Fin 8) : Fin 9) : ℕ) = 2 from rfl,
    show ((Fin.succ (2 : Fin 8) : Fin 9) : ℕ) = 3 from rfl, show ((Fin.succ (3 : Fin 8) : Fin 9) : ℕ) = 4 from rfl,
    show ((Fin.succ (4 : Fin 8) : Fin 9) : ℕ) = 5 from rfl, show ((Fin.succ (5 : Fin 8) : Fin 9) : ℕ) = 6 from rfl,
    show ((Fin.succ (6 : Fin 8) : Fin 9) : ℕ) = 7 from rfl, show ((Fin.succ (7 : Fin 8) : Fin 9) : ℕ) = 8 from rfl,
    Nat.reduceDiv, Nat.reduceMod, mul_zero, mul_one, add_zero, mul_comm d 2]
  abel

/-- A real factor distributes over adding a real number. -/
theorem add_mul_real (y : EReal) (b s : ℝ) : (y + (b : EReal)) * (s : EReal) = y * s + b * s := by
  induction y with
  | bot =>
    rcases lt_trichotomy s 0 with h | h | h
    · rw [EReal.bot_add, EReal.bot_mul_coe_of_neg h, ← EReal.coe_mul, EReal.top_add_coe]
    · subst h; simp
    · rw [EReal.bot_add, EReal.bot_mul_coe_of_pos h, EReal.bot_add]
  | top =>
    rcases lt_trichotomy s 0 with h | h | h
    · rw [EReal.top_add_coe, EReal.top_mul_coe_of_neg h, EReal.bot_add]
    · subst h; simp
    · rw [EReal.top_add_coe, EReal.top_mul_coe_of_pos h, ← EReal.coe_mul, EReal.top_add_coe]
  | coe r => norm_cast; ring

/-- The normalizations' small constant is a positive real number. -/
theorem eps_real : ∃ e : ℝ, 0 < e ∧ Ideal.ofBits .f32 0x3727C5AC#32 = (e : EReal) := by
  refine ⟨_, ?_, by simp [Ideal.ofBits, Ideal.ieee]; rfl⟩
  norm_num

/-- A variance that is not negative gives a real reciprocal root. -/
theorem rsqrt_real {v : EReal} (h : 0 ≤ v) : ∃ r : ℝ, Ideal.rsqrt (v + Ideal.ofBits .f32 0x3727C5AC#32) = (r : EReal) := by
  obtain ⟨e, he, hh⟩ := eps_real
  rw [hh]
  induction v with
  | bot => simp at h
  | top => exact ⟨0, by rw [EReal.top_add_coe, Ideal.rsqrt_top]; rfl⟩
  | coe r =>
    have hr : 0 ≤ r := EReal.coe_nonneg.1 h
    rw [← EReal.coe_add, Ideal.rsqrt_coe, if_neg (by linarith), if_neg (by linarith)]
    exact ⟨_, rfl⟩

/-- The kernel's scale and shift are the reference's normalization, where its bias, gain and mean are finite and its variance is not negative. -/
theorem fold_norm {y bias g be mu va : EReal} (hb : ∃ r : ℝ, bias = r) (hg : ∃ r : ℝ, g = r) (hm : ∃ r : ℝ, mu = r) (hv : 0 ≤ va) :
    max (y * (g * Ideal.rsqrt (va + Ideal.ofBits .f32 0x3727C5AC#32))
      + ((bias - mu) * (g * Ideal.rsqrt (va + Ideal.ofBits .f32 0x3727C5AC#32)) + be)) 0 = norm y bias g be mu va := by
  obtain ⟨b, rfl⟩ := hb
  obtain ⟨g, rfl⟩ := hg
  obtain ⟨u, rfl⟩ := hm
  obtain ⟨r, hr⟩ := rsqrt_real hv
  unfold norm
  rw [hr, ← EReal.coe_mul, ← EReal.coe_sub, ← add_assoc, ← add_mul_real]
  rw [show y + ((b - u : ℝ) : EReal) = y + (b : EReal) - (u : EReal) by rw [EReal.coe_sub, sub_eq_add_neg, sub_eq_add_neg, add_assoc]]

end Cert.Spec

end
-- ==== Proof.Norms.lean ====
/- A normalization's fold into a scale and a shift, channel by channel. -/
module

public import proofs.«01_k».proof.Proof.Fold

@[expose] public section

set_option maxRecDepth 16384

noncomputable section

namespace Cert.Spec

open Idealize.ShloMosaic

/-- What a normalization's fold needs of its bias, gain, mean and variance. -/
def Ok (bias g mu va : (⟨1, ![64]⟩ : Shape).Idx → EReal) : Prop :=
  ∀ o : Fin 64, (∃ r : ℝ, bias (ix1 o) = r) ∧ (∃ r : ℝ, g (ix1 o) = r) ∧ (∃ r : ℝ, mu (ix1 o) = r) ∧ 0 ≤ va (ix1 o)

/-- The reference's normalization with its arrays read at a channel. -/
def normAt (y : EReal) (bias g be mu va : (⟨1, ![64]⟩ : Shape).Idx → EReal) (o : Fin 64) : EReal :=
  norm y (bias (ix1 o)) (g (ix1 o)) (be (ix1 o)) (mu (ix1 o)) (va (ix1 o))

/-- A channel's scale. -/
def scaleAt (g va : (⟨1, ![64]⟩ : Shape).Idx → EReal) (o : Fin 64) : EReal := g (ix1 o) * Ideal.rsqrt (va (ix1 o) + Ideal.ofBits .f32 0x3727C5AC#32)

/-- A channel's shift. -/
def shiftAt (bias g be mu va : (⟨1, ![64]⟩ : Shape).Idx → EReal) (o : Fin 64) : EReal :=
  (bias (ix1 o) - mu (ix1 o)) * scaleAt g va o + be (ix1 o)

/-- Scaling and shifting by the folded numbers is the reference's normalization. -/
theorem fold_at {bias g be mu va : (⟨1, ![64]⟩ : Shape).Idx → EReal} (h : Ok bias g mu va) (y : EReal) (o : Fin 64) :
    max (y * scaleAt g va o + shiftAt bias g be mu va o) 0 = normAt y bias g be mu va o :=
  fold_norm (h o).1 (h o).2.1 (h o).2.2.1 (h o).2.2.2

end Cert.Spec

end
-- ==== Proof.Dcn.lean ====
/- What the deformable convolution's contraction kernel leaves in its output array. -/
module

public import proofs.«01_k».proof.Proof.Spec
public import proofs.«01_k».proof.Proof.Gen.KernelIdeal.Frame.Region4
public import Idealize.ShloMosaic.Lib.Pipeline.ValueKit

@[expose] public section

set_option maxRecDepth 16384

noncomputable section

namespace Cert.KernelIdeal.Conv

open Idealize.ShloMosaic Idealize.ShloMosaic.TcCoe Cert.KernelIdeal Cert.KernelIdeal.Gen Cert.Spec

/-- The contraction of nine sampled planes with nine matrices, added in order, scaled, shifted and clamped below at zero. -/
def dcnOut {n0 n1 n2 n3 m0 m1 m2 u0 u1 v0 v1 : ℕ} (x : (⟨4, ![n0, n1, n2, n3]⟩ : Shape).Idx → EReal)
    (w : (⟨3, ![m0, m1, m2]⟩ : Shape).Idx → EReal) (s : (⟨2, ![u0, u1]⟩ : Shape).Idx → EReal)
    (t : (⟨2, ![v0, v1]⟩ : Shape).Idx → EReal) (b p o : ℕ) : EReal :=
  max ((tap 64 x w b 0 p 0 o + tap 64 x w b 1 p 1 o + tap 64 x w b 2 p 2 o + tap 64 x w b 3 p 3 o + tap 64 x w b 4 p 4 o
    + tap 64 x w b 5 p 5 o + tap 64 x w b 6 p 6 o + tap 64 x w b 7 p 7 o + tap 64 x w b 8 p 8 o) * at2 s 0 o + at2 t 0 o) 0

/-- What the body of the contraction kernel leaves, at an index. -/
theorem out4_at (X : Vec Ideal S1x9x4096x64 .f32) (W : Vec Ideal S9x64x64 .f32) (S T : Vec Ideal S1x64 .f32)
    (p : Fin 4096) (o : Fin 64) :
    out4_4 X W S T (ix3 0 p o) = dcnOut X W S T 0 p o := by
  unfold out4_4
  canon_tiles x h
  all_goals
    idx_vars x
    pointwise [k4_pay1, k4_pay2, k4_pay3]
    refine congrArg (max · 0) (affine_congr (add9 ?_ ?_ ?_ ?_ ?_ ?_ ?_ ?_ ?_) ?_ ?_)
    all_goals first
      | (refine Finset.sum_congr rfl fun c _ => congrArg₂ (· * ·) (ix4_at X _ _ _ _ ?_ ?_ ?_ ?_) (ix3_at W _ _ _ ?_ ?_ ?_) <;> first | rfl | omega | (dsimp only; omega))
      | (refine ix2_at _ _ _ ?_ ?_ <;> first | rfl | omega | (dsimp only; omega))

/-- The contraction over one block of positions of one image is the contraction over the whole array. -/
theorem dcnOut_block {x : (⟨4, ![1, 9, 4096, 64]⟩ : Shape).Idx → EReal} {w w' : (⟨3, ![9, 64, 64]⟩ : Shape).Idx → EReal}
    {s s' t t' : (⟨2, ![1, 64]⟩ : Shape).Idx → EReal} {x' : (⟨4, ![2, 9, 65536, 64]⟩ : Shape).Idx → EReal} {o : ℕ}
    (b : Fin 2) (p : Fin 4096) (q : Fin 65536)
    (hx : ∀ i k, x (ix4 0 i p k) = x' (ix4 b i q k)) (hw : ∀ i j k, w (ix3 i j k) = w' (ix3 i j k))
    (hs : ∀ i j, s (ix2 i j) = s' (ix2 i j)) (ht : ∀ i j, t (ix2 i j) = t' (ix2 i j)) :
    dcnOut x w s t 0 p o = dcnOut x' w' s' t' b q o := by
  have e : ∀ k, k < 9 → tap 64 x w 0 k p k o = tap 64 x' w' b k q k o := fun k hk =>
    Finset.sum_congr rfl fun c _ => congrArg₂ (· * ·)
      ((ix4_at x 0 ⟨k, hk⟩ p c rfl rfl rfl rfl).symm.trans ((hx _ _).trans (ix4_at x' b ⟨k, hk⟩ q c rfl rfl rfl rfl)))
      (at3_congr hw)
  unfold dcnOut
  refine congrArg (max · 0) (affine_congr (add9 (e 0 ?_) (e 1 ?_) (e 2 ?_) (e 3 ?_) (e 4 ?_) (e 5 ?_) (e 6 ?_) (e 7 ?_) (e 8 ?_))
    (at2_congr hs) (at2_congr ht)) <;> omega

/-- The block indices of the contraction kernel's windows: image and block of positions, or the whole array. -/
theorem idx4 : ∀ t : Fin cfg4.N, win4_0.index t = ![t.val / 16, 0, t.val % 16, 0] ∧ win4_1.index t = ![0, 0, 0] ∧ win4_2.index t = ![0, 0]
    ∧ win4_3.index t = ![0, 0] ∧ win4_4.index t = ![t.val / 16, t.val % 16, 0] := by decide +kernel

set_option maxHeartbeats 800000 in
/-- The contraction kernel leaves the contraction over the whole array of sampled values. -/
theorem arr4 (V : (c : Dev nD) → (b : Ref sig .tc) → Buf (Elt Ideal) ((c : Thread nD τ).loc b)) (c : Dev nD) :
    (dat4 V c).arrAt 4 cfg4.N = fun j : S2x65536x64.Idx => dcnOut (V c main_v185 : S2x9x65536x64.Idx → EReal)
      (V c main_v194 : S9x64x64.Idx → EReal) (V c main_v195 : S1x64.Idx → EReal) (V c main_v196 : S1x64.Idx → EReal) (j 0) (j 1) (j 2) := by
  refine (dat4 V c).arrAt_eq_of_covers 4 _ (by decide +kernel) fun t hf y => ?_
  rw [after4_4]
  idx_vars y
  blk_simp [idx4 t]
  obtain rfl : y0 = 0 := Subsingleton.elim _ _
  have ht : t.val < 32 := t.isLt
  refine (out4_at _ _ _ _ y1 y2).trans ((dcnOut_block (x' := (V c main_v185 : S2x9x65536x64.Idx → EReal))
    (w' := (V c main_v194 : S9x64x64.Idx → EReal)) (s' := (V c main_v195 : S1x64.Idx → EReal))
    (t' := (V c main_v196 : S1x64.Idx → EReal)) ⟨t.val / 16, by omega⟩ y1 ⟨t.val % 16 * 4096 + y1.val, by omega⟩ (fun i k => by blk_ext [iblk4, idx4 t])
    (fun i j k => by blk_ext [iblk4, idx4 t]) (fun i j => by blk_ext [iblk4, idx4 t]) fun i j => by blk_ext [iblk4, idx4 t]).trans ?_)
  rfl

end Cert.KernelIdeal.Conv

end
-- ==== Proof.KLayers.lean ====
/- The kernel layer by layer, each equal to the reference's layer over the reference's arrays. -/
module

public import proofs.«01_k».proof.Proof.KHost
public import proofs.«01_k».proof.Proof.Norms
public import proofs.«01_k».proof.Proof.Dcn

@[expose] public section

set_option maxRecDepth 16384

noncomputable section

namespace Cert.Spec

open Idealize.ShloMosaic

/-- A convolution of the kernel as the reference's window, scaled and shifted. -/
theorem convOut_win {N C : ℕ} (d : ℕ) (act : EReal → EReal) {PK : (⟨4, ![2, N, N, 64]⟩ : Shape).Idx → EReal}
    {P : (⟨4, ![2, 64, N, N]⟩ : Shape).Idx → EReal} {W : (⟨3, ![9, 64, C]⟩ : Shape).Idx → EReal}
    {w : (⟨4, ![C, 64, 3, 3]⟩ : Shape).Idx → EReal} {S T : (⟨2, ![1, C]⟩ : Shape).Idx → EReal}
    (hP : ∀ (b : Fin 2) (r q : Fin N) (k : Fin 64), PK (ix4 b r q k) = P (ix4 b k r q))
    (hW : ∀ (k : Fin 9) (c : Fin 64) (o : Fin C), W (ix3 k c o) = w (ix4 o c ⟨k.val / 3, by omega⟩ ⟨k.val % 3, by omega⟩))
    (b p : ℕ) (o : Fin C) {s t : EReal} (hs : S (ix2 0 o) = s) (ht : T (ix2 0 o) = t) :
    convOut d act PK W S T b p o = act (win d w P b o (p / 256) (p % 256) * s + t) := by
  unfold convOut
  rw [taps_win d hP hW, ← hs, ← ht, ix2_at S 0 o (a := 0) (b := o) rfl rfl, ix2_at T 0 o (a := 0) (b := o) rfl rfl]

/-- The sampled convolution's products, tap by tap in the kernel, channel by channel in the reference. -/
theorem taps_cols {x : (⟨4, ![2, 9, 65536, 64]⟩ : Shape).Idx → EReal} {W : (⟨3, ![9, 64, 64]⟩ : Shape).Idx → EReal}
    {w : (⟨4, ![64, 64, 3, 3]⟩ : Shape).Idx → EReal} {f : ℕ → ℕ → EReal} (b : Fin 2) (p : Fin 65536) (o : Fin 64)
    (hx : ∀ (k : Fin 9) (c : Fin 64), x (ix4 b k p c) = f k c)
    (hW : ∀ (k : Fin 9) (c : Fin 64) (o : Fin 64), W (ix3 k c o) = w (ix4 o c ⟨k.val / 3, by omega⟩ ⟨k.val % 3, by omega⟩)) :
    tap 64 x W b 0 p 0 o + tap 64 x W b 1 p 1 o + tap 64 x W b 2 p 2 o + tap 64 x W b 3 p 3 o + tap 64 x W b 4 p 4 o
      + tap 64 x W b 5 p 5 o + tap 64 x W b 6 p 6 o + tap 64 x W b 7 p 7 o + tap 64 x W b 8 p 8 o
      = ∑ c : Fin 64, ∑ k : Fin 9, at4 w o c (k.val / 3) (k.val % 3) * f k c := by
  have h : ∀ k : Fin 9, tap 64 x W b k p k o = ∑ c : Fin 64, at4 w o c (k.val / 3) (k.val % 3) * f k c := by
    intro k
    unfold tap
    refine Finset.sum_congr rfl fun c _ => ?_
    rw [← ix4_at x b k p c rfl rfl rfl rfl, ← ix3_at W k c o rfl rfl rfl, hx, hW, mul_comm]
    exact congrArg (· * f k c) (ix4_at w _ _ _ _ rfl rfl rfl rfl)
  rw [Finset.sum_comm, Fin.sum_univ_succ, Fin.sum_univ_eight]
  refine (add9 (h 0) (h 1) (h 2) (h 3) (h 4) (h 5) (h 6) (h 7) (h 8)).trans ?_
  simp only [add_assoc]
  rfl

/-- The contraction over sampled columns as the reference's sums, scaled, shifted and clamped. -/
theorem dcnOut_win {x : (⟨4, ![2, 9, 65536, 64]⟩ : Shape).Idx → EReal} {W : (⟨3, ![9, 64, 64]⟩ : Shape).Idx → EReal}
    {w : (⟨4, ![64, 64, 3, 3]⟩ : Shape).Idx → EReal} {S T : (⟨2, ![1, 64]⟩ : Shape).Idx → EReal} {f : ℕ → ℕ → EReal}
    (b : Fin 2) (p : Fin 65536) (o : Fin 64) (hx : ∀ (k : Fin 9) (c : Fin 64), x (ix4 b k p c) = f k c)
    (hW : ∀ (k : Fin 9) (c : Fin 64) (o : Fin 64), W (ix3 k c o) = w (ix4 o c ⟨k.val / 3, by omega⟩ ⟨k.val % 3, by omega⟩))
    {s t : EReal} (hs : S (ix2 0 o) = s) (ht : T (ix2 0 o) = t) :
    Cert.KernelIdeal.Conv.dcnOut x W S T b p o = max ((∑ c : Fin 64, ∑ k : Fin 9, at4 w o c (k.val / 3) (k.val % 3) * f k c) * s + t) 0 := by
  unfold Cert.KernelIdeal.Conv.dcnOut
  rw [taps_cols b p o hx hW, ← hs, ← ht, ix2_at S 0 o (a := 0) (b := o) rfl rfl, ix2_at T 0 o (a := 0) (b := o) rfl rfl]

end Cert.Spec

namespace Cert.KernelIdeal.Host

open Idealize.ShloMosaic Idealize.ShloMosaic.TcCoe Cert.KernelIdeal Cert.KernelIdeal.Gen Cert.Spec Cert.KernelIdeal.Conv

variable (m : (ℓ : Loc nD τ sig) → Buf (Elt Ideal) ℓ) (ρ : Dev nD → PrngReg) (c : Dev nD)

/-- Argument 1. -/
abbrev a1 : S27x64x3x3.Idx → EReal := m ((c : Thread nD τ).loc main_arg1)

/-- Argument 2. -/
abbrev a2 : S27.Idx → EReal := m ((c : Thread nD τ).loc main_arg2)

/-- Argument 3. -/
abbrev a3 : S64x64x3x3.Idx → EReal := m ((c : Thread nD τ).loc main_arg3)

/-- Argument 4. -/
abbrev a4 : S64.Idx → EReal := m ((c : Thread nD τ).loc main_arg4)

/-- Argument 5. -/
abbrev a5 : S64.Idx → EReal := m ((c : Thread nD τ).loc main_arg5)

/-- Argument 6. -/
abbrev a6 : S64.Idx → EReal := m ((c : Thread nD τ).loc main_arg6)

/-- Argument 7. -/
abbrev a7 : S64.Idx → EReal := m ((c : Thread nD τ).loc main_arg7)

/-- Argument 8. -/
abbrev a8 : S64.Idx → EReal := m ((c : Thread nD τ).loc main_arg8)

/-- Argument 9. -/
abbrev a9 : S64x64x3x3.Idx → EReal := m ((c : Thread nD τ).loc main_arg9)

/-- Argument 10. -/
abbrev a10 : S64.Idx → EReal := m ((c : Thread nD τ).loc main_arg10)

/-- Argument 11. -/
abbrev a11 : S64.Idx → EReal := m ((c : Thread nD τ).loc main_arg11)

/-- Argument 12. -/
abbrev a12 : S64.Idx → EReal := m ((c : Thread nD τ).loc main_arg12)

/-- Argument 13. -/
abbrev a13 : S64.Idx → EReal := m ((c : Thread nD τ).loc main_arg13)

/-- Argument 14. -/
abbrev a14 : S64.Idx → EReal := m ((c : Thread nD τ).loc main_arg14)

/-- Argument 15. -/
abbrev a15 : S64x64x3x3.Idx → EReal := m ((c : Thread nD τ).loc main_arg15)

/-- Argument 16. -/
abbrev a16 : S64.Idx → EReal := m ((c : Thread nD τ).loc main_arg16)

/-- Argument 17. -/
abbrev a17 : S64.Idx → EReal := m ((c : Thread nD τ).loc main_arg17)

/-- Argument 18. -/
abbrev a18 : S64.Idx → EReal := m ((c : Thread nD τ).loc main_arg18)

/-- Argument 19. -/
abbrev a19 : S64.Idx → EReal := m ((c : Thread nD τ).loc main_arg19)

/-- Argument 20. -/
abbrev a20 : S64.Idx → EReal := m ((c : Thread nD τ).loc main_arg20)

/-- Argument 21. -/
abbrev a21 : S1x64x3x3.Idx → EReal := m ((c : Thread nD τ).loc main_arg21)

/-- Argument 22. -/
abbrev a22 : S1.Idx → EReal := m ((c : Thread nD τ).loc main_arg22)

/-- The offset and mask convolution is the reference's, over any array equal to the padded image. -/
theorem om_eq {P : (⟨4, ![2, 64, 258, 258]⟩ : Shape).Idx → EReal} (hP : ∀ (b : Fin 2) (r q : Fin 258) (k : Fin 64), P (ix4 b k r q)
      = if (1 ≤ r.val ∧ r.val - 1 < 256) ∧ 1 ≤ q.val ∧ q.val - 1 < 256 then at4 (img m c) b k (r.val - 1) (q.val - 1) else 0)
    (b p : ℕ) (o : Fin 27) : om m ρ c b p o = win 1 (a1 m c) P b o (p / 256) (p % 256) + a2 m c (ix1 o) :=
  (convOut_win 1 id (fun b r q k => (congrFun (W3_of m ρ c main_v1 (by decide)) _).trans ((pad1 m ρ c b r q k).trans (hP b r q k).symm))
    (fun k l o => (v3_at (W2 m ρ c) k l o).trans (congrFun (W2_args m ρ c main_arg1 (by decide)) _)) b p o (v4_at (W2 m ρ c) o) ((v5_at (W2 m ρ c) o).trans (congrFun (W2_args m ρ c main_arg2 (by decide)) _))).trans
    (congrArg (· + a2 m c (ix1 o)) (mul_one _))

/-- The sampled convolution's scale. -/
theorem scale0 (o : Fin 64) : (W27 m ρ c (Proc.devRef .tc main_v195) : S1x64.Idx → EReal) (ix2 0 o) = scaleAt (a5 m c) (a8 m c) o := by
  refine (v195_at (W26 m ρ c) o).trans ?_
  rw [W26_args m ρ c main_arg5 (by decide), W26_args m ρ c main_arg8 (by decide)]
  rfl

/-- The sampled convolution's shift. -/
theorem shift0 (o : Fin 64) : (W27 m ρ c (Proc.devRef .tc main_v196) : S1x64.Idx → EReal) (ix2 0 o) = shiftAt (a4 m c) (a5 m c) (a6 m c) (a7 m c) (a8 m c) o := by
  refine (v196_at (W26 m ρ c) o).trans ?_
  rw [W26_args m ρ c main_arg4 (by decide), W26_args m ρ c main_arg5 (by decide), W26_args m ρ c main_arg6 (by decide),
    W26_args m ρ c main_arg7 (by decide), W26_args m ρ c main_arg8 (by decide)]
  rfl

/-- The sampled convolution, normalized and clamped: the reference's sums over the same samples. -/
theorem dcn_eq (h : Ok (a4 m c) (a5 m c) (a7 m c) (a8 m c)) (b : Fin 2) (p : Fin 65536) (o : Fin 64) :
    (W28 m ρ c (Proc.devRef .tc main_v197) : S2x65536x64.Idx → EReal) (ix3 b p o)
      = normAt (∑ l : Fin 64, ∑ k : Fin 9, at4 (a3 m c) o l (k.val / 3) (k.val % 3)
          * (sample (at4 (img m c) b l) (py m ρ c b k p) (px m ρ c b k p) * gt m ρ c b k p)) (a4 m c) (a5 m c) (a6 m c) (a7 m c) (a8 m c) o := by
  refine (congrFun ((W28_arr m ρ c 4).trans (arr4 _ _)) (ix3 b p o)).trans ?_
  exact (dcnOut_win (f := fun k l => sample (at4 (img m c) b l) (py m ρ c b k p) (px m ρ c b k p) * gt m ρ c b k p) b p o
    (fun k l => cols_at m ρ c b k p l) (fun k l o => (v194_at (W26 m ρ c) k l o).trans (congrFun (W26_args m ρ c main_arg3 (by decide)) _)) (scale0 m ρ c o) (shift0 m ρ c o)).trans (fold_at h _ o)

/-- The first dilated convolution's scale. -/
theorem scale1 (o : Fin 64) : (W31 m ρ c (Proc.devRef .tc main_v209) : S1x64.Idx → EReal) (ix2 0 o) = scaleAt (a11 m c) (a14 m c) o := by
  refine ((v209_at (W30 m ρ c) o).trans ((congrFun (W30_of m ρ c main_v201 (by decide)) _).trans (v201_at (W28 m ρ c) o))).trans ?_
  rw [W28_args m ρ c main_arg11 (by decide), W28_args m ρ c main_arg14 (by decide)]
  rfl

/-- The first dilated convolution's shift. -/
theorem shift1 (o : Fin 64) : (W31 m ρ c (Proc.devRef .tc main_v210) : S1x64.Idx → EReal) (ix2 0 o) = shiftAt (a10 m c) (a11 m c) (a12 m c) (a13 m c) (a14 m c) o := by
  refine ((v210_at (W30 m ρ c) o).trans ((congrFun (W30_of m ρ c main_v204 (by decide)) _).trans (v204_at (W28 m ρ c) o))).trans ?_
  rw [W28_args m ρ c main_arg10 (by decide), W28_args m ρ c main_arg11 (by decide), W28_args m ρ c main_arg12 (by decide),
    W28_args m ρ c main_arg13 (by decide), W28_args m ρ c main_arg14 (by decide)]
  rfl

/-- The second dilated convolution's scale. -/
theorem scale2 (o : Fin 64) : (W41 m ρ c (Proc.devRef .tc main_v231) : S1x64.Idx → EReal) (ix2 0 o) = scaleAt (a17 m c) (a20 m c) o := by
  refine ((v231_at (W40 m ρ c) o).trans ((congrFun (W40_of m ρ c main_v223 (by decide)) _).trans (v223_at (W38 m ρ c) o))).trans ?_
  rw [W38_args m ρ c main_arg17 (by decide), W38_args m ρ c main_arg20 (by decide)]
  rfl

/-- The second dilated convolution's shift. -/
theorem shift2 (o : Fin 64) : (W41 m ρ c (Proc.devRef .tc main_v232) : S1x64.Idx → EReal) (ix2 0 o) = shiftAt (a16 m c) (a17 m c) (a18 m c) (a19 m c) (a20 m c) o := by
  refine ((v232_at (W40 m ρ c) o).trans ((congrFun (W40_of m ρ c main_v226 (by decide)) _).trans (v226_at (W38 m ρ c) o))).trans ?_
  rw [W38_args m ρ c main_arg16 (by decide), W38_args m ρ c main_arg17 (by decide), W38_args m ρ c main_arg18 (by decide),
    W38_args m ρ c main_arg19 (by decide), W38_args m ρ c main_arg20 (by decide)]
  rfl

/-- The first dilated convolution's padded input. -/
theorem pad2 {P : (⟨4, ![2, 64, 260, 260]⟩ : Shape).Idx → EReal} {g : ℕ → ℕ → ℕ → EReal}
    (hg : ∀ (b : Fin 2) (p : Fin 65536) (o : Fin 64), (W28 m ρ c (Proc.devRef .tc main_v197) : S2x65536x64.Idx → EReal) (ix3 b p o) = g b p o)
    (hP : ∀ (b : Fin 2) (r q : Fin 260) (k : Fin 64), P (ix4 b k r q)
      = if (2 ≤ r.val ∧ r.val - 2 < 256) ∧ 2 ≤ q.val ∧ q.val - 2 < 256 then g b ((r.val - 2) * 256 + (q.val - 2)) k else 0)
    (b : Fin 2) (r q : Fin 260) (k : Fin 64) :
    (W31 m ρ c (Proc.devRef .tc main_v206) : S2x260x260x64.Idx → EReal) (ix4 b r q k) = P (ix4 b k r q) := by
  refine (congrFun (W31_of m ρ c main_v206 (by decide)) _).trans ((v206_at (W29 m ρ c) (c_47_at (W28 m ρ c)) b r q k).trans ?_)
  rw [hP]
  by_cases h : (2 ≤ r.val ∧ r.val - 2 < 256) ∧ 2 ≤ q.val ∧ q.val - 2 < 256
  · rw [dif_pos h, if_pos h]
    exact (v205_at (W28 m ρ c) b _ _ k).trans (hg b _ k)
  · rw [dif_neg h, if_neg h]

/-- The second dilated convolution's padded input. -/
theorem pad3 {P : (⟨4, ![2, 64, 260, 260]⟩ : Shape).Idx → EReal}
    (hP : ∀ (b : Fin 2) (r q : Fin 260) (k : Fin 64), P (ix4 b k r q)
      = if (2 ≤ r.val ∧ r.val - 2 < 256) ∧ 2 ≤ q.val ∧ q.val - 2 < 256 then one m ρ c b ((r.val - 2) * 256 + (q.val - 2)) k else 0)
    (b : Fin 2) (r q : Fin 260) (k : Fin 64) :
    (W41 m ρ c (Proc.devRef .tc main_v228) : S2x260x260x64.Idx → EReal) (ix4 b r q k) = P (ix4 b k r q) := by
  refine (congrFun (W41_of m ρ c main_v228 (by decide)) _).trans ((v228_at (W39 m ρ c) (c_49_at (W38 m ρ c)) b r q k).trans ?_)
  rw [hP]
  by_cases h : (2 ≤ r.val ∧ r.val - 2 < 256) ∧ 2 ≤ q.val ∧ q.val - 2 < 256
  · rw [dif_pos h, if_pos h]
    exact v227_at (W38 m ρ c) (one m ρ c) (one212 m ρ c) (one214 m ρ c) (one216 m ρ c) (one218 m ρ c) b _ _ k
  · rw [dif_neg h, if_neg h]

/-- The last convolution's padded input. -/
theorem pad4 {P : (⟨4, ![2, 64, 258, 258]⟩ : Shape).Idx → EReal}
    (hP : ∀ (b : Fin 2) (r q : Fin 258) (k : Fin 64), P (ix4 b k r q)
      = if (1 ≤ r.val ∧ r.val - 1 < 256) ∧ 1 ≤ q.val ∧ q.val - 1 < 256 then two m ρ c b ((r.val - 1) * 256 + (q.val - 1)) k else 0)
    (b : Fin 2) (r q : Fin 258) (k : Fin 64) :
    (W51 m ρ c (Proc.devRef .tc main_v243) : S2x258x258x64.Idx → EReal) (ix4 b r q k) = P (ix4 b k r q) := by
  refine (congrFun (W51_of m ρ c main_v243 (by decide)) _).trans ((v243_at (W49 m ρ c) (c_50_at (W48 m ρ c)) b r q k).trans ?_)
  rw [hP]
  by_cases h : (1 ≤ r.val ∧ r.val - 1 < 256) ∧ 1 ≤ q.val ∧ q.val - 1 < 256
  · rw [dif_pos h, if_pos h]
    exact v242_at (W48 m ρ c) (two m ρ c) (two234 m ρ c) (two236 m ρ c) (two238 m ρ c) (two240 m ρ c) b _ _ k
  · rw [dif_neg h, if_neg h]

/-- The first dilated convolution is the reference's. -/
theorem one_eq {P : (⟨4, ![2, 64, 260, 260]⟩ : Shape).Idx → EReal} {g : ℕ → ℕ → ℕ → EReal}
    (hg : ∀ (b : Fin 2) (p : Fin 65536) (o : Fin 64), (W28 m ρ c (Proc.devRef .tc main_v197) : S2x65536x64.Idx → EReal) (ix3 b p o) = g b p o)
    (hP : ∀ (b : Fin 2) (r q : Fin 260) (k : Fin 64), P (ix4 b k r q)
      = if (2 ≤ r.val ∧ r.val - 2 < 256) ∧ 2 ≤ q.val ∧ q.val - 2 < 256 then g b ((r.val - 2) * 256 + (q.val - 2)) k else 0)
    (h : Ok (a10 m c) (a11 m c) (a13 m c) (a14 m c)) (b p : ℕ) (o : Fin 64) :
    one m ρ c b p o = normAt (win 2 (a9 m c) P b o (p / 256) (p % 256)) (a10 m c) (a11 m c) (a12 m c) (a13 m c) (a14 m c) o :=
  (convOut_win 2 (max · 0) (pad2 m ρ c hg hP) (fun k l o => (v208_at (W30 m ρ c) k l o).trans (congrFun (W30_args m ρ c main_arg9 (by decide)) _)) b p o (scale1 m ρ c o) (shift1 m ρ c o)).trans (fold_at h _ o)

/-- The second dilated convolution is the reference's. -/
theorem two_eq {P : (⟨4, ![2, 64, 260, 260]⟩ : Shape).Idx → EReal}
    (hP : ∀ (b : Fin 2) (r q : Fin 260) (k : Fin 64), P (ix4 b k r q)
      = if (2 ≤ r.val ∧ r.val - 2 < 256) ∧ 2 ≤ q.val ∧ q.val - 2 < 256 then one m ρ c b ((r.val - 2) * 256 + (q.val - 2)) k else 0)
    (h : Ok (a16 m c) (a17 m c) (a19 m c) (a20 m c)) (b p : ℕ) (o : Fin 64) :
    two m ρ c b p o = normAt (win 2 (a15 m c) P b o (p / 256) (p % 256)) (a16 m c) (a17 m c) (a18 m c) (a19 m c) (a20 m c) o :=
  (convOut_win 2 (max · 0) (pad3 m ρ c hP) (fun k l o => (v230_at (W40 m ρ c) k l o).trans (congrFun (W40_args m ρ c main_arg15 (by decide)) _)) b p o (scale2 m ρ c o) (shift2 m ρ c o)).trans (fold_at h _ o)

/-- The last convolution is the reference's. -/
theorem head_eq {P : (⟨4, ![2, 64, 258, 258]⟩ : Shape).Idx → EReal}
    (hP : ∀ (b : Fin 2) (r q : Fin 258) (k : Fin 64), P (ix4 b k r q)
      = if (1 ≤ r.val ∧ r.val - 1 < 256) ∧ 1 ≤ q.val ∧ q.val - 1 < 256 then two m ρ c b ((r.val - 1) * 256 + (q.val - 1)) k else 0) (b p : ℕ) :
    head m ρ c b p 0 = squash (win 1 (a21 m c) P b 0 (p / 256) (p % 256) + a22 m c (ix1 0)) :=
  (convOut_win 1 squash (pad4 m ρ c hP) (fun k l o => (v245_at (W50 m ρ c) k l o).trans (congrFun (W50_args m ρ c main_arg21 (by decide)) _)) b p 0 (v246_at (W50 m ρ c) 0)
    ((v247_at (W50 m ρ c) 0).trans (congrFun (W50_args m ρ c main_arg22 (by decide)) _))).trans (congrArg (fun z => squash (z + a22 m c (ix1 0))) (mul_one _))

/-- The kernel's result. -/
theorem out_at (b : Fin 2) (h q : Fin 256) :
    (W59 m ρ c (Proc.devRef .tc main_v258) : S2x1x256x256.Idx → EReal) (ix4 b 0 h q) = head m ρ c b (h.val * 256 + q.val) 0 :=
  v258_at (W58 m ρ c) (head m ρ c) (head249 m ρ c) (head251 m ρ c) (head253 m ρ c) (head255 m ρ c) b h q

end Cert.KernelIdeal.Host

end
-- ==== Proof.RefDcn.lean ====
/- The reference's deformable convolution read at an index. -/
module

public import proofs.«01_k».proof.Proof.Gather
public import proofs.«01_k».proof.Proof.Sample
public import proofs.«01_k».proof.Proof.RefConv
public import proofs.«01_k».proof.Proof.Gen.ReferenceIdeal.Run
public import Idealize.ShloMosaic.Lib.StableHlo.ReadAt

@[expose] public section

set_option maxRecDepth 16384

noncomputable section
namespace Cert.ReferenceIdeal.Conv

open Idealize.ShloMosaic Idealize.ShloMosaic.TcCoe Cert.ReferenceIdeal Cert.ReferenceIdeal.Gen Cert.ReferenceIdeal.Value Cert.Spec

/-- The reference's gather, at an index. -/
theorem gather_at (x : S2x64x65536.Idx → EReal) (idx : S2x2359296x1.Idx → BitVec 32) (b : Fin 2) (c : Fin 64) (n : Fin 2359296) :
    Host.gather gather_S2x64x65536_S2x2359296x1_S2x64x2359296_1_2_0_0_2_2_1641 x idx (ix3 b c n)
      = x (ix3 b c ⟨min (idx (ix3 b n 0)).toInt.toNat 65535, by omega⟩) :=
  gather_column (P := 65535) _ x idx b c n

/-- The gathered values times the broadcast weights at one corner: the image at the corner's flat index times its weight. -/
theorem corner_at (X : S2x64x256x256.Idx → EReal) (A : S2x2x2x9x256x256.Idx → BitVec 32) (Wt : S2x2x2x9x256x256.Idx → EReal)
    (b : Fin 2) (c : Fin 64) (dy dx : Fin 2) (k : Fin 9) (h q : Fin 256) :
    mulf (F := Ideal) (φ := .f32) (shapeCast S2x64x2x2x9x256x256 (Host.gather gather_S2x64x65536_S2x2359296x1_S2x64x2359296_1_2_0_0_2_2_1641
        (shapeCast S2x64x65536 X shapeCasts_S2x64x256x256_S2x64x65536)
        (broadcastInDim S2x2359296x1 ![0, 1] bcast_S2x2359296_S2x2359296x1_0_1 (shapeCast S2x2359296 A shapeCasts_S2x2x2x9x256x256_S2x2359296)))
        shapeCasts_S2x64x2359296_S2x64x2x2x9x256x256)
      (broadcastInDim S2x64x2x2x9x256x256 ![0, 2, 3, 4, 5, 6] bcast_S2x2x2x9x256x256_S2x64x2x2x9x256x256_0_2_3_4_5_6 Wt) (ix7 b c dy dx k h q)
      = X (ix4 b c ⟨min (A (ix6 b dy dx k h q)).toInt.toNat 65535 / 256, by omega⟩
          ⟨min (A (ix6 b dy dx k h q)).toInt.toNat 65535 % 256, by omega⟩) * Wt (ix6 b dy dx k h q) := by
  pointwise [gather_at]

/-- The reference's products at one corner, for any stacks of corners and weights: the corner's share. -/
theorem share_at (X : S2x64x256x256.Idx → EReal) (Y U Z : S2x2x9x256x256.Idx → BitVec 32) (A0 A1 B0 B1 : S2x9x256x256.Idx → EReal)
    (b : Fin 2) (c : Fin 64) (dy dx : Fin 2) (k : Fin 9) (h q : Fin 256) (hZ : ∀ j, Z j = 0#32) :
    mulf (F := Ideal) (φ := .f32) (shapeCast S2x64x2x2x9x256x256 (Host.gather gather_S2x64x65536_S2x2359296x1_S2x64x2359296_1_2_0_0_2_2_1641
        (shapeCast S2x64x65536 X shapeCasts_S2x64x256x256_S2x64x65536)
        (broadcastInDim S2x2359296x1 ![0, 1] bcast_S2x2359296_S2x2359296x1_0_1 (shapeCast S2x2359296 (addi (broadcastInDim S2x2x2x9x256x256 ![0, 1, 3, 4, 5] bcast_S2x2x9x256x256_S2x2x2x9x256x256_0_1_3_4_5 (muli (minsi (maxsi Y Z) (broadcastInDim S2x2x9x256x256 ![] bcast_S_S2x2x9x256x256 (constantI S_ 32 255#32))) (broadcastInDim S2x2x9x256x256 ![] bcast_S_S2x2x9x256x256 (constantI S_ 32 256#32))))
          (broadcastInDim S2x2x2x9x256x256 ![0, 2, 3, 4, 5] bcast_S2x2x9x256x256_S2x2x2x9x256x256_0_2_3_4_5 (minsi (maxsi U Z) (broadcastInDim S2x2x9x256x256 ![] bcast_S_S2x2x9x256x256 (constantI S_ 32 255#32))))) shapeCasts_S2x2x2x9x256x256_S2x2359296)))
        shapeCasts_S2x64x2359296_S2x64x2x2x9x256x256)
      (broadcastInDim S2x64x2x2x9x256x256 ![0, 2, 3, 4, 5, 6] bcast_S2x2x2x9x256x256_S2x64x2x2x9x256x256_0_2_3_4_5_6 (mulf (F := Ideal) (φ := .f32) (mulf (broadcastInDim S2x2x2x9x256x256 ![0, 1, 3, 4, 5] bcast_S2x2x9x256x256_S2x2x2x9x256x256_0_1_3_4_5 (concatenate S2x2x9x256x256 1 [⟨S2x1x9x256x256, broadcastInDim S2x1x9x256x256 ![0, 2, 3, 4] bcast_S2x9x256x256_S2x1x9x256x256_0_2_3_4 A0⟩,
            ⟨S2x1x9x256x256, broadcastInDim S2x1x9x256x256 ![0, 2, 3, 4] bcast_S2x9x256x256_S2x1x9x256x256_0_2_3_4 A1⟩] concatenates_S2x1x9x256x256_S2x1x9x256x256_S2x2x9x256x256_d1))
          (broadcastInDim S2x2x2x9x256x256 ![0, 2, 3, 4, 5] bcast_S2x2x9x256x256_S2x2x2x9x256x256_0_2_3_4_5 (concatenate S2x2x9x256x256 1 [⟨S2x1x9x256x256, broadcastInDim S2x1x9x256x256 ![0, 2, 3, 4] bcast_S2x9x256x256_S2x1x9x256x256_0_2_3_4 B0⟩,
            ⟨S2x1x9x256x256, broadcastInDim S2x1x9x256x256 ![0, 2, 3, 4] bcast_S2x9x256x256_S2x1x9x256x256_0_2_3_4 B1⟩] concatenates_S2x1x9x256x256_S2x1x9x256x256_S2x2x9x256x256_d1)))
        (uitofp .f32 (andi (broadcastInDim S2x2x2x9x256x256 ![0, 1, 3, 4, 5] bcast_S2x2x9x256x256_S2x2x2x9x256x256_0_1_3_4_5 (andi (cmpi .sge Y Z) (cmpi .slt Y (broadcastInDim S2x2x9x256x256 ![] bcast_S_S2x2x9x256x256 (constantI S_ 32 256#32)))))
          (broadcastInDim S2x2x2x9x256x256 ![0, 2, 3, 4, 5] bcast_S2x2x9x256x256_S2x2x2x9x256x256_0_2_3_4_5 (andi (cmpi .sge U Z) (cmpi .slt U (broadcastInDim S2x2x9x256x256 ![] bcast_S_S2x2x9x256x256 (constantI S_ 32 256#32))))))))) (ix7 b c dy dx k h q)
      = corner (at4 X b c) (Y (ix5 b dy k h q)) (U (ix5 b dx k h q))
          ((if dy.val < 1 then A0 (ix4 b k h q) else A1 (ix4 b k h q)) * (if dx.val < 1 then B0 (ix4 b k h q) else B1 (ix4 b k h q))) := by
  refine (corner_at X _ _ b c dy dx k h q).trans ?_
  pointwise [hZ]
  refine ref_corner X b c (Y (ix5 b dy k h q)) (U (ix5 b dx k h q)) _ _ _ ?_ ?_ <;> rfl

/-- The fraction of the row position. -/
theorem v41_at (V0 : Valuation τ sig (Elt Ideal)) (b : Fin 2) (k : Fin 9) (h q : Fin 256) :
    (res_main_v41 V0 : S2x9x256x256.Idx → EReal) (ix4 b k h q) = frac ((res_main_v34 V0 : S2x9x256x256.Idx → EReal) (ix4 b k h q)) := rfl

/-- The fraction of the column position. -/
theorem v42_at (V0 : Valuation τ sig (Elt Ideal)) (b : Fin 2) (k : Fin 9) (h q : Fin 256) :
    (res_main_v42 V0 : S2x9x256x256.Idx → EReal) (ix4 b k h q) = frac ((res_main_v38 V0 : S2x9x256x256.Idx → EReal) (ix4 b k h q)) := rfl

/-- The constant one. -/
theorem v18_at (V0 : Valuation τ sig (Elt Ideal)) (b : Fin 2) (k : Fin 9) (h q : Fin 256) :
    (res_main_v18 V0 : S2x9x256x256.Idx → EReal) (ix4 b k h q) = (1 : EReal) := by
  unfold res_main_v18
  pointwise []

/-- The constant zero. -/
theorem v64_at (V0 : Valuation τ sig (Elt Ideal)) (j : S2x2x9x256x256.Idx) :
    (res_main_v64 V0 : S2x2x9x256x256.Idx → BitVec 32) j = 0#32 := rfl

/-- The row corners: the row below the position and the next one. -/
theorem v58_at (V0 : Valuation τ sig (Elt Ideal)) (b : Fin 2) (d : Fin 2) (k : Fin 9) (h q : Fin 256) :
    (res_main_v58 V0 : S2x2x9x256x256.Idx → BitVec 32) (ix5 b d k h q)
      = if d.val < 1 then below ((res_main_v34 V0 : S2x9x256x256.Idx → EReal) (ix4 b k h q))
        else below ((res_main_v34 V0 : S2x9x256x256.Idx → EReal) (ix4 b k h q)) + 1#32 := by
  unfold res_main_v58 res_main_v43 res_main_v39
  pointwise []
  split <;> rfl

/-- The column corners: the column below the position and the next one. -/
theorem v63_at (V0 : Valuation τ sig (Elt Ideal)) (b : Fin 2) (d : Fin 2) (k : Fin 9) (h q : Fin 256) :
    (res_main_v63 V0 : S2x2x9x256x256.Idx → BitVec 32) (ix5 b d k h q)
      = if d.val < 1 then below ((res_main_v38 V0 : S2x9x256x256.Idx → EReal) (ix4 b k h q))
        else below ((res_main_v38 V0 : S2x9x256x256.Idx → EReal) (ix4 b k h q)) + 1#32 := by
  unfold res_main_v63 res_main_v44 res_main_v40
  pointwise []
  split <;> rfl

set_option maxHeartbeats 800000 in
/-- The reference's deformable convolution with its normalisation, clamped and padded, at an index. -/
theorem h1_at (V0 : Valuation τ sig (Elt Ideal)) (b : Fin 2) (o : Fin 64) (h q : Fin 260) :
    (res_main_v117 V0 : S2x64x260x260.Idx → EReal) (ix4 b o h q)
      = if (2 ≤ h.val ∧ h.val - 2 < 256) ∧ 2 ≤ q.val ∧ q.val - 2 < 256 then
          norm (∑ c : Fin 64, ∑ k : Fin 9, at4 (V0 (Proc.devRef .tc main_arg3) : S64x64x3x3.Idx → EReal) o c (k.val / 3) (k.val % 3)
            * (sample (at4 (V0 (Proc.devRef .tc main_arg0) : S2x64x256x256.Idx → EReal) b c)
                (at4 (res_main_v34 V0 : S2x9x256x256.Idx → EReal) b k (h - 2) (q - 2)) (at4 (res_main_v38 V0 : S2x9x256x256.Idx → EReal) b k (h - 2) (q - 2))
              * gate (at4 (res_main_v14 V0 : S2x27x256x256.Idx → EReal) b (18 + k) (h - 2) (q - 2))))
            ((V0 (Proc.devRef .tc main_arg4) : S64.Idx → EReal) (ix1 o))
            ((V0 (Proc.devRef .tc main_arg5) : S64.Idx → EReal) (ix1 o)) ((V0 (Proc.devRef .tc main_arg6) : S64.Idx → EReal) (ix1 o))
            ((V0 (Proc.devRef .tc main_arg7) : S64.Idx → EReal) (ix1 o)) ((V0 (Proc.devRef .tc main_arg8) : S64.Idx → EReal) (ix1 o))
        else 0 := by
  unfold res_main_v117
  pointwise []
  split
  · rename_i hin
    obtain ⟨h', hh⟩ : ∃ h' : Fin 256, h'.val = h.val - 2 := ⟨⟨h.val - 2, hin.1.2⟩, rfl⟩
    obtain ⟨q', hq⟩ : ∃ q' : Fin 256, q'.val = q.val - 2 := ⟨⟨q.val - 2, hin.2.2⟩, rfl⟩
    refine congrArg (norm · _ _ _ _ _) (Finset.sum_congr rfl fun c _ => Finset.sum_congr rfl fun k _ =>
      congrArg₂ (· * ·) (ix4_at _ _ _ _ _ rfl rfl rfl rfl) (congrArg₂ (· * ·) ?_ ?_))
    · simp only [← hh, ← hq, Fin.eta]
      rw [sum_corners, Fintype.sum_prod_type, ← ix4_at (res_main_v34 V0 : S2x9x256x256.Idx → EReal) b k h' q' rfl rfl rfl rfl,
        ← ix4_at (res_main_v38 V0 : S2x9x256x256.Idx → EReal) b k h' q' rfl rfl rfl rfl]
      simp only [Fin.sum_univ_two]
      refine (zero_add _).trans (congrArg₂ (· + ·) (congrArg₂ (· + ·) ?_ ?_) (congrArg₂ (· + ·) ?_ ?_))
      · refine (share_at (V0 (Proc.devRef .tc main_arg0) : S2x64x256x256.Idx → EReal) (res_main_v58 V0) (res_main_v63 V0) (res_main_v64 V0) _ _ _ _
          b c 0 0 k h' q' (v64_at V0)).trans ?_
        rw [v58_at, v63_at]
        pointwise [v18_at, v41_at, v42_at]
      · refine (share_at (V0 (Proc.devRef .tc main_arg0) : S2x64x256x256.Idx → EReal) (res_main_v58 V0) (res_main_v63 V0) (res_main_v64 V0) _ _ _ _
          b c 0 1 k h' q' (v64_at V0)).trans ?_
        rw [v58_at, v63_at]
        pointwise [v18_at, v41_at, v42_at]
      · refine (share_at (V0 (Proc.devRef .tc main_arg0) : S2x64x256x256.Idx → EReal) (res_main_v58 V0) (res_main_v63 V0) (res_main_v64 V0) _ _ _ _
          b c 1 0 k h' q' (v64_at V0)).trans ?_
        rw [v58_at, v63_at]
        pointwise [v18_at, v41_at, v42_at]
      · refine (share_at (V0 (Proc.devRef .tc main_arg0) : S2x64x256x256.Idx → EReal) (res_main_v58 V0) (res_main_v63 V0) (res_main_v64 V0) _ _ _ _
          b c 1 1 k h' q' (v64_at V0)).trans ?_
        rw [v58_at, v63_at]
        pointwise [v18_at, v41_at, v42_at]
    · pointwise [res_main_v18]
      rw [ix4_at (res_main_v14 V0 : S2x27x256x256.Idx → EReal) _ _ _ _ rfl rfl rfl rfl]
      rfl
  · rfl

/-- The row positions that the reference samples at. -/
theorem v34_at (V0 : Valuation τ sig (Elt Ideal)) (b : Fin 2) (k : Fin 9) (h q : Fin 256) :
    (res_main_v34 V0 : S2x9x256x256.Idx → EReal) (ix4 b k h q)
      = pos h (k / 3) (at4 (res_main_v14 V0 : S2x27x256x256.Idx → EReal) b k h q) := by
  unfold res_main_v34
  pointwise []
  rw [ix4_at (res_main_v14 V0 : S2x27x256x256.Idx → EReal) _ _ _ _ rfl rfl rfl rfl]
  rfl

/-- The column positions that the reference samples at. -/
theorem v38_at (V0 : Valuation τ sig (Elt Ideal)) (b : Fin 2) (k : Fin 9) (h q : Fin 256) :
    (res_main_v38 V0 : S2x9x256x256.Idx → EReal) (ix4 b k h q)
      = pos q (k % 3) (at4 (res_main_v14 V0 : S2x27x256x256.Idx → EReal) b (9 + k) h q) := by
  unfold res_main_v38
  pointwise []
  rw [ix4_at (res_main_v14 V0 : S2x27x256x256.Idx → EReal) _ _ _ _ rfl rfl rfl rfl]
  rfl

/-- The input padded by one. -/
theorem v0_at (V0 : Valuation τ sig (Elt Ideal)) (b : Fin 2) (c : Fin 64) (h q : Fin 258) :
    (res_main_v0 V0 : S2x64x258x258.Idx → EReal) (ix4 b c h q)
      = if (1 ≤ h.val ∧ h.val - 1 < 256) ∧ 1 ≤ q.val ∧ q.val - 1 < 256 then
          at4 (V0 (Proc.devRef .tc main_arg0) : S2x64x256x256.Idx → EReal) b c (h - 1) (q - 1) else 0 := by
  unfold res_main_v0
  clean_types
  pointwise []
  split
  · exact ix4_at _ _ _ _ _ rfl rfl rfl rfl
  · rfl

end Cert.ReferenceIdeal.Conv

end
-- ==== Proof.RefLayers.lean ====
/- The reference's layers, stated of plain arrays. -/
module

public import proofs.«01_k».proof.Proof.RefDcn
public import proofs.«01_k».proof.Proof.Norms

@[expose] public section

set_option maxRecDepth 16384

noncomputable section

namespace Cert.Spec

open Idealize.ShloMosaic

/-- What the reference computes, layer by layer: its intermediate arrays with each layer's equation. -/
structure Layers (x0 : (⟨4, ![2, 64, 256, 256]⟩ : Shape).Idx → EReal) (x1 : (⟨4, ![27, 64, 3, 3]⟩ : Shape).Idx → EReal) (x2 : (⟨1, ![27]⟩ : Shape).Idx →
    EReal) (x3 : (⟨4, ![64, 64, 3, 3]⟩ : Shape).Idx → EReal) (x4 : (⟨1, ![64]⟩ : Shape).Idx → EReal) (x5 : (⟨1, ![64]⟩ : Shape).Idx → EReal)
    (x6 : (⟨1, ![64]⟩ : Shape).Idx → EReal) (x7 : (⟨1, ![64]⟩ : Shape).Idx → EReal) (x8 : (⟨1, ![64]⟩ : Shape).Idx → EReal) (x9 : (⟨4, ![64,
    64, 3, 3]⟩ : Shape).Idx → EReal) (x10 : (⟨1, ![64]⟩ : Shape).Idx → EReal) (x11 : (⟨1, ![64]⟩ : Shape).Idx → EReal) (x12 : (⟨1, ![64]⟩ :
    Shape).Idx → EReal) (x13 : (⟨1, ![64]⟩ : Shape).Idx → EReal) (x14 : (⟨1, ![64]⟩ : Shape).Idx → EReal) (x15 : (⟨4, ![64, 64, 3, 3]⟩ :
    Shape).Idx → EReal) (x16 : (⟨1, ![64]⟩ : Shape).Idx → EReal) (x17 : (⟨1, ![64]⟩ : Shape).Idx → EReal) (x18 : (⟨1, ![64]⟩ : Shape).Idx →
    EReal) (x19 : (⟨1, ![64]⟩ : Shape).Idx → EReal) (x20 : (⟨1, ![64]⟩ : Shape).Idx → EReal) (x21 : (⟨4, ![1, 64, 3, 3]⟩ : Shape).Idx →
    EReal) (x22 : (⟨1, ![1]⟩ : Shape).Idx → EReal)
    (y : (⟨4, ![2, 1, 256, 256]⟩ : Shape).Idx → EReal) where
  /-- The padded input. -/
  P0 : (⟨4, ![2, 64, 258, 258]⟩ : Shape).Idx → EReal
  /-- The offsets and mask. -/
  O : (⟨4, ![2, 27, 256, 256]⟩ : Shape).Idx → EReal
  /-- The rows sampled at. -/
  Y : (⟨4, ![2, 9, 256, 256]⟩ : Shape).Idx → EReal
  /-- The columns sampled at. -/
  X : (⟨4, ![2, 9, 256, 256]⟩ : Shape).Idx → EReal
  /-- The sampled convolution, padded. -/
  P1 : (⟨4, ![2, 64, 260, 260]⟩ : Shape).Idx → EReal
  /-- The first dilated convolution, padded. -/
  P2 : (⟨4, ![2, 64, 260, 260]⟩ : Shape).Idx → EReal
  /-- The second dilated convolution, padded. -/
  P3 : (⟨4, ![2, 64, 258, 258]⟩ : Shape).Idx → EReal
  pad : ∀ (b : Fin 2) (k : Fin 64) (h q : Fin 258), P0 (ix4 b k h q)
    = if (1 ≤ h.val ∧ h.val - 1 < 256) ∧ 1 ≤ q.val ∧ q.val - 1 < 256 then at4 x0 b k (h.val - 1) (q.val - 1) else 0
  om : ∀ (b : Fin 2) (o : Fin 27) (h q : Fin 256), O (ix4 b o h q) = win 1 x1 P0 b o h q + x2 (ix1 o)
  rows : ∀ (b : Fin 2) (k : Fin 9) (h q : Fin 256), Y (ix4 b k h q) = pos h (k / 3) (at4 O b k h q)
  cols : ∀ (b : Fin 2) (k : Fin 9) (h q : Fin 256), X (ix4 b k h q) = pos q (k % 3) (at4 O b (9 + k) h q)
  dcn : ∀ (b : Fin 2) (o : Fin 64) (h q : Fin 260), P1 (ix4 b o h q)
    = if (2 ≤ h.val ∧ h.val - 2 < 256) ∧ 2 ≤ q.val ∧ q.val - 2 < 256 then
        normAt (∑ c : Fin 64, ∑ k : Fin 9, at4 x3 o c (k.val / 3) (k.val % 3)
          * (sample (at4 x0 b c) (at4 Y b k (h - 2) (q - 2)) (at4 X b k (h - 2) (q - 2)) * gate (at4 O b (18 + k) (h - 2) (q - 2))))
          x4 x5 x6 x7 x8 o
      else 0
  one : ∀ (b : Fin 2) (o : Fin 64) (h q : Fin 260), P2 (ix4 b o h q)
    = if (2 ≤ h.val ∧ h.val - 2 < 256) ∧ 2 ≤ q.val ∧ q.val - 2 < 256 then normAt (win 2 x9 P1 b o (h - 2) (q - 2)) x10 x11 x12 x13 x14 o else 0
  two : ∀ (b : Fin 2) (o : Fin 64) (h q : Fin 258), P3 (ix4 b o h q)
    = if (1 ≤ h.val ∧ h.val - 1 < 256) ∧ 1 ≤ q.val ∧ q.val - 1 < 256 then normAt (win 2 x15 P2 b o (h - 1) (q - 1)) x16 x17 x18 x19 x20 o else 0
  out : ∀ (b : Fin 2) (h q : Fin 256), y (ix4 b 0 h q) = squash (win 1 x21 P3 b 0 h q + x22 (ix1 0))

end Cert.Spec

namespace Cert.ReferenceIdeal.Conv

open Idealize.ShloMosaic Idealize.ShloMosaic.TcCoe Cert.ReferenceIdeal Cert.ReferenceIdeal.Gen Cert.ReferenceIdeal.Value Cert.Spec

/-- The reference program's arrays are the layers. -/
def layers (V0 : Valuation τ sig (Elt Ideal)) : Layers (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7)) (V0
    (Proc.devRef .tc main_arg8)) (V0 (Proc.devRef .tc main_arg9)) (V0 (Proc.devRef .tc main_arg10)) (V0 (Proc.devRef .tc main_arg11)) (V0
    (Proc.devRef .tc main_arg12)) (V0 (Proc.devRef .tc main_arg13)) (V0 (Proc.devRef .tc main_arg14)) (V0 (Proc.devRef .tc main_arg15)) (V0
    (Proc.devRef .tc main_arg16)) (V0 (Proc.devRef .tc main_arg17)) (V0 (Proc.devRef .tc main_arg18)) (V0 (Proc.devRef .tc main_arg19)) (V0
    (Proc.devRef .tc main_arg20)) (V0 (Proc.devRef .tc main_arg21)) (V0 (Proc.devRef .tc main_arg22))
    (val4 V0 (Proc.devRef .tc main_v192)) where
  P0 := res_main_v0 V0
  O := res_main_v14 V0
  Y := res_main_v34 V0
  X := res_main_v38 V0
  P1 := res_main_v117 V0
  P2 := res_main_v144 V0
  P3 := res_main_v171 V0
  pad := v0_at V0
  om := om_at V0
  rows := v34_at V0
  cols := v38_at V0
  dcn := h1_at V0
  one := h2_at V0
  two := h3_at V0
  out := head_at V0

end Cert.ReferenceIdeal.Conv

end
-- ==== Proof.Value.lean ====
/- The kernel's result is the last of the reference's layers over the same arguments. -/
module

public import proofs.«01_k».proof.Proof.KLayers
public import proofs.«01_k».proof.Proof.RefLayers

@[expose] public section

set_option maxRecDepth 16384

noncomputable section

namespace Cert.KernelIdeal.Host

open Idealize.ShloMosaic Idealize.ShloMosaic.TcCoe Cert.KernelIdeal Cert.KernelIdeal.Gen Cert.Spec Cert.KernelIdeal.Conv

variable (m : (ℓ : Loc nD τ sig) → Buf (Elt Ideal) ℓ) (ρ : Dev nD → PrngReg) (c : Dev nD)

/-- The reference's layers over the kernel's arguments. -/
abbrev KLayers (y : S2x1x256x256.Idx → EReal) := Layers (img m c) (a1 m c) (a2 m c) (a3 m c) (a4 m c) (a5 m c) (a6 m c) (a7 m c) (a8 m c) (a9 m c) (a10 m c) (a11 m c) (a12 m c) (a13 m c)
    (a14 m c) (a15 m c) (a16 m c) (a17 m c) (a18 m c) (a19 m c) (a20 m c) (a21 m c) (a22 m c) y

variable {y : S2x1x256x256.Idx → EReal} (R : KLayers m c y)

include R in
/-- The offsets and mask agree. -/
theorem om_ref (b : Fin 2) (p : ℕ) (hp : p < 65536) (o : Fin 27) : om m ρ c b p o = at4 R.O b o (p / 256) (p % 256) :=
  (om_eq m ρ c (fun b r q k => R.pad b k r q) b p o).trans
    ((R.om b o ⟨p / 256, by omega⟩ ⟨p % 256, by omega⟩).symm.trans (ix4_at R.O _ _ _ _ rfl rfl rfl rfl))

/-- The rows sampled at agree. -/
theorem py_ref (b : Fin 2) (p : ℕ) (hp : p < 65536) (k : Fin 9) : py m ρ c b k p = at4 R.Y b k (p / 256) (p % 256) := by
  refine (congrArg (pos _ _) (om_ref m ρ c R b p hp ⟨k.val, by omega⟩)).trans ?_
  exact (R.rows b k ⟨p / 256, by omega⟩ ⟨p % 256, by omega⟩).symm.trans (ix4_at R.Y _ _ _ _ rfl rfl rfl rfl)

/-- The columns sampled at agree. -/
theorem px_ref (b : Fin 2) (p : ℕ) (hp : p < 65536) (k : Fin 9) : px m ρ c b k p = at4 R.X b k (p / 256) (p % 256) := by
  refine (congrArg (pos _ _) (om_ref m ρ c R b p hp ⟨9 + k.val, by omega⟩)).trans ?_
  exact (R.cols b k ⟨p / 256, by omega⟩ ⟨p % 256, by omega⟩).symm.trans (ix4_at R.X _ _ _ _ rfl rfl rfl rfl)

/-- The gates agree. -/
theorem gt_ref (b : Fin 2) (p : ℕ) (hp : p < 65536) (k : Fin 9) : gt m ρ c b k p = gate (at4 R.O b (18 + k) (p / 256) (p % 256)) :=
  congrArg gate (om_ref m ρ c R b p hp ⟨18 + k.val, by omega⟩)

/-- The kernel's sampled convolution, at natural numbers. -/
def sampled (b p o : ℕ) : EReal := at3 (W28 m ρ c (Proc.devRef .tc main_v197) : S2x65536x64.Idx → EReal) b p o

/-- The sampled convolution's array, at an index. -/
theorem sampled_at (b : Fin 2) (p : Fin 65536) (o : Fin 64) :
    (W28 m ρ c (Proc.devRef .tc main_v197) : S2x65536x64.Idx → EReal) (ix3 b p o) = sampled m ρ c b p o :=
  ix3_at _ _ _ _ rfl rfl rfl

variable (h1 : Ok (a4 m c) (a5 m c) (a7 m c) (a8 m c)) (h2 : Ok (a10 m c) (a11 m c) (a13 m c) (a14 m c))
  (h3 : Ok (a16 m c) (a17 m c) (a19 m c) (a20 m c))

include R h1 in
/-- The reference's padded sampled convolution holds the kernel's. -/
theorem dcn_ref (b : Fin 2) (r q : Fin 260) (k : Fin 64) : R.P1 (ix4 b k r q)
    = if (2 ≤ r.val ∧ r.val - 2 < 256) ∧ 2 ≤ q.val ∧ q.val - 2 < 256 then sampled m ρ c b ((r.val - 2) * 256 + (q.val - 2)) k else 0 := by
  rw [R.dcn]
  split
  · rename_i h
    have hp : (r.val - 2) * 256 + (q.val - 2) < 65536 := by omega
    have hd : ((r.val - 2) * 256 + (q.val - 2)) / 256 = r.val - 2 := by omega
    have hm : ((r.val - 2) * 256 + (q.val - 2)) % 256 = q.val - 2 := by omega
    refine Eq.trans ?_ ((dcn_eq m ρ c h1 b ⟨_, hp⟩ k).symm.trans (sampled_at m ρ c b ⟨_, hp⟩ k))
    refine congrArg (fun z => normAt z _ _ _ _ _ _) (Finset.sum_congr rfl fun l _ => Finset.sum_congr rfl fun j _ => ?_)
    rw [py_ref m ρ c R b _ hp j, px_ref m ρ c R b _ hp j, gt_ref m ρ c R b _ hp j, hd, hm]
  · rfl

include R h1 h2 in
/-- The reference's first dilated convolution, padded, holds the kernel's. -/
theorem one_ref (b : Fin 2) (r q : Fin 260) (k : Fin 64) : R.P2 (ix4 b k r q)
    = if (2 ≤ r.val ∧ r.val - 2 < 256) ∧ 2 ≤ q.val ∧ q.val - 2 < 256 then one m ρ c b ((r.val - 2) * 256 + (q.val - 2)) k else 0 := by
  rw [R.one]
  split
  · rename_i h
    have hd : ((r.val - 2) * 256 + (q.val - 2)) / 256 = r.val - 2 := by omega
    have hm : ((r.val - 2) * 256 + (q.val - 2)) % 256 = q.val - 2 := by omega
    rw [one_eq m ρ c (sampled_at m ρ c) (dcn_ref m ρ c R h1) h2, hd, hm]
  · rfl

include R h1 h2 h3 in
/-- The reference's second dilated convolution, padded, holds the kernel's. -/
theorem two_ref (b : Fin 2) (r q : Fin 258) (k : Fin 64) : R.P3 (ix4 b k r q)
    = if (1 ≤ r.val ∧ r.val - 1 < 256) ∧ 1 ≤ q.val ∧ q.val - 1 < 256 then two m ρ c b ((r.val - 1) * 256 + (q.val - 1)) k else 0 := by
  rw [R.two]
  split
  · rename_i h
    have hd : ((r.val - 1) * 256 + (q.val - 1)) / 256 = r.val - 1 := by omega
    have hm : ((r.val - 1) * 256 + (q.val - 1)) % 256 = q.val - 1 := by omega
    rw [two_eq m ρ c (one_ref m ρ c R h1 h2) h3, hd, hm]
  · rfl

include R h1 h2 h3 in
/-- The kernel's result is the reference's. -/
theorem out_ref : (W59 m ρ c (Proc.devRef .tc main_v258) : S2x1x256x256.Idx → EReal) = y := by
  funext i
  idx_vars i
  obtain rfl : i1 = 0 := Subsingleton.elim _ _
  have hd : (i2.val * 256 + i3.val) / 256 = i2.val := by omega
  have hm : (i2.val * 256 + i3.val) % 256 = i3.val := by omega
  rw [R.out]
  refine (out_at m ρ c i0 i2 i3).trans ?_
  rw [head_eq m ρ c (two_ref m ρ c R h1 h2 h3), hd, hm]

end Cert.KernelIdeal.Host

end
-- ==== Proof.Pre.lean ====
/- What the precondition says of the biases, gains, means and variances. -/
module

public import proofs.«01_k».proof.Pre_norms_finite
public import proofs.«01_k».proof.Proof.Norms

@[expose] public section

set_option maxRecDepth 16384

noncomputable section

namespace Cert.Pre_norms_finite

open Idealize.ShloMosaic Cert.Spec

/-- The precondition's shape fact. -/
theorem facts : Facts := ⟨by decide⟩

/-- The word of infinity is the largest number. -/
theorem inf_word : Ideal.ofBits .f32 0x7F800000#32 = ⊤ := by simp [Ideal.ofBits, Ideal.ieee]

/-- The word of zero is zero. -/
theorem nil_word : Ideal.ofBits .f32 0x00000000#32 = 0 := by simp [Ideal.ofBits, Ideal.ieee]

/-- Whether a number is finite. -/
def small (x : EReal) : BitVec 1 := Ideal.cmp .olt (max x (-x)) (Ideal.ofBits .f32 0x7F800000#32)

/-- Whether a number is not negative. -/
def notNeg (x : EReal) : BitVec 1 := Ideal.cmp .oge x (Ideal.ofBits .f32 0x00000000#32)

/-- A number checked finite is real. -/
theorem small_real {x : EReal} (h : small x = 1#1) : ∃ r : ℝ, x = r := by
  unfold small Ideal.cmp at h
  rw [inf_word] at h
  induction x with
  | bot => simp at h
  | top => simp at h
  | coe r => exact ⟨r, rfl⟩

/-- A number checked not negative is at least zero. -/
theorem notNeg_le {x : EReal} (h : notNeg x = 1#1) : 0 ≤ x := by
  unfold notNeg Ideal.cmp at h
  rw [nil_word] at h
  by_contra hx
  simp [hx] at h

/-- A conjunction of bits that is set has both set. -/
theorem both {a b : BitVec 1} (h : IntOp.andi a b = 1#1) : a = 1#1 ∧ b = 1#1 := by
  revert a b; decide

/-- What is asked of one normalization's channel. -/
def fine (b g mu va : EReal) : BitVec 1 :=
  IntOp.andi (IntOp.andi (IntOp.andi (small b) (small g)) (small mu)) (notNeg va)

/-- Channels that pass the check give what the fold needs. -/
theorem fine_ok {b g mu va : (⟨1, ![64]⟩ : Shape).Idx → EReal}
    (h : ∀ o : Fin 64, fine (b (ix1 o)) (g (ix1 o)) (mu (ix1 o)) (va (ix1 o)) = 1#1) : Ok b g mu va := fun o =>
  have h' := both (h o)
  have h2 := both h'.1
  have h3 := both h2.1
  ⟨small_real h3.1, small_real h3.2, small_real h2.2, notNeg_le h'.2⟩

/-- The precondition at a channel: the three normalizations' conditions together. -/
theorem fn_at [Facts] (x0 : (⟨4, ![2, 64, 256, 256]⟩ : Shape).Idx → EReal) (x1 : (⟨4, ![27, 64, 3, 3]⟩ : Shape).Idx → EReal) (x2 : (⟨1, ![27]⟩ : Shape).Idx → EReal) (x3 : (⟨4, ![64, 64, 3, 3]⟩ : Shape).Idx → EReal) (x4 x5 x6 x7 x8 : (⟨1, ![64]⟩ : Shape).Idx → EReal) (x9 : (⟨4, ![64, 64, 3, 3]⟩ : Shape).Idx → EReal) (x10 x11 x12 x13 x14 : (⟨1, ![64]⟩ : Shape).Idx → EReal) (x15 : (⟨4, ![64, 64, 3, 3]⟩ : Shape).Idx → EReal) (x16 x17 x18 x19 x20 : (⟨1, ![64]⟩ : Shape).Idx → EReal) (x21 : (⟨4, ![1, 64, 3, 3]⟩ : Shape).Idx → EReal) (x22 : (⟨1, ![1]⟩ : Shape).Idx → EReal) (o : Fin 64) :
    fn (F := Ideal) x0 x1 x2 x3 x4 x5 x6 x7 x8 x9 x10 x11 x12 x13 x14 x15 x16 x17 x18 x19 x20 x21 x22 (ix1 o)
      = IntOp.andi (IntOp.andi (fine (x4 (ix1 o)) (x5 (ix1 o)) (x7 (ix1 o)) (x8 (ix1 o)))
          (fine (x10 (ix1 o)) (x11 (ix1 o)) (x13 (ix1 o)) (x14 (ix1 o)))) (fine (x16 (ix1 o)) (x17 (ix1 o)) (x19 (ix1 o)) (x20 (ix1 o))) := by
  rfl

/-- The precondition gives what each normalization's fold needs. -/
theorem norms_ok [Facts] (x0 : (⟨4, ![2, 64, 256, 256]⟩ : Shape).Idx → EReal) (x1 : (⟨4, ![27, 64, 3, 3]⟩ : Shape).Idx → EReal) (x2 : (⟨1, ![27]⟩ : Shape).Idx → EReal) (x3 : (⟨4, ![64, 64, 3, 3]⟩ : Shape).Idx → EReal) (x4 x5 x6 x7 x8 : (⟨1, ![64]⟩ : Shape).Idx → EReal) (x9 : (⟨4, ![64, 64, 3, 3]⟩ : Shape).Idx → EReal) (x10 x11 x12 x13 x14 : (⟨1, ![64]⟩ : Shape).Idx → EReal) (x15 : (⟨4, ![64, 64, 3, 3]⟩ : Shape).Idx → EReal) (x16 x17 x18 x19 x20 : (⟨1, ![64]⟩ : Shape).Idx → EReal) (x21 : (⟨4, ![1, 64, 3, 3]⟩ : Shape).Idx → EReal) (x22 : (⟨1, ![1]⟩ : Shape).Idx → EReal)
    (h : fn (F := Ideal) x0 x1 x2 x3 x4 x5 x6 x7 x8 x9 x10 x11 x12 x13 x14 x15 x16 x17 x18 x19 x20 x21 x22 = fun _ => 1#1) :
    Ok x4 x5 x7 x8 ∧ Ok x10 x11 x13 x14 ∧ Ok x16 x17 x19 x20 := by
  have e := fun o : Fin 64 => both ((fn_at x0 x1 x2 x3 x4 x5 x6 x7 x8 x9 x10 x11 x12 x13 x14 x15 x16 x17 x18 x19 x20 x21 x22 o).symm.trans (congrFun h (ix1 o)))
  have e' := fun o : Fin 64 => both (e o).1
  exact ⟨fine_ok fun o => (e' o).1, fine_ok fun o => (e' o).2, fine_ok fun o => (e o).2⟩

end Cert.Pre_norms_finite

end
-- ==== Proof.KRun.lean ====
/- The kernel's run: its result is what the fold over its segments leaves, its arguments are kept. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer of the TensorCore ends at the contents the last segment leaves; the launch is set up as the frame's is. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W59 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W59 m ρ c b)
    (hfin := fun c s' => by
      iintro ⟨⟨Hh, -⟩, HSI⟩
      unfold StableHlo.held
      imodintro
      iapply (pointsTo_read_all (Pipeline.ucRefs τ sig) (fun b => (((c : Thread nD τ)).1, b)) (W59 m ρ c) s')
      isplitl [Hh] <;> iassumption)
    (hQ := fun s h hz => h)

end Cert.KernelIdeal.Gen

end
-- ==== Proof.Algebraic.lean ====
/- The kernel and the reference end with equal results. -/
module

public import proofs.«01_k».proof.Defs
public import proofs.«01_k».proof.Proof.Value
public import proofs.«01_k».proof.Proof.Pre
public import proofs.«01_k».proof.Proof.KRun

@[expose] public section

set_option maxRecDepth 16384

noncomputable section

namespace Cert.Spec

open Idealize.ShloMosaic

/-- The layers over equal arguments. -/
def Layers.over {x0 : (⟨4, ![2, 64, 256, 256]⟩ : Shape).Idx → EReal} {x1 : (⟨4, ![27, 64, 3, 3]⟩ : Shape).Idx → EReal} {x2 : (⟨1, ![27]⟩ : Shape).Idx →
    EReal} {x3 : (⟨4, ![64, 64, 3, 3]⟩ : Shape).Idx → EReal} {x4 x5 x6 x7 x8 : (⟨1, ![64]⟩ : Shape).Idx → EReal} {x9 : (⟨4, ![64, 64, 3, 3]⟩
    : Shape).Idx → EReal} {x10 x11 x12 x13 x14 : (⟨1, ![64]⟩ : Shape).Idx → EReal} {x15 : (⟨4, ![64, 64, 3, 3]⟩ : Shape).Idx → EReal} {x16
    x17 x18 x19 x20 : (⟨1, ![64]⟩ : Shape).Idx → EReal} {x21 : (⟨4, ![1, 64, 3, 3]⟩ : Shape).Idx → EReal} {x22 : (⟨1, ![1]⟩ : Shape).Idx →
    EReal}
    {z0 : (⟨4, ![2, 64, 256, 256]⟩ : Shape).Idx → EReal} {z1 : (⟨4, ![27, 64, 3, 3]⟩ : Shape).Idx → EReal} {z2 : (⟨1, ![27]⟩ : Shape).Idx →
    EReal} {z3 : (⟨4, ![64, 64, 3, 3]⟩ : Shape).Idx → EReal} {z4 z5 z6 z7 z8 : (⟨1, ![64]⟩ : Shape).Idx → EReal} {z9 : (⟨4, ![64, 64, 3, 3]⟩
    : Shape).Idx → EReal} {z10 z11 z12 z13 z14 : (⟨1, ![64]⟩ : Shape).Idx → EReal} {z15 : (⟨4, ![64, 64, 3, 3]⟩ : Shape).Idx → EReal} {z16
    z17 z18 z19 z20 : (⟨1, ![64]⟩ : Shape).Idx → EReal} {z21 : (⟨4, ![1, 64, 3, 3]⟩ : Shape).Idx → EReal} {z22 : (⟨1, ![1]⟩ : Shape).Idx →
    EReal}
    {y : (⟨4, ![2, 1, 256, 256]⟩ : Shape).Idx → EReal}
    (h : x0 = z0 ∧ x1 = z1 ∧ x2 = z2 ∧ x3 = z3 ∧ x4 = z4 ∧ x5 = z5 ∧ x6 = z6 ∧ x7 = z7 ∧ x8 = z8 ∧ x9 = z9 ∧ x10 = z10 ∧ x11 = z11 ∧ x12 = z12 ∧ x13
    = z13 ∧ x14 = z14 ∧ x15 = z15 ∧ x16 = z16 ∧ x17 = z17 ∧ x18 = z18 ∧ x19 = z19 ∧ x20 = z20 ∧ x21 = z21 ∧ x22 = z22)
    (R : Layers x0 x1 x2 x3 x4 x5 x6 x7 x8 x9 x10 x11 x12 x13 x14 x15 x16 x17 x18 x19 x20 x21 x22 y) : Layers z0 z1 z2 z3 z4 z5 z6 z7 z8 z9 z10 z11 z12 z13 z14 z15 z16 z17 z18 z19 z20 z21 z22 y := by
  obtain ⟨rfl, rfl, rfl, rfl, rfl, rfl, rfl, rfl, rfl, rfl, rfl, rfl, rfl, rfl, rfl, rfl, rfl, rfl, rfl, rfl, rfl, rfl, rfl⟩ := h
  exact R

end Cert.Spec

namespace Cert.ReferenceIdeal.Conv

open Idealize.ShloMosaic Idealize.ShloMosaic.TcCoe Idealize.SL.Sem Cert.ReferenceIdeal Cert.ReferenceIdeal.Gen Cert.ReferenceIdeal.Value

/-- The reference's result from a memory. -/
abbrev result (m : (ℓ : Loc nD τ sig) → Buf (Elt Ideal) ℓ) (c : Dev nD) : S2x1x256x256.Idx → EReal :=
  val4 (StableHlo.launchContents m c) (Proc.devRef .tc main_v192)

/-- The reference's run with its result named. -/
theorem run_result (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v192) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)) :=
  (θ_run defs _ _).mono (fun _ h c => ⟨(h c).1.trans (val4_main_v192 (StableHlo.launchContents m c)).symm, (h c).2⟩) (Value.run m ρ)

end Cert.ReferenceIdeal.Conv

namespace Cert.KernelIdeal.Host

open Idealize.ShloMosaic Idealize.ShloMosaic.TcCoe Idealize.SL.Sem Cert.KernelIdeal Cert.KernelIdeal.Gen

/-- The kernel's result from a memory. -/
abbrev result (m : (ℓ : Loc nD τ sig) → Buf (Elt Ideal) ℓ) (ρ : Dev nD → PrngReg) (c : Dev nD) : S2x1x256x256.Idx → EReal :=
  W59 m ρ c (Proc.devRef .tc main_v258)

/-- The kernel's run with its result named. -/
theorem run_result (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v258) = result m ρ c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)) :=
  (θ_run defs _ _).mono (fun _ h c => ⟨h c _ (mem_uc main_v258 (by decide)),
    (h c _ (mem_uc main_arg0 (by decide))).trans (W59_main_arg0 m ρ c),
    (h c _ (mem_uc main_arg1 (by decide))).trans (W59_main_arg1 m ρ c),
    (h c _ (mem_uc main_arg2 (by decide))).trans (W59_main_arg2 m ρ c),
    (h c _ (mem_uc main_arg3 (by decide))).trans (W59_main_arg3 m ρ c),
    (h c _ (mem_uc main_arg4 (by decide))).trans (W59_main_arg4 m ρ c),
    (h c _ (mem_uc main_arg5 (by decide))).trans (W59_main_arg5 m ρ c),
    (h c _ (mem_uc main_arg6 (by decide))).trans (W59_main_arg6 m ρ c),
    (h c _ (mem_uc main_arg7 (by decide))).trans (W59_main_arg7 m ρ c),
    (h c _ (mem_uc main_arg8 (by decide))).trans (W59_main_arg8 m ρ c),
    (h c _ (mem_uc main_arg9 (by decide))).trans (W59_main_arg9 m ρ c),
    (h c _ (mem_uc main_arg10 (by decide))).trans (W59_main_arg10 m ρ c),
    (h c _ (mem_uc main_arg11 (by decide))).trans (W59_main_arg11 m ρ c),
    (h c _ (mem_uc main_arg12 (by decide))).trans (W59_main_arg12 m ρ c),
    (h c _ (mem_uc main_arg13 (by decide))).trans (W59_main_arg13 m ρ c),
    (h c _ (mem_uc main_arg14 (by decide))).trans (W59_main_arg14 m ρ c),
    (h c _ (mem_uc main_arg15 (by decide))).trans (W59_main_arg15 m ρ c),
    (h c _ (mem_uc main_arg16 (by decide))).trans (W59_main_arg16 m ρ c),
    (h c _ (mem_uc main_arg17 (by decide))).trans (W59_main_arg17 m ρ c),
    (h c _ (mem_uc main_arg18 (by decide))).trans (W59_main_arg18 m ρ c),
    (h c _ (mem_uc main_arg19 (by decide))).trans (W59_main_arg19 m ρ c),
    (h c _ (mem_uc main_arg20 (by decide))).trans (W59_main_arg20 m ρ c),
    (h c _ (mem_uc main_arg21 (by decide))).trans (W59_main_arg21 m ρ c),
    (h c _ (mem_uc main_arg22 (by decide))).trans (W59_main_arg22 m ρ c)⟩) (run_last m ρ)

end Cert.KernelIdeal.Host

namespace Cert.Proof

open Idealize.ShloMosaic Idealize.ShloMosaic.TcCoe Idealize.SL.Sem Cert.Spec

/-- On every device the two results are one array, where the arguments are equal and the precondition holds. -/
theorem results_eq (m : (ℓ : Loc Cert.KernelIdeal.nD Cert.KernelIdeal.τ Cert.KernelIdeal.sig) → Buf (Elt Ideal) ℓ)
    (g : Dev Cert.KernelIdeal.nD → PrngReg) (c : Dev Cert.KernelIdeal.nD)
    {x0 : (⟨4, ![2, 64, 256, 256]⟩ : Shape).Idx → EReal} {x1 : (⟨4, ![27, 64, 3, 3]⟩ : Shape).Idx → EReal} {x2 : (⟨1, ![27]⟩ : Shape).Idx →
    EReal} {x3 : (⟨4, ![64, 64, 3, 3]⟩ : Shape).Idx → EReal} {x4 x5 x6 x7 x8 : (⟨1, ![64]⟩ : Shape).Idx → EReal} {x9 : (⟨4, ![64, 64, 3, 3]⟩
    : Shape).Idx → EReal} {x10 x11 x12 x13 x14 : (⟨1, ![64]⟩ : Shape).Idx → EReal} {x15 : (⟨4, ![64, 64, 3, 3]⟩ : Shape).Idx → EReal} {x16
    x17 x18 x19 x20 : (⟨1, ![64]⟩ : Shape).Idx → EReal} {x21 : (⟨4, ![1, 64, 3, 3]⟩ : Shape).Idx → EReal} {x22 : (⟨1, ![1]⟩ : Shape).Idx →
    EReal}
    {y : (⟨4, ![2, 1, 256, 256]⟩ : Shape).Idx → EReal} (R : Layers x0 x1 x2 x3 x4 x5 x6 x7 x8 x9 x10 x11 x12 x13 x14 x15 x16 x17 x18 x19 x20 x21 x22 y)
    (h : x0 = Cert.KernelIdeal.Host.img m c ∧ x1 = Cert.KernelIdeal.Host.a1 m c ∧ x2 = Cert.KernelIdeal.Host.a2 m c ∧ x3 = Cert.KernelIdeal.Host.a3 m
    c ∧ x4 = Cert.KernelIdeal.Host.a4 m c ∧ x5 = Cert.KernelIdeal.Host.a5 m c ∧ x6 = Cert.KernelIdeal.Host.a6 m c ∧ x7 =
    Cert.KernelIdeal.Host.a7 m c ∧ x8 = Cert.KernelIdeal.Host.a8 m c ∧ x9 = Cert.KernelIdeal.Host.a9 m c ∧ x10 = Cert.KernelIdeal.Host.a10 m
    c ∧ x11 = Cert.KernelIdeal.Host.a11 m c ∧ x12 = Cert.KernelIdeal.Host.a12 m c ∧ x13 = Cert.KernelIdeal.Host.a13 m c ∧ x14 =
    Cert.KernelIdeal.Host.a14 m c ∧ x15 = Cert.KernelIdeal.Host.a15 m c ∧ x16 = Cert.KernelIdeal.Host.a16 m c ∧ x17 =
    Cert.KernelIdeal.Host.a17 m c ∧ x18 = Cert.KernelIdeal.Host.a18 m c ∧ x19 = Cert.KernelIdeal.Host.a19 m c ∧ x20 =
    Cert.KernelIdeal.Host.a20 m c ∧ x21 = Cert.KernelIdeal.Host.a21 m c ∧ x22 = Cert.KernelIdeal.Host.a22 m c)
    (hp : Ok (Cert.KernelIdeal.Host.a4 m c) (Cert.KernelIdeal.Host.a5 m c) (Cert.KernelIdeal.Host.a7 m c) (Cert.KernelIdeal.Host.a8 m c)
      ∧ Ok (Cert.KernelIdeal.Host.a10 m c) (Cert.KernelIdeal.Host.a11 m c) (Cert.KernelIdeal.Host.a13 m c) (Cert.KernelIdeal.Host.a14 m c)
      ∧ Ok (Cert.KernelIdeal.Host.a16 m c) (Cert.KernelIdeal.Host.a17 m c) (Cert.KernelIdeal.Host.a19 m c) (Cert.KernelIdeal.Host.a20 m c)) :
    y = Cert.KernelIdeal.Host.result m g c :=
  (Cert.KernelIdeal.Host.out_ref m g c (R.over h) hp.1 hp.2.1 hp.2.2).symm

/-- The value claim. -/
theorem algebraic : Cert.algebraic_KernelIdeal_ReferenceIdeal_pre_norms_finite (hKernelIdeal := Cert.KernelIdeal.Gen.facts)
    (hReferenceIdeal := Cert.ReferenceIdeal.Gen.facts) (hPre_norms_finite := Cert.Pre_norms_finite.facts) := by
  intro m g m' g' hp h
  refine ⟨fun c => Cert.KernelIdeal.Host.result m g c, Cert.KernelIdeal.Host.run_result m g, ?_⟩
  refine (θ_run Cert.ReferenceIdeal.defs _ _).mono (fun r hr c => ⟨(hr c).1.trans ?_, (hr c).2⟩) (Cert.ReferenceIdeal.Conv.run_result m' g')
  exact results_eq m g c (Cert.ReferenceIdeal.Conv.layers (StableHlo.launchContents m' c)) (h c)
    (@Cert.Pre_norms_finite.norms_ok Cert.Pre_norms_finite.facts _ _ _ _ _ _ _ _ _ _ _ _ _ _ _ _ _ _ _ _ _ _ _ (hp c))

end Cert.Proof

end
-- ==== Proof.lean ====
/- The certificate of `Cert.Claim`: the frames of the three programs, the preservation and the value claim. -/
module

public import proofs.«01_k».proof.Defs
public import proofs.«01_k».proof.Proof.Algebraic
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The reference runs, keeps its arguments and leaves every semaphore at zero. -/
theorem frame_reference : Cert.quiescent_ReferenceIdeal (hReferenceIdeal := Cert.ReferenceIdeal.Gen.facts) := fun m g _ =>
  (θ_run Cert.ReferenceIdeal.defs _ _).mono (fun r h => ⟨fun c => (h c).2,
    sem_eq_zero_of_no_sems (by decide) r.2⟩) (Cert.ReferenceIdeal.Value.run m g)

/-- The certificate: each program runs and keeps its arguments, the idealized kernel is the kernel's own text, and the
    kernel's result is the reference's. -/
theorem claim : Cert.Claim :=
  ⟨Cert.Kernel.Gen.facts, Cert.KernelIdeal.Gen.facts, Cert.ReferenceIdeal.Gen.facts, Cert.Pre_norms_finite.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
